-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![16, 1024, 16, 64]⟩ ⟨4, ![16, 2048, 16, 64]⟩ (Layout.meshBlock [2, 2, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![16, 1024, 16, 64]⟩ ⟨4, ![16, 2048, 16, 64]⟩ (Layout.meshBlock [2, 2, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bitsLt_bf16_f32 : FTy.bits .bf16 < FTy.bits .f32
  bcast_S_S16x1x16x64 : S_.BroadcastsInDim S16x1x16x64 (![] : Fin 0 → Fin S16x1x16x64.rank)
  bcast_S_S16x1024x16x64 : S_.BroadcastsInDim S16x1024x16x64 (![] : Fin 0 → Fin S16x1024x16x64.rank)

variable [Facts]

def fn {F : FTy → Type} [FloatOps F] (main_arg0 : FVec F S16x1x16x64 .bf16) (main_arg1 : FVec F S16x1024x16x64 .bf16) (main_arg2 : FVec F S16x1024x16x64 .bf16) : IVec S16x1x16x64 1 × IVec S16x1024x16x64 1 :=
  let main_v0 : FVec F S16x1x16x64 .f32 := (extf .f32 · bitsLt_bf16_f32) main_arg0
  let main_v1 : FVec F S16x1x16x64 .f32 := Host.absf main_v0
  let main_cst : FVec F S_ .f32 := constant S_ .f32 0x7F800000#32
  let main_v2 : FVec F S16x1x16x64 .f32 := broadcastInDim S16x1x16x64 ![] bcast_S_S16x1x16x64 main_cst
  let main_v3 : IVec S16x1x16x64 1 := cmpf .olt main_v1 main_v2
  let main_v4 : FVec F S16x1024x16x64 .f32 := (extf .f32 · bitsLt_bf16_f32) main_arg1
  let main_v5 : FVec F S16x1024x16x64 .f32 := Host.absf main_v4
  let main_cst_0 : FVec F S_ .f32 := constant S_ .f32 0x7F800000#32
  let main_v6 : FVec F S16x1024x16x64 .f32 := broadcastInDim S16x1024x16x64 ![] bcast_S_S16x1024x16x64 main_cst_0
  let main_v7 : IVec S16x1024x16x64 1 := cmpf .olt main_v5 main_v6
  (main_v3, main_v7)
-- ==== Pre_scores_finite_ReferenceIdeal.lean ====
abbrev S16x1x16x64 : Shape := ⟨4, ![16, 1, 16, 64]⟩
abbrev S16x2048x16x64 : Shape := ⟨4, ![16, 2048, 16, 64]⟩
abbrev S_ : Shape := ⟨0, ![]⟩

class Facts : Prop where
  bitsLt_bf16_f32 : FTy.bits .bf16 < FTy.bits .f32
  bcast_S_S16x1x16x64 : S_.BroadcastsInDim S16x1x16x64 (![] : Fin 0 → Fin S16x1x16x64.rank)
  bcast_S_S16x2048x16x64 : S_.BroadcastsInDim S16x2048x16x64 (![] : Fin 0 → Fin S16x2048x16x64.rank)

variable [Facts]

def fn {F : FTy → Type} [FloatOps F] (main_arg0 : FVec F S16x1x16x64 .bf16) (main_arg1 : FVec F S16x2048x16x64 .bf16) (main_arg2 : FVec F S16x2048x16x64 .bf16) : IVec S16x1x16x64 1 × IVec S16x2048x16x64 1 :=
  let main_v0 : FVec F S16x1x16x64 .f32 := (extf .f32 · bitsLt_bf16_f32) main_arg0
  let main_v1 : FVec F S16x1x16x64 .f32 := Host.absf main_v0
  let main_cst : FVec F S_ .f32 := constant S_ .f32 0x7F800000#32
  let main_v2 : FVec F S16x1x16x64 .f32 := broadcastInDim S16x1x16x64 ![] bcast_S_S16x1x16x64 main_cst
  let main_v3 : IVec S16x1x16x64 1 := cmpf .olt main_v1 main_v2
  let main_v4 : FVec F S16x2048x16x64 .f32 := (extf .f32 · bitsLt_bf16_f32) main_arg1
  let main_v5 : FVec F S16x2048x16x64 .f32 := Host.absf main_v4
  let main_cst_0 : FVec F S_ .f32 := constant S_ .f32 0x7F800000#32
  let main_v6 : FVec F S16x2048x16x64 .f32 := broadcastInDim S16x2048x16x64 ![] bcast_S_S16x2048x16x64 main_cst_0
  let main_v7 : IVec S16x2048x16x64 1 := cmpf .olt main_v5 main_v6
  (main_v3, main_v7)
-- ==== Kernel.lean ====
abbrev S16x1x16x64 : Shape := ⟨4, ![16, 1, 16, 64]⟩
abbrev S16x1024x16x64 : Shape := ⟨4, ![16, 1024, 16, 64]⟩
abbrev S_ : Shape := ⟨0, ![]⟩
abbrev S1 : Shape := ⟨1, ![1]⟩
abbrev S16x16x64x1024 : Shape := ⟨4, ![16, 16, 64, 1024]⟩
abbrev S4x1x16x64 : Shape := ⟨4, ![4, 1, 16, 64]⟩
abbrev S4x2x64x1024 : Shape := ⟨4, ![4, 2, 64, 1024]⟩
abbrev S16x34x64 : Shape := ⟨3, ![16, 34, 64]⟩
abbrev S15 : Shape := ⟨1, ![15]⟩
abbrev S8x8 : Shape := ⟨2, ![8, 8]⟩
abbrev S4x1x2x64 : Shape := ⟨4, ![4, 1, 2, 64]⟩
abbrev S4x2x64 : Shape := ⟨3, ![4, 2, 64]⟩
abbrev S8x64 : Shape := ⟨2, ![8, 64]⟩
abbrev S8x1x64 : Shape := ⟨3, ![8, 1, 64]⟩
abbrev S8x8x1 : Shape := ⟨3, ![8, 8, 1]⟩
abbrev S8x8x64 : Shape := ⟨3, ![8, 8, 64]⟩
abbrev S8x512 : Shape := ⟨2, ![8, 512]⟩
abbrev S512x1024 : Shape := ⟨2, ![512, 1024]⟩
abbrev S8x1024 : Shape := ⟨2, ![8, 1024]⟩
abbrev S8 : Shape := ⟨1, ![8]⟩
abbrev S8x1 : Shape := ⟨2, ![8, 1]⟩
abbrev S1x8x64 : Shape := ⟨3, ![1, 8, 64]⟩
abbrev S1x8 : Shape := ⟨2, ![1, 8]⟩
abbrev S1x1x8 : Shape := ⟨3, ![1, 1, 8]⟩
abbrev S1x34x64 : Shape := ⟨3, ![1, 34, 64]⟩
abbrev S2x8x34x64 : Shape := ⟨4, ![2, 8, 34, 64]⟩
abbrev S2x8x32x64 : Shape := ⟨4, ![2, 8, 32, 64]⟩
abbrev S2x8x16x2x64 : Shape := ⟨5, ![2, 8, 16, 2, 64]⟩
abbrev S2x8x1x64 : Shape := ⟨4, ![2, 8, 1, 64]⟩
abbrev S2x8x64 : Shape := ⟨3, ![2, 8, 64]⟩
abbrev S2x8x32 : Shape := ⟨3, ![2, 8, 32]⟩
abbrev S2x8x16x2 : Shape := ⟨4, ![2, 8, 16, 2]⟩
abbrev S1x8x16x2 : Shape := ⟨4, ![1, 8, 16, 2]⟩
abbrev S8x16x2 : Shape := ⟨3, ![8, 16, 2]⟩
abbrev S8x16x2x1 : Shape := ⟨4, ![8, 16, 2, 1]⟩
abbrev S1x8x16x2x64 : Shape := ⟨5, ![1, 8, 16, 2, 64]⟩
abbrev S8x16x2x64 : Shape := ⟨4, ![8, 16, 2, 64]⟩
abbrev S16x8x2x64 : Shape := ⟨4, ![16, 8, 2, 64]⟩
abbrev S16x16x64 : Shape := ⟨3, ![16, 16, 64]⟩

abbrev nBuf : Space → Nat
  | .hbm => 21
  | .vmem => 8
  | .smem => 1
  | _ => 0

abbrev bufTy : (tb : Table) → Fin (tcTables nBuf tb) → BufTy
  | .hbm, ⟨0, _⟩ => ⟨S16x1x16x64, .bf16⟩
  | .hbm, ⟨1, _⟩ => ⟨S16x1024x16x64, .bf16⟩
  | .hbm, ⟨2, _⟩ => ⟨S16x1024x16x64, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S16x16x64x1024, .bf16⟩
  | .hbm, ⟨19, _⟩ => ⟨S16x16x64x1024, .bf16⟩
  | .hbm, ⟨20, _⟩ => ⟨S16x1x16x64, .f32⟩
  | .local _ .vmem, ⟨0, _⟩ => ⟨S4x1x16x64, .bf16⟩
  | .local _ .vmem, ⟨1, _⟩ => ⟨S4x1x16x64, .bf16⟩
  | .local _ .vmem, ⟨2, _⟩ => ⟨S4x2x64x1024, .bf16⟩
  | .local _ .vmem, ⟨3, _⟩ => ⟨S4x2x64x1024, .bf16⟩
  | .local _ .vmem, ⟨4, _⟩ => ⟨S4x2x64x1024, .bf16⟩
  | .local _ .vmem, ⟨5, _⟩ => ⟨S4x2x64x1024, .bf16⟩
  | .local _ .vmem, ⟨6, _⟩ => ⟨S16x1x16x64, .f32⟩
  | .local _ .vmem, ⟨7, _⟩ => ⟨S16x34x64, .f32⟩
  | .local _ .smem, ⟨0, _⟩ => ⟨S1, .i32⟩
  | _, _ => ⟨S16x1x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_c_2 : Ref sig .tc := ⟨.hbm, 11, rfl⟩
abbrev main_c_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 16
abbrev τ : Topo := Topo.v7x

variable {F : FTy → Type} [FloatOps F]

abbrev grid0 : Pipeline.Grid := ⟨1, ![4], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_137 : BitVec 32 := 0#32
  let v208 : BitVec 1 := Scalar.cmpi .eq arg0 c0_i32_137
  let v209 : BitVec 32 := Scalar.extui v208
  let c0_i32_138 : BitVec 32 := 0#32
  let v210 : BitVec 1 := Scalar.cmpi .ne v209 c0_i32_138
  v210

def k0_dev1 (d0 : Dev nD) : Nat :=
  let c0_i32_169 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v13 : BitVec 32 := Scalar.xori v2 c0_i32
  let c8_i32_168 : BitVec 32 := 8#32
  let v273 : BitVec 32 := Scalar.muli v13 c8_i32_168
  let v274 : BitVec 32 := Scalar.addi c0_i32_169 v273
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_4 : BitVec 32 := 0#32
  let v14 : BitVec 32 := Scalar.xori v5 c0_i32_4
  let c4_i32_170 : BitVec 32 := 4#32
  let v275 : BitVec 32 := Scalar.muli v14 c4_i32_170
  let v276 : BitVec 32 := Scalar.addi v274 v275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.addi v8 c1_i32_5
  let c4_i32_6 : BitVec 32 := 4#32
  let c0_i32_7 : BitVec 32 := 0#32
  let v16 : BitVec 1 := Scalar.cmpi .eq c4_i32_6 c0_i32_7
  let c1_i32_8 : BitVec 32 := 1#32
  let v17 : BitVec 32 := Scalar.select v16 c1_i32_8 c4_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c1_i32_171 : BitVec 32 := 1#32
  let v277 : BitVec 32 := Scalar.muli v25 c1_i32_171
  let v278 : BitVec 32 := Scalar.addi v276 v277
  v278.toNat
def k0_dev2 (d0 : Dev nD) : Nat :=
  let c0_i32_174 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_12 : BitVec 32 := 0#32
  let v26 : BitVec 32 := Scalar.xori v2 c0_i32_12
  let c8_i32_173 : BitVec 32 := 8#32
  let v279 : BitVec 32 := Scalar.muli v26 c8_i32_173
  let v280 : BitVec 32 := Scalar.addi c0_i32_174 v279
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_13 : BitVec 32 := 0#32
  let v27 : BitVec 32 := Scalar.xori v5 c0_i32_13
  let c4_i32_175 : BitVec 32 := 4#32
  let v281 : BitVec 32 := Scalar.muli v27 c4_i32_175
  let v282 : BitVec 32 := Scalar.addi v280 v281
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v28 : BitVec 32 := Scalar.addi v8 c2_i32_14
  let c4_i32_15 : BitVec 32 := 4#32
  let c0_i32_16 : BitVec 32 := 0#32
  let v29 : BitVec 1 := Scalar.cmpi .eq c4_i32_15 c0_i32_16
  let c1_i32_17 : BitVec 32 := 1#32
  let v30 : BitVec 32 := Scalar.select v29 c1_i32_17 c4_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c1_i32_176 : BitVec 32 := 1#32
  let v283 : BitVec 32 := Scalar.muli v38 c1_i32_176
  let v284 : BitVec 32 := Scalar.addi v282 v283
  v284.toNat
def k0_dev3 (d0 : Dev nD) : Nat :=
  let c0_i32_179 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_21 : BitVec 32 := 0#32
  let v39 : BitVec 32 := Scalar.xori v2 c0_i32_21
  let c8_i32_178 : BitVec 32 := 8#32
  let v285 : BitVec 32 := Scalar.muli v39 c8_i32_178
  let v286 : BitVec 32 := Scalar.addi c0_i32_179 v285
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_22 : BitVec 32 := 0#32
  let v40 : BitVec 32 := Scalar.xori v5 c0_i32_22
  let c4_i32_180 : BitVec 32 := 4#32
  let v287 : BitVec 32 := Scalar.muli v40 c4_i32_180
  let v288 : BitVec 32 := Scalar.addi v286 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v41 : BitVec 32 := Scalar.addi v8 c3_i32
  let c4_i32_23 : BitVec 32 := 4#32
  let c0_i32_24 : BitVec 32 := 0#32
  let v42 : BitVec 1 := Scalar.cmpi .eq c4_i32_23 c0_i32_24
  let c1_i32_25 : BitVec 32 := 1#32
  let v43 : BitVec 32 := Scalar.select v42 c1_i32_25 c4_i32_23
  let v44 : BitVec 32 := Scalar.remsi v41 v43
  let c0_i32_27 : BitVec 32 := 0#32
  let v46 : BitVec 1 := Scalar.cmpi .slt v44 c0_i32_27
  let c0_i32_28 : BitVec 32 := 0#32
  let v47 : BitVec 1 := Scalar.cmpi .slt v43 c0_i32_28
  let v48 : BitVec 1 := Scalar.xori v46 v47
  let c0_i32_26 : BitVec 32 := 0#32
  let v45 : BitVec 1 := Scalar.cmpi .ne v44 c0_i32_26
  let v49 : BitVec 1 := Scalar.andi v48 v45
  let v50 : BitVec 32 := Scalar.addi v44 v43
  let v51 : BitVec 32 := Scalar.select v49 v50 v44
  let c1_i32_181 : BitVec 32 := 1#32
  let v289 : BitVec 32 := Scalar.muli v51 c1_i32_181
  let v290 : BitVec 32 := Scalar.addi v288 v289
  v290.toNat
def k0_dev4 (d0 : Dev nD) : Nat :=
  let c0_i32_184 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_29 : BitVec 32 := 0#32
  let v52 : BitVec 32 := Scalar.xori v2 c0_i32_29
  let c8_i32_183 : BitVec 32 := 8#32
  let v291 : BitVec 32 := Scalar.muli v52 c8_i32_183
  let v292 : BitVec 32 := Scalar.addi c0_i32_184 v291
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_30 : BitVec 32 := 1#32
  let v53 : BitVec 32 := Scalar.xori v5 c1_i32_30
  let c4_i32_185 : BitVec 32 := 4#32
  let v293 : BitVec 32 := Scalar.muli v53 c4_i32_185
  let v294 : BitVec 32 := Scalar.addi v292 v293
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_31 : BitVec 32 := 0#32
  let v54 : BitVec 32 := Scalar.addi v8 c0_i32_31
  let c4_i32_32 : BitVec 32 := 4#32
  let c0_i32_33 : BitVec 32 := 0#32
  let v55 : BitVec 1 := Scalar.cmpi .eq c4_i32_32 c0_i32_33
  let c1_i32_34 : BitVec 32 := 1#32
  let v56 : BitVec 32 := Scalar.select v55 c1_i32_34 c4_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c1_i32_186 : BitVec 32 := 1#32
  let v295 : BitVec 32 := Scalar.muli v64 c1_i32_186
  let v296 : BitVec 32 := Scalar.addi v294 v295
  v296.toNat
def k0_dev5 (d0 : Dev nD) : Nat :=
  let c0_i32_189 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_38 : BitVec 32 := 0#32
  let v65 : BitVec 32 := Scalar.xori v2 c0_i32_38
  let c8_i32_188 : BitVec 32 := 8#32
  let v297 : BitVec 32 := Scalar.muli v65 c8_i32_188
  let v298 : BitVec 32 := Scalar.addi c0_i32_189 v297
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_39 : BitVec 32 := 1#32
  let v66 : BitVec 32 := Scalar.xori v5 c1_i32_39
  let c4_i32_190 : BitVec 32 := 4#32
  let v299 : BitVec 32 := Scalar.muli v66 c4_i32_190
  let v300 : BitVec 32 := Scalar.addi v298 v299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v67 : BitVec 32 := Scalar.addi v8 c1_i32_40
  let c4_i32_41 : BitVec 32 := 4#32
  let c0_i32_42 : BitVec 32 := 0#32
  let v68 : BitVec 1 := Scalar.cmpi .eq c4_i32_41 c0_i32_42
  let c1_i32_43 : BitVec 32 := 1#32
  let v69 : BitVec 32 := Scalar.select v68 c1_i32_43 c4_i32_41
  let v70 : BitVec 32 := Scalar.remsi v67 v69
  let c0_i32_45 : BitVec 32 := 0#32
  let v72 : BitVec 1 := Scalar.cmpi .slt v70 c0_i32_45
  let c0_i32_46 : BitVec 32 := 0#32
  let v73 : BitVec 1 := Scalar.cmpi .slt v69 c0_i32_46
  let v74 : BitVec 1 := Scalar.xori v72 v73
  let c0_i32_44 : BitVec 32 := 0#32
  let v71 : BitVec 1 := Scalar.cmpi .ne v70 c0_i32_44
  let v75 : BitVec 1 := Scalar.andi v74 v71
  let v76 : BitVec 32 := Scalar.addi v70 v69
  let v77 : BitVec 32 := Scalar.select v75 v76 v70
  let c1_i32_191 : BitVec 32 := 1#32
  let v301 : BitVec 32 := Scalar.muli v77 c1_i32_191
  let v302 : BitVec 32 := Scalar.addi v300 v301
  v302.toNat
def k0_dev6 (d0 : Dev nD) : Nat :=
  let c0_i32_194 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_47 : BitVec 32 := 0#32
  let v78 : BitVec 32 := Scalar.xori v2 c0_i32_47
  let c8_i32_193 : BitVec 32 := 8#32
  let v303 : BitVec 32 := Scalar.muli v78 c8_i32_193
  let v304 : BitVec 32 := Scalar.addi c0_i32_194 v303
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_48 : BitVec 32 := 1#32
  let v79 : BitVec 32 := Scalar.xori v5 c1_i32_48
  let c4_i32_195 : BitVec 32 := 4#32
  let v305 : BitVec 32 := Scalar.muli v79 c4_i32_195
  let v306 : BitVec 32 := Scalar.addi v304 v305
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_49 : BitVec 32 := 2#32
  let v80 : BitVec 32 := Scalar.addi v8 c2_i32_49
  let c4_i32_50 : BitVec 32 := 4#32
  let c0_i32_51 : BitVec 32 := 0#32
  let v81 : BitVec 1 := Scalar.cmpi .eq c4_i32_50 c0_i32_51
  let c1_i32_52 : BitVec 32 := 1#32
  let v82 : BitVec 32 := Scalar.select v81 c1_i32_52 c4_i32_50
  let v83 : BitVec 32 := Scalar.remsi v80 v82
  let c0_i32_54 : BitVec 32 := 0#32
  let v85 : BitVec 1 := Scalar.cmpi .slt v83 c0_i32_54
  let c0_i32_55 : BitVec 32 := 0#32
  let v86 : BitVec 1 := Scalar.cmpi .slt v82 c0_i32_55
  let v87 : BitVec 1 := Scalar.xori v85 v86
  let c0_i32_53 : BitVec 32 := 0#32
  let v84 : BitVec 1 := Scalar.cmpi .ne v83 c0_i32_53
  let v88 : BitVec 1 := Scalar.andi v87 v84
  let v89 : BitVec 32 := Scalar.addi v83 v82
  let v90 : BitVec 32 := Scalar.select v88 v89 v83
  let c1_i32_196 : BitVec 32 := 1#32
  let v307 : BitVec 32 := Scalar.muli v90 c1_i32_196
  let v308 : BitVec 32 := Scalar.addi v306 v307
  v308.toNat
def k0_dev7 (d0 : Dev nD) : Nat :=
  let c0_i32_199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_56 : BitVec 32 := 0#32
  let v91 : BitVec 32 := Scalar.xori v2 c0_i32_56
  let c8_i32_198 : BitVec 32 := 8#32
  let v309 : BitVec 32 := Scalar.muli v91 c8_i32_198
  let v310 : BitVec 32 := Scalar.addi c0_i32_199 v309
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_57 : BitVec 32 := 1#32
  let v92 : BitVec 32 := Scalar.xori v5 c1_i32_57
  let c4_i32_200 : BitVec 32 := 4#32
  let v311 : BitVec 32 := Scalar.muli v92 c4_i32_200
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_58 : BitVec 32 := 3#32
  let v93 : BitVec 32 := Scalar.addi v8 c3_i32_58
  let c4_i32_59 : BitVec 32 := 4#32
  let c0_i32_60 : BitVec 32 := 0#32
  let v94 : BitVec 1 := Scalar.cmpi .eq c4_i32_59 c0_i32_60
  let c1_i32_61 : BitVec 32 := 1#32
  let v95 : BitVec 32 := Scalar.select v94 c1_i32_61 c4_i32_59
  let v96 : BitVec 32 := Scalar.remsi v93 v95
  let c0_i32_63 : BitVec 32 := 0#32
  let v98 : BitVec 1 := Scalar.cmpi .slt v96 c0_i32_63
  let c0_i32_64 : BitVec 32 := 0#32
  let v99 : BitVec 1 := Scalar.cmpi .slt v95 c0_i32_64
  let v100 : BitVec 1 := Scalar.xori v98 v99
  let c0_i32_62 : BitVec 32 := 0#32
  let v97 : BitVec 1 := Scalar.cmpi .ne v96 c0_i32_62
  let v101 : BitVec 1 := Scalar.andi v100 v97
  let v102 : BitVec 32 := Scalar.addi v96 v95
  let v103 : BitVec 32 := Scalar.select v101 v102 v96
  let c1_i32_201 : BitVec 32 := 1#32
  let v313 : BitVec 32 := Scalar.muli v103 c1_i32_201
  let v314 : BitVec 32 := Scalar.addi v312 v313
  v314.toNat
def k0_dev8 (d0 : Dev nD) : Nat :=
  let c0_i32_204 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_65 : BitVec 32 := 1#32
  let v104 : BitVec 32 := Scalar.xori v2 c1_i32_65
  let c8_i32_203 : BitVec 32 := 8#32
  let v315 : BitVec 32 := Scalar.muli v104 c8_i32_203
  let v316 : BitVec 32 := Scalar.addi c0_i32_204 v315
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_66 : BitVec 32 := 0#32
  let v105 : BitVec 32 := Scalar.xori v5 c0_i32_66
  let c4_i32_205 : BitVec 32 := 4#32
  let v317 : BitVec 32 := Scalar.muli v105 c4_i32_205
  let v318 : BitVec 32 := Scalar.addi v316 v317
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_67 : BitVec 32 := 0#32
  let v106 : BitVec 32 := Scalar.addi v8 c0_i32_67
  let c4_i32_68 : BitVec 32 := 4#32
  let c0_i32_69 : BitVec 32 := 0#32
  let v107 : BitVec 1 := Scalar.cmpi .eq c4_i32_68 c0_i32_69
  let c1_i32_70 : BitVec 32 := 1#32
  let v108 : BitVec 32 := Scalar.select v107 c1_i32_70 c4_i32_68
  let v109 : BitVec 32 := Scalar.remsi v106 v108
  let c0_i32_72 : BitVec 32 := 0#32
  let v111 : BitVec 1 := Scalar.cmpi .slt v109 c0_i32_72
  let c0_i32_73 : BitVec 32 := 0#32
  let v112 : BitVec 1 := Scalar.cmpi .slt v108 c0_i32_73
  let v113 : BitVec 1 := Scalar.xori v111 v112
  let c0_i32_71 : BitVec 32 := 0#32
  let v110 : BitVec 1 := Scalar.cmpi .ne v109 c0_i32_71
  let v114 : BitVec 1 := Scalar.andi v113 v110
  let v115 : BitVec 32 := Scalar.addi v109 v108
  let v116 : BitVec 32 := Scalar.select v114 v115 v109
  let c1_i32_206 : BitVec 32 := 1#32
  let v319 : BitVec 32 := Scalar.muli v116 c1_i32_206
  let v320 : BitVec 32 := Scalar.addi v318 v319
  v320.toNat
def k0_dev9 (d0 : Dev nD) : Nat :=
  let c0_i32_209 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_74 : BitVec 32 := 1#32
  let v117 : BitVec 32 := Scalar.xori v2 c1_i32_74
  let c8_i32_208 : BitVec 32 := 8#32
  let v321 : BitVec 32 := Scalar.muli v117 c8_i32_208
  let v322 : BitVec 32 := Scalar.addi c0_i32_209 v321
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_75 : BitVec 32 := 0#32
  let v118 : BitVec 32 := Scalar.xori v5 c0_i32_75
  let c4_i32_210 : BitVec 32 := 4#32
  let v323 : BitVec 32 := Scalar.muli v118 c4_i32_210
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v119 : BitVec 32 := Scalar.addi v8 c1_i32_76
  let c4_i32_77 : BitVec 32 := 4#32
  let c0_i32_78 : BitVec 32 := 0#32
  let v120 : BitVec 1 := Scalar.cmpi .eq c4_i32_77 c0_i32_78
  let c1_i32_79 : BitVec 32 := 1#32
  let v121 : BitVec 32 := Scalar.select v120 c1_i32_79 c4_i32_77
  let v122 : BitVec 32 := Scalar.remsi v119 v121
  let c0_i32_81 : BitVec 32 := 0#32
  let v124 : BitVec 1 := Scalar.cmpi .slt v122 c0_i32_81
  let c0_i32_82 : BitVec 32 := 0#32
  let v125 : BitVec 1 := Scalar.cmpi .slt v121 c0_i32_82
  let v126 : BitVec 1 := Scalar.xori v124 v125
  let c0_i32_80 : BitVec 32 := 0#32
  let v123 : BitVec 1 := Scalar.cmpi .ne v122 c0_i32_80
  let v127 : BitVec 1 := Scalar.andi v126 v123
  let v128 : BitVec 32 := Scalar.addi v122 v121
  let v129 : BitVec 32 := Scalar.select v127 v128 v122
  let c1_i32_211 : BitVec 32 := 1#32
  let v325 : BitVec 32 := Scalar.muli v129 c1_i32_211
  let v326 : BitVec 32 := Scalar.addi v324 v325
  v326.toNat
def k0_dev10 (d0 : Dev nD) : Nat :=
  let c0_i32_214 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_83 : BitVec 32 := 1#32
  let v130 : BitVec 32 := Scalar.xori v2 c1_i32_83
  let c8_i32_213 : BitVec 32 := 8#32
  let v327 : BitVec 32 := Scalar.muli v130 c8_i32_213
  let v328 : BitVec 32 := Scalar.addi c0_i32_214 v327
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_84 : BitVec 32 := 0#32
  let v131 : BitVec 32 := Scalar.xori v5 c0_i32_84
  let c4_i32_215 : BitVec 32 := 4#32
  let v329 : BitVec 32 := Scalar.muli v131 c4_i32_215
  let v330 : BitVec 32 := Scalar.addi v328 v329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_85 : BitVec 32 := 2#32
  let v132 : BitVec 32 := Scalar.addi v8 c2_i32_85
  let c4_i32_86 : BitVec 32 := 4#32
  let c0_i32_87 : BitVec 32 := 0#32
  let v133 : BitVec 1 := Scalar.cmpi .eq c4_i32_86 c0_i32_87
  let c1_i32_88 : BitVec 32 := 1#32
  let v134 : BitVec 32 := Scalar.select v133 c1_i32_88 c4_i32_86
  let v135 : BitVec 32 := Scalar.remsi v132 v134
  let c0_i32_90 : BitVec 32 := 0#32
  let v137 : BitVec 1 := Scalar.cmpi .slt v135 c0_i32_90
  let c0_i32_91 : BitVec 32 := 0#32
  let v138 : BitVec 1 := Scalar.cmpi .slt v134 c0_i32_91
  let v139 : BitVec 1 := Scalar.xori v137 v138
  let c0_i32_89 : BitVec 32 := 0#32
  let v136 : BitVec 1 := Scalar.cmpi .ne v135 c0_i32_89
  let v140 : BitVec 1 := Scalar.andi v139 v136
  let v141 : BitVec 32 := Scalar.addi v135 v134
  let v142 : BitVec 32 := Scalar.select v140 v141 v135
  let c1_i32_216 : BitVec 32 := 1#32
  let v331 : BitVec 32 := Scalar.muli v142 c1_i32_216
  let v332 : BitVec 32 := Scalar.addi v330 v331
  v332.toNat
def k0_dev11 (d0 : Dev nD) : Nat :=
  let c0_i32_219 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_92 : BitVec 32 := 1#32
  let v143 : BitVec 32 := Scalar.xori v2 c1_i32_92
  let c8_i32_218 : BitVec 32 := 8#32
  let v333 : BitVec 32 := Scalar.muli v143 c8_i32_218
  let v334 : BitVec 32 := Scalar.addi c0_i32_219 v333
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_93 : BitVec 32 := 0#32
  let v144 : BitVec 32 := Scalar.xori v5 c0_i32_93
  let c4_i32_220 : BitVec 32 := 4#32
  let v335 : BitVec 32 := Scalar.muli v144 c4_i32_220
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_94 : BitVec 32 := 3#32
  let v145 : BitVec 32 := Scalar.addi v8 c3_i32_94
  let c4_i32_95 : BitVec 32 := 4#32
  let c0_i32_96 : BitVec 32 := 0#32
  let v146 : BitVec 1 := Scalar.cmpi .eq c4_i32_95 c0_i32_96
  let c1_i32_97 : BitVec 32 := 1#32
  let v147 : BitVec 32 := Scalar.select v146 c1_i32_97 c4_i32_95
  let v148 : BitVec 32 := Scalar.remsi v145 v147
  let c0_i32_99 : BitVec 32 := 0#32
  let v150 : BitVec 1 := Scalar.cmpi .slt v148 c0_i32_99
  let c0_i32_100 : BitVec 32 := 0#32
  let v151 : BitVec 1 := Scalar.cmpi .slt v147 c0_i32_100
  let v152 : BitVec 1 := Scalar.xori v150 v151
  let c0_i32_98 : BitVec 32 := 0#32
  let v149 : BitVec 1 := Scalar.cmpi .ne v148 c0_i32_98
  let v153 : BitVec 1 := Scalar.andi v152 v149
  let v154 : BitVec 32 := Scalar.addi v148 v147
  let v155 : BitVec 32 := Scalar.select v153 v154 v148
  let c1_i32_221 : BitVec 32 := 1#32
  let v337 : BitVec 32 := Scalar.muli v155 c1_i32_221
  let v338 : BitVec 32 := Scalar.addi v336 v337
  v338.toNat
def k0_dev12 (d0 : Dev nD) : Nat :=
  let c0_i32_224 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_101 : BitVec 32 := 1#32
  let v156 : BitVec 32 := Scalar.xori v2 c1_i32_101
  let c8_i32_223 : BitVec 32 := 8#32
  let v339 : BitVec 32 := Scalar.muli v156 c8_i32_223
  let v340 : BitVec 32 := Scalar.addi c0_i32_224 v339
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_102 : BitVec 32 := 1#32
  let v157 : BitVec 32 := Scalar.xori v5 c1_i32_102
  let c4_i32_225 : BitVec 32 := 4#32
  let v341 : BitVec 32 := Scalar.muli v157 c4_i32_225
  let v342 : BitVec 32 := Scalar.addi v340 v341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_103 : BitVec 32 := 0#32
  let v158 : BitVec 32 := Scalar.addi v8 c0_i32_103
  let c4_i32_104 : BitVec 32 := 4#32
  let c0_i32_105 : BitVec 32 := 0#32
  let v159 : BitVec 1 := Scalar.cmpi .eq c4_i32_104 c0_i32_105
  let c1_i32_106 : BitVec 32 := 1#32
  let v160 : BitVec 32 := Scalar.select v159 c1_i32_106 c4_i32_104
  let v161 : BitVec 32 := Scalar.remsi v158 v160
  let c0_i32_108 : BitVec 32 := 0#32
  let v163 : BitVec 1 := Scalar.cmpi .slt v161 c0_i32_108
  let c0_i32_109 : BitVec 32 := 0#32
  let v164 : BitVec 1 := Scalar.cmpi .slt v160 c0_i32_109
  let v165 : BitVec 1 := Scalar.xori v163 v164
  let c0_i32_107 : BitVec 32 := 0#32
  let v162 : BitVec 1 := Scalar.cmpi .ne v161 c0_i32_107
  let v166 : BitVec 1 := Scalar.andi v165 v162
  let v167 : BitVec 32 := Scalar.addi v161 v160
  let v168 : BitVec 32 := Scalar.select v166 v167 v161
  let c1_i32_226 : BitVec 32 := 1#32
  let v343 : BitVec 32 := Scalar.muli v168 c1_i32_226
  let v344 : BitVec 32 := Scalar.addi v342 v343
  v344.toNat
def k0_dev13 (d0 : Dev nD) : Nat :=
  let c0_i32_229 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_110 : BitVec 32 := 1#32
  let v169 : BitVec 32 := Scalar.xori v2 c1_i32_110
  let c8_i32_228 : BitVec 32 := 8#32
  let v345 : BitVec 32 := Scalar.muli v169 c8_i32_228
  let v346 : BitVec 32 := Scalar.addi c0_i32_229 v345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_111 : BitVec 32 := 1#32
  let v170 : BitVec 32 := Scalar.xori v5 c1_i32_111
  let c4_i32_230 : BitVec 32 := 4#32
  let v347 : BitVec 32 := Scalar.muli v170 c4_i32_230
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v171 : BitVec 32 := Scalar.addi v8 c1_i32_112
  let c4_i32_113 : BitVec 32 := 4#32
  let c0_i32_114 : BitVec 32 := 0#32
  let v172 : BitVec 1 := Scalar.cmpi .eq c4_i32_113 c0_i32_114
  let c1_i32_115 : BitVec 32 := 1#32
  let v173 : BitVec 32 := Scalar.select v172 c1_i32_115 c4_i32_113
  let v174 : BitVec 32 := Scalar.remsi v171 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c1_i32_231 : BitVec 32 := 1#32
  let v349 : BitVec 32 := Scalar.muli v181 c1_i32_231
  let v350 : BitVec 32 := Scalar.addi v348 v349
  v350.toNat
def k0_dev14 (d0 : Dev nD) : Nat :=
  let c0_i32_234 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_119 : BitVec 32 := 1#32
  let v182 : BitVec 32 := Scalar.xori v2 c1_i32_119
  let c8_i32_233 : BitVec 32 := 8#32
  let v351 : BitVec 32 := Scalar.muli v182 c8_i32_233
  let v352 : BitVec 32 := Scalar.addi c0_i32_234 v351
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_120 : BitVec 32 := 1#32
  let v183 : BitVec 32 := Scalar.xori v5 c1_i32_120
  let c4_i32_235 : BitVec 32 := 4#32
  let v353 : BitVec 32 := Scalar.muli v183 c4_i32_235
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_121 : BitVec 32 := 2#32
  let v184 : BitVec 32 := Scalar.addi v8 c2_i32_121
  let c4_i32_122 : BitVec 32 := 4#32
  let c0_i32_123 : BitVec 32 := 0#32
  let v185 : BitVec 1 := Scalar.cmpi .eq c4_i32_122 c0_i32_123
  let c1_i32_124 : BitVec 32 := 1#32
  let v186 : BitVec 32 := Scalar.select v185 c1_i32_124 c4_i32_122
  let v187 : BitVec 32 := Scalar.remsi v184 v186
  let c0_i32_126 : BitVec 32 := 0#32
  let v189 : BitVec 1 := Scalar.cmpi .slt v187 c0_i32_126
  let c0_i32_127 : BitVec 32 := 0#32
  let v190 : BitVec 1 := Scalar.cmpi .slt v186 c0_i32_127
  let v191 : BitVec 1 := Scalar.xori v189 v190
  let c0_i32_125 : BitVec 32 := 0#32
  let v188 : BitVec 1 := Scalar.cmpi .ne v187 c0_i32_125
  let v192 : BitVec 1 := Scalar.andi v191 v188
  let v193 : BitVec 32 := Scalar.addi v187 v186
  let v194 : BitVec 32 := Scalar.select v192 v193 v187
  let c1_i32_236 : BitVec 32 := 1#32
  let v355 : BitVec 32 := Scalar.muli v194 c1_i32_236
  let v356 : BitVec 32 := Scalar.addi v354 v355
  v356.toNat
def k0_dev15 (d0 : Dev nD) : Nat :=
  let c0_i32_239 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_128 : BitVec 32 := 1#32
  let v195 : BitVec 32 := Scalar.xori v2 c1_i32_128
  let c8_i32_238 : BitVec 32 := 8#32
  let v357 : BitVec 32 := Scalar.muli v195 c8_i32_238
  let v358 : BitVec 32 := Scalar.addi c0_i32_239 v357
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_129 : BitVec 32 := 1#32
  let v196 : BitVec 32 := Scalar.xori v5 c1_i32_129
  let c4_i32_240 : BitVec 32 := 4#32
  let v359 : BitVec 32 := Scalar.muli v196 c4_i32_240
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_130 : BitVec 32 := 3#32
  let v197 : BitVec 32 := Scalar.addi v8 c3_i32_130
  let c4_i32_131 : BitVec 32 := 4#32
  let c0_i32_132 : BitVec 32 := 0#32
  let v198 : BitVec 1 := Scalar.cmpi .eq c4_i32_131 c0_i32_132
  let c1_i32_133 : BitVec 32 := 1#32
  let v199 : BitVec 32 := Scalar.select v198 c1_i32_133 c4_i32_131
  let v200 : BitVec 32 := Scalar.remsi v197 v199
  let c0_i32_135 : BitVec 32 := 0#32
  let v202 : BitVec 1 := Scalar.cmpi .slt v200 c0_i32_135
  let c0_i32_136 : BitVec 32 := 0#32
  let v203 : BitVec 1 := Scalar.cmpi .slt v199 c0_i32_136
  let v204 : BitVec 1 := Scalar.xori v202 v203
  let c0_i32_134 : BitVec 32 := 0#32
  let v201 : BitVec 1 := Scalar.cmpi .ne v200 c0_i32_134
  let v205 : BitVec 1 := Scalar.andi v204 v201
  let v206 : BitVec 32 := Scalar.addi v200 v199
  let v207 : BitVec 32 := Scalar.select v205 v206 v200
  let c1_i32_241 : BitVec 32 := 1#32
  let v361 : BitVec 32 := Scalar.muli v207 c1_i32_241
  let v362 : BitVec 32 := Scalar.addi v360 v361
  v362.toNat
def k0_off1 (v9 : BitVec 32) : Fin 4 → Nat :=
  let c0_139 : Index := 0#32
  let c0_140 : Index := 0#32
  let c2_i32_3 : BitVec 32 := 2#32
  let v12 : BitVec 32 := Scalar.muli v9 c2_i32_3
  let v216 : Index := Scalar.indexCast v12
  let c0_141 : Index := 0#32
  ![0, 0, v216.toNat, 0]

def k0_off2 (i : grid0.Coords) (d0 : Dev nD) (v9 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v10 : BitVec 32 := Scalar.muli v2 c8_i32_2
  let v11 : BitVec 32 := Scalar.addi v10 v9
  let v252 : Index := Scalar.indexCast v11
  let arg0 : BitVec 32 := BitVec.ofNat 32 (i 0).val
  let c8_i32_155 : BitVec 32 := 8#32
  let v251 : BitVec 32 := Scalar.muli arg0 c8_i32_155
  let v253 : Index := Scalar.indexCast v251
  let c0_156 : Index := 0#32
  ![v252.toNat, v253.toNat, 0]
def k0_cond2 (i : grid0.Coords) : BitVec 1 :=
  let arg0 : BitVec 32 := BitVec.ofNat 32 (i 0).val
  let c0_i32_157 : BitVec 32 := 0#32
  let v257 : BitVec 1 := Scalar.cmpi .eq arg0 c0_i32_157
  let v258 : BitVec 32 := Scalar.extui v257
  let c0_i32_158 : BitVec 32 := 0#32
  let v259 : BitVec 1 := Scalar.cmpi .ne v258 c0_i32_158
  v259

def k0_off3 (d0 : Dev nD) (v9 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v10 : BitVec 32 := Scalar.muli v2 c8_i32_2
  let v11 : BitVec 32 := Scalar.addi v10 v9
  let v273 : Index := Scalar.indexCast v11
  let c32 : Index := 32#32
  let c0_167 : Index := 0#32
  ![v273.toNat, 32, 0]
def k0_off4 (d0 : Dev nD) (v9 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v10 : BitVec 32 := Scalar.muli v2 c8_i32_2
  let v11 : BitVec 32 := Scalar.addi v10 v9
  let v278 : Index := Scalar.indexCast v11
  let c32_168 : Index := 32#32
  let c32_169 : Index := 32#32
  ![v278.toNat, 32, 32]
def k0_cond3 (i : grid0.Coords) : BitVec 1 :=
  let arg0 : BitVec 32 := BitVec.ofNat 32 (i 0).val
  let c1_i32_159 : BitVec 32 := 1#32
  let v260 : BitVec 1 := Scalar.cmpi .eq arg0 c1_i32_159
  let v261 : BitVec 32 := Scalar.extui v260
  let c0_i32_160 : BitVec 32 := 0#32
  let v262 : BitVec 1 := Scalar.cmpi .ne v261 c0_i32_160
  v262

def k0_off5 (d0 : Dev nD) (v9 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v10 : BitVec 32 := Scalar.muli v2 c8_i32_2
  let v11 : BitVec 32 := Scalar.addi v10 v9
  let v273 : Index := Scalar.indexCast v11
  let c32 : Index := 32#32
  let c8 : Index := 8#32
  ![v273.toNat, 32, 8]
def k0_off6 (d0 : Dev nD) (v9 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v10 : BitVec 32 := Scalar.muli v2 c8_i32_2
  let v11 : BitVec 32 := Scalar.addi v10 v9
  let v278 : Index := Scalar.indexCast v11
  let c32_167 : Index := 32#32
  let c40 : Index := 40#32
  ![v278.toNat, 32, 40]
def k0_cond4 (i : grid0.Coords) : BitVec 1 :=
  let arg0 : BitVec 32 := BitVec.ofNat 32 (i 0).val
  let c2_i32_161 : BitVec 32 := 2#32
  let v263 : BitVec 1 := Scalar.cmpi .eq arg0 c2_i32_161
  let v264 : BitVec 32 := Scalar.extui v263
  let c0_i32_162 : BitVec 32 := 0#32
  let v265 : BitVec 1 := Scalar.cmpi .ne v264 c0_i32_162
  v265

def k0_off7 (d0 : Dev nD) (v9 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v10 : BitVec 32 := Scalar.muli v2 c8_i32_2
  let v11 : BitVec 32 := Scalar.addi v10 v9
  let v273 : Index := Scalar.indexCast v11
  let c32 : Index := 32#32
  let c16 : Index := 16#32
  ![v273.toNat, 32, 16]
def k0_off8 (d0 : Dev nD) (v9 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v10 : BitVec 32 := Scalar.muli v2 c8_i32_2
  let v11 : BitVec 32 := Scalar.addi v10 v9
  let v278 : Index := Scalar.indexCast v11
  let c32_167 : Index := 32#32
  let c48 : Index := 48#32
  ![v278.toNat, 32, 48]
def k0_cond5 (i : grid0.Coords) : BitVec 1 :=
  let arg0 : BitVec 32 := BitVec.ofNat 32 (i 0).val
  let c3_i32_163 : BitVec 32 := 3#32
  let v266 : BitVec 1 := Scalar.cmpi .eq arg0 c3_i32_163
  let v267 : BitVec 32 := Scalar.extui v266
  let c0_i32_164 : BitVec 32 := 0#32
  let v268 : BitVec 1 := Scalar.cmpi .ne v267 c0_i32_164
  v268

def k0_off9 (d0 : Dev nD) (v9 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v10 : BitVec 32 := Scalar.muli v2 c8_i32_2
  let v11 : BitVec 32 := Scalar.addi v10 v9
  let v273 : Index := Scalar.indexCast v11
  let c32 : Index := 32#32
  let c24 : Index := 24#32
  ![v273.toNat, 32, 24]
def k0_off10 (d0 : Dev nD) (v9 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v10 : BitVec 32 := Scalar.muli v2 c8_i32_2
  let v11 : BitVec 32 := Scalar.addi v10 v9
  let v278 : Index := Scalar.indexCast v11
  let c32_167 : Index := 32#32
  let c56 : Index := 56#32
  ![v278.toNat, 32, 56]
def k0_cond6 (i : grid0.Coords) : BitVec 1 :=
  let arg0 : BitVec 32 := BitVec.ofNat 32 (i 0).val
  let c3_i32_165 : BitVec 32 := 3#32
  let v269 : BitVec 1 := Scalar.cmpi .eq arg0 c3_i32_165
  let v270 : BitVec 32 := Scalar.extui v269
  let c0_i32_166 : BitVec 32 := 0#32
  let v271 : BitVec 1 := Scalar.cmpi .ne v270 c0_i32_166
  v271

def k0_off11 (d0 : Dev nD) (v9 : BitVec 32) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v10 : BitVec 32 := Scalar.muli v2 c8_i32_2
  let v11 : BitVec 32 := Scalar.addi v10 v9
  let c0_i32_173 : BitVec 32 := 0#32
  let c0_i32_174 : BitVec 32 := 0#32
  ![v11.toNat, 0, 0]

def k0_chk1 (i : grid0.Coords) (d0 : Dev nD) (v9 : BitVec 32) : Prop :=
  (∀ a, (k0_off1 v9) a + S4x1x2x64.size a ≤ S4x1x16x64.size a) ∧
  (∀ a, (k0_off2 i d0 v9) a + S1x8x64.size a ≤ S16x34x64.size a) ∧
  (∀ (k0_h2 : k0_cond2 i = 1#1), ∀ a, (k0_off3 d0 v9) a + S1x1x8.size a ≤ S16x34x64.size a) ∧
  (∀ (k0_h2 : k0_cond2 i = 1#1), ∀ a, (k0_off4 d0 v9) a + S1x1x8.size a ≤ S16x34x64.size a) ∧
  (∀ (k0_h3 : k0_cond3 i = 1#1), ∀ a, (k0_off5 d0 v9) a + S1x1x8.size a ≤ S16x34x64.size a) ∧
  (∀ (k0_h3 : k0_cond3 i = 1#1), ∀ a, (k0_off6 d0 v9) a + S1x1x8.size a ≤ S16x34x64.size a) ∧
  (∀ (k0_h4 : k0_cond4 i = 1#1), ∀ a, (k0_off7 d0 v9) a + S1x1x8.size a ≤ S16x34x64.size a) ∧
  (∀ (k0_h4 : k0_cond4 i = 1#1), ∀ a, (k0_off8 d0 v9) a + S1x1x8.size a ≤ S16x34x64.size a) ∧
  (∀ (k0_h5 : k0_cond5 i = 1#1), ∀ a, (k0_off9 d0 v9) a + S1x1x8.size a ≤ S16x34x64.size a) ∧
  (∀ (k0_h5 : k0_cond5 i = 1#1), ∀ a, (k0_off10 d0 v9) a + S1x1x8.size a ≤ S16x34x64.size a) ∧
  (∀ (k0_h6 : k0_cond6 i = 1#1), ∀ a, (k0_off11 d0 v9) a + S1x34x64.size a ≤ S16x34x64.size a)
theorem k0_off1_inb : ∀ (i : grid0.Coords) (d0 : Dev nD) (v9 : BitVec 32) (k0_hw1 : k0_chk1 i d0 v9), ∀ a, (k0_off1 v9) a + S4x1x2x64.size a ≤ S4x1x16x64.size a := fun i d0 v9 k0_hw1 => k0_hw1.1
theorem k0_off2_inb : ∀ (i : grid0.Coords) (d0 : Dev nD) (v9 : BitVec 32) (k0_hw1 : k0_chk1 i d0 v9), ∀ a, (k0_off2 i d0 v9) a + S1x8x64.size a ≤ S16x34x64.size a := fun i d0 v9 k0_hw1 => k0_hw1.2.1
theorem k0_off3_inb : ∀ (i : grid0.Coords) (d0 : Dev nD) (v9 : BitVec 32) (k0_hw1 : k0_chk1 i d0 v9), ∀ (k0_h2 : k0_cond2 i = 1#1), ∀ a, (k0_off3 d0 v9) a + S1x1x8.size a ≤ S16x34x64.size a := fun i d0 v9 k0_hw1 k0_h2 => k0_hw1.2.2.1 k0_h2
theorem k0_off4_inb : ∀ (i : grid0.Coords) (d0 : Dev nD) (v9 : BitVec 32) (k0_hw1 : k0_chk1 i d0 v9), ∀ (k0_h2 : k0_cond2 i = 1#1), ∀ a, (k0_off4 d0 v9) a + S1x1x8.size a ≤ S16x34x64.size a := fun i d0 v9 k0_hw1 k0_h2 => k0_hw1.2.2.2.1 k0_h2
theorem k0_off5_inb : ∀ (i : grid0.Coords) (d0 : Dev nD) (v9 : BitVec 32) (k0_hw1 : k0_chk1 i d0 v9), ∀ (k0_h3 : k0_cond3 i = 1#1), ∀ a, (k0_off5 d0 v9) a + S1x1x8.size a ≤ S16x34x64.size a := fun i d0 v9 k0_hw1 k0_h3 => k0_hw1.2.2.2.2.1 k0_h3
theorem k0_off6_inb : ∀ (i : grid0.Coords) (d0 : Dev nD) (v9 : BitVec 32) (k0_hw1 : k0_chk1 i d0 v9), ∀ (k0_h3 : k0_cond3 i = 1#1), ∀ a, (k0_off6 d0 v9) a + S1x1x8.size a ≤ S16x34x64.size a := fun i d0 v9 k0_hw1 k0_h3 => k0_hw1.2.2.2.2.2.1 k0_h3
theorem k0_off7_inb : ∀ (i : grid0.Coords) (d0 : Dev nD) (v9 : BitVec 32) (k0_hw1 : k0_chk1 i d0 v9), ∀ (k0_h4 : k0_cond4 i = 1#1), ∀ a, (k0_off7 d0 v9) a + S1x1x8.size a ≤ S16x34x64.size a := fun i d0 v9 k0_hw1 k0_h4 => k0_hw1.2.2.2.2.2.2.1 k0_h4
theorem k0_off8_inb : ∀ (i : grid0.Coords) (d0 : Dev nD) (v9 : BitVec 32) (k0_hw1 : k0_chk1 i d0 v9), ∀ (k0_h4 : k0_cond4 i = 1#1), ∀ a, (k0_off8 d0 v9) a + S1x1x8.size a ≤ S16x34x64.size a := fun i d0 v9 k0_hw1 k0_h4 => k0_hw1.2.2.2.2.2.2.2.1 k0_h4
theorem k0_off9_inb : ∀ (i : grid0.Coords) (d0 : Dev nD) (v9 : BitVec 32) (k0_hw1 : k0_chk1 i d0 v9), ∀ (k0_h5 : k0_cond5 i = 1#1), ∀ a, (k0_off9 d0 v9) a + S1x1x8.size a ≤ S16x34x64.size a := fun i d0 v9 k0_hw1 k0_h5 => k0_hw1.2.2.2.2.2.2.2.2.1 k0_h5
theorem k0_off10_inb : ∀ (i : grid0.Coords) (d0 : Dev nD) (v9 : BitVec 32) (k0_hw1 : k0_chk1 i d0 v9), ∀ (k0_h5 : k0_cond5 i = 1#1), ∀ a, (k0_off10 d0 v9) a + S1x1x8.size a ≤ S16x34x64.size a := fun i d0 v9 k0_hw1 k0_h5 => k0_hw1.2.2.2.2.2.2.2.2.2.1 k0_h5
theorem k0_off11_inb : ∀ (i : grid0.Coords) (d0 : Dev nD) (v9 : BitVec 32) (k0_hw1 : k0_chk1 i d0 v9), ∀ (k0_h6 : k0_cond6 i = 1#1), ∀ a, (k0_off11 d0 v9) a + S1x34x64.size a ≤ S16x34x64.size a := fun i d0 v9 k0_hw1 k0_h6 => k0_hw1.2.2.2.2.2.2.2.2.2.2 k0_h6

def k0_dev16 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v13 : BitVec 32 := Scalar.xori v2 c0_i32
  let c8_i32_169 : BitVec 32 := 8#32
  let v272 : BitVec 32 := Scalar.muli v13 c8_i32_169
  let v273 : BitVec 32 := Scalar.addi c0_i32_170 v272
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_4 : BitVec 32 := 0#32
  let v14 : BitVec 32 := Scalar.xori v5 c0_i32_4
  let c4_i32_171 : BitVec 32 := 4#32
  let v274 : BitVec 32 := Scalar.muli v14 c4_i32_171
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.addi v8 c1_i32_5
  let c4_i32_6 : BitVec 32 := 4#32
  let c0_i32_7 : BitVec 32 := 0#32
  let v16 : BitVec 1 := Scalar.cmpi .eq c4_i32_6 c0_i32_7
  let c1_i32_8 : BitVec 32 := 1#32
  let v17 : BitVec 32 := Scalar.select v16 c1_i32_8 c4_i32_6
  let v18 : BitVec 32 := Scalar.remsi v15 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let c1_i32_172 : BitVec 32 := 1#32
  let v276 : BitVec 32 := Scalar.muli v25 c1_i32_172
  let v277 : BitVec 32 := Scalar.addi v275 v276
  v277.toNat
def k0_dev17 (d0 : Dev nD) : Nat :=
  let c0_i32_180 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_12 : BitVec 32 := 0#32
  let v26 : BitVec 32 := Scalar.xori v2 c0_i32_12
  let c8_i32_179 : BitVec 32 := 8#32
  let v284 : BitVec 32 := Scalar.muli v26 c8_i32_179
  let v285 : BitVec 32 := Scalar.addi c0_i32_180 v284
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_13 : BitVec 32 := 0#32
  let v27 : BitVec 32 := Scalar.xori v5 c0_i32_13
  let c4_i32_181 : BitVec 32 := 4#32
  let v286 : BitVec 32 := Scalar.muli v27 c4_i32_181
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v28 : BitVec 32 := Scalar.addi v8 c2_i32_14
  let c4_i32_15 : BitVec 32 := 4#32
  let c0_i32_16 : BitVec 32 := 0#32
  let v29 : BitVec 1 := Scalar.cmpi .eq c4_i32_15 c0_i32_16
  let c1_i32_17 : BitVec 32 := 1#32
  let v30 : BitVec 32 := Scalar.select v29 c1_i32_17 c4_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c1_i32_182 : BitVec 32 := 1#32
  let v288 : BitVec 32 := Scalar.muli v38 c1_i32_182
  let v289 : BitVec 32 := Scalar.addi v287 v288
  v289.toNat
def k0_dev18 (d0 : Dev nD) : Nat :=
  let c0_i32_190 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_21 : BitVec 32 := 0#32
  let v39 : BitVec 32 := Scalar.xori v2 c0_i32_21
  let c8_i32_189 : BitVec 32 := 8#32
  let v296 : BitVec 32 := Scalar.muli v39 c8_i32_189
  let v297 : BitVec 32 := Scalar.addi c0_i32_190 v296
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_22 : BitVec 32 := 0#32
  let v40 : BitVec 32 := Scalar.xori v5 c0_i32_22
  let c4_i32_191 : BitVec 32 := 4#32
  let v298 : BitVec 32 := Scalar.muli v40 c4_i32_191
  let v299 : BitVec 32 := Scalar.addi v297 v298
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v41 : BitVec 32 := Scalar.addi v8 c3_i32
  let c4_i32_23 : BitVec 32 := 4#32
  let c0_i32_24 : BitVec 32 := 0#32
  let v42 : BitVec 1 := Scalar.cmpi .eq c4_i32_23 c0_i32_24
  let c1_i32_25 : BitVec 32 := 1#32
  let v43 : BitVec 32 := Scalar.select v42 c1_i32_25 c4_i32_23
  let v44 : BitVec 32 := Scalar.remsi v41 v43
  let c0_i32_27 : BitVec 32 := 0#32
  let v46 : BitVec 1 := Scalar.cmpi .slt v44 c0_i32_27
  let c0_i32_28 : BitVec 32 := 0#32
  let v47 : BitVec 1 := Scalar.cmpi .slt v43 c0_i32_28
  let v48 : BitVec 1 := Scalar.xori v46 v47
  let c0_i32_26 : BitVec 32 := 0#32
  let v45 : BitVec 1 := Scalar.cmpi .ne v44 c0_i32_26
  let v49 : BitVec 1 := Scalar.andi v48 v45
  let v50 : BitVec 32 := Scalar.addi v44 v43
  let v51 : BitVec 32 := Scalar.select v49 v50 v44
  let c1_i32_192 : BitVec 32 := 1#32
  let v300 : BitVec 32 := Scalar.muli v51 c1_i32_192
  let v301 : BitVec 32 := Scalar.addi v299 v300
  v301.toNat
def k0_dev19 (d0 : Dev nD) : Nat :=
  let c0_i32_200 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_29 : BitVec 32 := 0#32
  let v52 : BitVec 32 := Scalar.xori v2 c0_i32_29
  let c8_i32_199 : BitVec 32 := 8#32
  let v308 : BitVec 32 := Scalar.muli v52 c8_i32_199
  let v309 : BitVec 32 := Scalar.addi c0_i32_200 v308
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_30 : BitVec 32 := 1#32
  let v53 : BitVec 32 := Scalar.xori v5 c1_i32_30
  let c4_i32_201 : BitVec 32 := 4#32
  let v310 : BitVec 32 := Scalar.muli v53 c4_i32_201
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_31 : BitVec 32 := 0#32
  let v54 : BitVec 32 := Scalar.addi v8 c0_i32_31
  let c4_i32_32 : BitVec 32 := 4#32
  let c0_i32_33 : BitVec 32 := 0#32
  let v55 : BitVec 1 := Scalar.cmpi .eq c4_i32_32 c0_i32_33
  let c1_i32_34 : BitVec 32 := 1#32
  let v56 : BitVec 32 := Scalar.select v55 c1_i32_34 c4_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c1_i32_202 : BitVec 32 := 1#32
  let v312 : BitVec 32 := Scalar.muli v64 c1_i32_202
  let v313 : BitVec 32 := Scalar.addi v311 v312
  v313.toNat
def k0_dev20 (d0 : Dev nD) : Nat :=
  let c0_i32_210 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_38 : BitVec 32 := 0#32
  let v65 : BitVec 32 := Scalar.xori v2 c0_i32_38
  let c8_i32_209 : BitVec 32 := 8#32
  let v320 : BitVec 32 := Scalar.muli v65 c8_i32_209
  let v321 : BitVec 32 := Scalar.addi c0_i32_210 v320
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_39 : BitVec 32 := 1#32
  let v66 : BitVec 32 := Scalar.xori v5 c1_i32_39
  let c4_i32_211 : BitVec 32 := 4#32
  let v322 : BitVec 32 := Scalar.muli v66 c4_i32_211
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v67 : BitVec 32 := Scalar.addi v8 c1_i32_40
  let c4_i32_41 : BitVec 32 := 4#32
  let c0_i32_42 : BitVec 32 := 0#32
  let v68 : BitVec 1 := Scalar.cmpi .eq c4_i32_41 c0_i32_42
  let c1_i32_43 : BitVec 32 := 1#32
  let v69 : BitVec 32 := Scalar.select v68 c1_i32_43 c4_i32_41
  let v70 : BitVec 32 := Scalar.remsi v67 v69
  let c0_i32_45 : BitVec 32 := 0#32
  let v72 : BitVec 1 := Scalar.cmpi .slt v70 c0_i32_45
  let c0_i32_46 : BitVec 32 := 0#32
  let v73 : BitVec 1 := Scalar.cmpi .slt v69 c0_i32_46
  let v74 : BitVec 1 := Scalar.xori v72 v73
  let c0_i32_44 : BitVec 32 := 0#32
  let v71 : BitVec 1 := Scalar.cmpi .ne v70 c0_i32_44
  let v75 : BitVec 1 := Scalar.andi v74 v71
  let v76 : BitVec 32 := Scalar.addi v70 v69
  let v77 : BitVec 32 := Scalar.select v75 v76 v70
  let c1_i32_212 : BitVec 32 := 1#32
  let v324 : BitVec 32 := Scalar.muli v77 c1_i32_212
  let v325 : BitVec 32 := Scalar.addi v323 v324
  v325.toNat
def k0_dev21 (d0 : Dev nD) : Nat :=
  let c0_i32_219 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_47 : BitVec 32 := 0#32
  let v78 : BitVec 32 := Scalar.xori v2 c0_i32_47
  let c8_i32_218 : BitVec 32 := 8#32
  let v332 : BitVec 32 := Scalar.muli v78 c8_i32_218
  let v333 : BitVec 32 := Scalar.addi c0_i32_219 v332
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_48 : BitVec 32 := 1#32
  let v79 : BitVec 32 := Scalar.xori v5 c1_i32_48
  let c4_i32_220 : BitVec 32 := 4#32
  let v334 : BitVec 32 := Scalar.muli v79 c4_i32_220
  let v335 : BitVec 32 := Scalar.addi v333 v334
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_49 : BitVec 32 := 2#32
  let v80 : BitVec 32 := Scalar.addi v8 c2_i32_49
  let c4_i32_50 : BitVec 32 := 4#32
  let c0_i32_51 : BitVec 32 := 0#32
  let v81 : BitVec 1 := Scalar.cmpi .eq c4_i32_50 c0_i32_51
  let c1_i32_52 : BitVec 32 := 1#32
  let v82 : BitVec 32 := Scalar.select v81 c1_i32_52 c4_i32_50
  let v83 : BitVec 32 := Scalar.remsi v80 v82
  let c0_i32_54 : BitVec 32 := 0#32
  let v85 : BitVec 1 := Scalar.cmpi .slt v83 c0_i32_54
  let c0_i32_55 : BitVec 32 := 0#32
  let v86 : BitVec 1 := Scalar.cmpi .slt v82 c0_i32_55
  let v87 : BitVec 1 := Scalar.xori v85 v86
  let c0_i32_53 : BitVec 32 := 0#32
  let v84 : BitVec 1 := Scalar.cmpi .ne v83 c0_i32_53
  let v88 : BitVec 1 := Scalar.andi v87 v84
  let v89 : BitVec 32 := Scalar.addi v83 v82
  let v90 : BitVec 32 := Scalar.select v88 v89 v83
  let c1_i32_221 : BitVec 32 := 1#32
  let v336 : BitVec 32 := Scalar.muli v90 c1_i32_221
  let v337 : BitVec 32 := Scalar.addi v335 v336
  v337.toNat
def k0_dev22 (d0 : Dev nD) : Nat :=
  let c0_i32_228 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_56 : BitVec 32 := 0#32
  let v91 : BitVec 32 := Scalar.xori v2 c0_i32_56
  let c8_i32_227 : BitVec 32 := 8#32
  let v344 : BitVec 32 := Scalar.muli v91 c8_i32_227
  let v345 : BitVec 32 := Scalar.addi c0_i32_228 v344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_57 : BitVec 32 := 1#32
  let v92 : BitVec 32 := Scalar.xori v5 c1_i32_57
  let c4_i32_229 : BitVec 32 := 4#32
  let v346 : BitVec 32 := Scalar.muli v92 c4_i32_229
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_58 : BitVec 32 := 3#32
  let v93 : BitVec 32 := Scalar.addi v8 c3_i32_58
  let c4_i32_59 : BitVec 32 := 4#32
  let c0_i32_60 : BitVec 32 := 0#32
  let v94 : BitVec 1 := Scalar.cmpi .eq c4_i32_59 c0_i32_60
  let c1_i32_61 : BitVec 32 := 1#32
  let v95 : BitVec 32 := Scalar.select v94 c1_i32_61 c4_i32_59
  let v96 : BitVec 32 := Scalar.remsi v93 v95
  let c0_i32_63 : BitVec 32 := 0#32
  let v98 : BitVec 1 := Scalar.cmpi .slt v96 c0_i32_63
  let c0_i32_64 : BitVec 32 := 0#32
  let v99 : BitVec 1 := Scalar.cmpi .slt v95 c0_i32_64
  let v100 : BitVec 1 := Scalar.xori v98 v99
  let c0_i32_62 : BitVec 32 := 0#32
  let v97 : BitVec 1 := Scalar.cmpi .ne v96 c0_i32_62
  let v101 : BitVec 1 := Scalar.andi v100 v97
  let v102 : BitVec 32 := Scalar.addi v96 v95
  let v103 : BitVec 32 := Scalar.select v101 v102 v96
  let c1_i32_230 : BitVec 32 := 1#32
  let v348 : BitVec 32 := Scalar.muli v103 c1_i32_230
  let v349 : BitVec 32 := Scalar.addi v347 v348
  v349.toNat
def k0_dev23 (d0 : Dev nD) : Nat :=
  let c0_i32_237 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_65 : BitVec 32 := 1#32
  let v104 : BitVec 32 := Scalar.xori v2 c1_i32_65
  let c8_i32_236 : BitVec 32 := 8#32
  let v356 : BitVec 32 := Scalar.muli v104 c8_i32_236
  let v357 : BitVec 32 := Scalar.addi c0_i32_237 v356
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_66 : BitVec 32 := 0#32
  let v105 : BitVec 32 := Scalar.xori v5 c0_i32_66
  let c4_i32_238 : BitVec 32 := 4#32
  let v358 : BitVec 32 := Scalar.muli v105 c4_i32_238
  let v359 : BitVec 32 := Scalar.addi v357 v358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_67 : BitVec 32 := 0#32
  let v106 : BitVec 32 := Scalar.addi v8 c0_i32_67
  let c4_i32_68 : BitVec 32 := 4#32
  let c0_i32_69 : BitVec 32 := 0#32
  let v107 : BitVec 1 := Scalar.cmpi .eq c4_i32_68 c0_i32_69
  let c1_i32_70 : BitVec 32 := 1#32
  let v108 : BitVec 32 := Scalar.select v107 c1_i32_70 c4_i32_68
  let v109 : BitVec 32 := Scalar.remsi v106 v108
  let c0_i32_72 : BitVec 32 := 0#32
  let v111 : BitVec 1 := Scalar.cmpi .slt v109 c0_i32_72
  let c0_i32_73 : BitVec 32 := 0#32
  let v112 : BitVec 1 := Scalar.cmpi .slt v108 c0_i32_73
  let v113 : BitVec 1 := Scalar.xori v111 v112
  let c0_i32_71 : BitVec 32 := 0#32
  let v110 : BitVec 1 := Scalar.cmpi .ne v109 c0_i32_71
  let v114 : BitVec 1 := Scalar.andi v113 v110
  let v115 : BitVec 32 := Scalar.addi v109 v108
  let v116 : BitVec 32 := Scalar.select v114 v115 v109
  let c1_i32_239 : BitVec 32 := 1#32
  let v360 : BitVec 32 := Scalar.muli v116 c1_i32_239
  let v361 : BitVec 32 := Scalar.addi v359 v360
  v361.toNat
def k0_dev24 (d0 : Dev nD) : Nat :=
  let c0_i32_247 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_74 : BitVec 32 := 1#32
  let v117 : BitVec 32 := Scalar.xori v2 c1_i32_74
  let c8_i32_246 : BitVec 32 := 8#32
  let v368 : BitVec 32 := Scalar.muli v117 c8_i32_246
  let v369 : BitVec 32 := Scalar.addi c0_i32_247 v368
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_75 : BitVec 32 := 0#32
  let v118 : BitVec 32 := Scalar.xori v5 c0_i32_75
  let c4_i32_248 : BitVec 32 := 4#32
  let v370 : BitVec 32 := Scalar.muli v118 c4_i32_248
  let v371 : BitVec 32 := Scalar.addi v369 v370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v119 : BitVec 32 := Scalar.addi v8 c1_i32_76
  let c4_i32_77 : BitVec 32 := 4#32
  let c0_i32_78 : BitVec 32 := 0#32
  let v120 : BitVec 1 := Scalar.cmpi .eq c4_i32_77 c0_i32_78
  let c1_i32_79 : BitVec 32 := 1#32
  let v121 : BitVec 32 := Scalar.select v120 c1_i32_79 c4_i32_77
  let v122 : BitVec 32 := Scalar.remsi v119 v121
  let c0_i32_81 : BitVec 32 := 0#32
  let v124 : BitVec 1 := Scalar.cmpi .slt v122 c0_i32_81
  let c0_i32_82 : BitVec 32 := 0#32
  let v125 : BitVec 1 := Scalar.cmpi .slt v121 c0_i32_82
  let v126 : BitVec 1 := Scalar.xori v124 v125
  let c0_i32_80 : BitVec 32 := 0#32
  let v123 : BitVec 1 := Scalar.cmpi .ne v122 c0_i32_80
  let v127 : BitVec 1 := Scalar.andi v126 v123
  let v128 : BitVec 32 := Scalar.addi v122 v121
  let v129 : BitVec 32 := Scalar.select v127 v128 v122
  let c1_i32_249 : BitVec 32 := 1#32
  let v372 : BitVec 32 := Scalar.muli v129 c1_i32_249
  let v373 : BitVec 32 := Scalar.addi v371 v372
  v373.toNat
def k0_dev25 (d0 : Dev nD) : Nat :=
  let c0_i32_256 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_83 : BitVec 32 := 1#32
  let v130 : BitVec 32 := Scalar.xori v2 c1_i32_83
  let c8_i32_255 : BitVec 32 := 8#32
  let v380 : BitVec 32 := Scalar.muli v130 c8_i32_255
  let v381 : BitVec 32 := Scalar.addi c0_i32_256 v380
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_84 : BitVec 32 := 0#32
  let v131 : BitVec 32 := Scalar.xori v5 c0_i32_84
  let c4_i32_257 : BitVec 32 := 4#32
  let v382 : BitVec 32 := Scalar.muli v131 c4_i32_257
  let v383 : BitVec 32 := Scalar.addi v381 v382
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_85 : BitVec 32 := 2#32
  let v132 : BitVec 32 := Scalar.addi v8 c2_i32_85
  let c4_i32_86 : BitVec 32 := 4#32
  let c0_i32_87 : BitVec 32 := 0#32
  let v133 : BitVec 1 := Scalar.cmpi .eq c4_i32_86 c0_i32_87
  let c1_i32_88 : BitVec 32 := 1#32
  let v134 : BitVec 32 := Scalar.select v133 c1_i32_88 c4_i32_86
  let v135 : BitVec 32 := Scalar.remsi v132 v134
  let c0_i32_90 : BitVec 32 := 0#32
  let v137 : BitVec 1 := Scalar.cmpi .slt v135 c0_i32_90
  let c0_i32_91 : BitVec 32 := 0#32
  let v138 : BitVec 1 := Scalar.cmpi .slt v134 c0_i32_91
  let v139 : BitVec 1 := Scalar.xori v137 v138
  let c0_i32_89 : BitVec 32 := 0#32
  let v136 : BitVec 1 := Scalar.cmpi .ne v135 c0_i32_89
  let v140 : BitVec 1 := Scalar.andi v139 v136
  let v141 : BitVec 32 := Scalar.addi v135 v134
  let v142 : BitVec 32 := Scalar.select v140 v141 v135
  let c1_i32_258 : BitVec 32 := 1#32
  let v384 : BitVec 32 := Scalar.muli v142 c1_i32_258
  let v385 : BitVec 32 := Scalar.addi v383 v384
  v385.toNat
def k0_dev26 (d0 : Dev nD) : Nat :=
  let c0_i32_265 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_92 : BitVec 32 := 1#32
  let v143 : BitVec 32 := Scalar.xori v2 c1_i32_92
  let c8_i32_264 : BitVec 32 := 8#32
  let v392 : BitVec 32 := Scalar.muli v143 c8_i32_264
  let v393 : BitVec 32 := Scalar.addi c0_i32_265 v392
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_93 : BitVec 32 := 0#32
  let v144 : BitVec 32 := Scalar.xori v5 c0_i32_93
  let c4_i32_266 : BitVec 32 := 4#32
  let v394 : BitVec 32 := Scalar.muli v144 c4_i32_266
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_94 : BitVec 32 := 3#32
  let v145 : BitVec 32 := Scalar.addi v8 c3_i32_94
  let c4_i32_95 : BitVec 32 := 4#32
  let c0_i32_96 : BitVec 32 := 0#32
  let v146 : BitVec 1 := Scalar.cmpi .eq c4_i32_95 c0_i32_96
  let c1_i32_97 : BitVec 32 := 1#32
  let v147 : BitVec 32 := Scalar.select v146 c1_i32_97 c4_i32_95
  let v148 : BitVec 32 := Scalar.remsi v145 v147
  let c0_i32_99 : BitVec 32 := 0#32
  let v150 : BitVec 1 := Scalar.cmpi .slt v148 c0_i32_99
  let c0_i32_100 : BitVec 32 := 0#32
  let v151 : BitVec 1 := Scalar.cmpi .slt v147 c0_i32_100
  let v152 : BitVec 1 := Scalar.xori v150 v151
  let c0_i32_98 : BitVec 32 := 0#32
  let v149 : BitVec 1 := Scalar.cmpi .ne v148 c0_i32_98
  let v153 : BitVec 1 := Scalar.andi v152 v149
  let v154 : BitVec 32 := Scalar.addi v148 v147
  let v155 : BitVec 32 := Scalar.select v153 v154 v148
  let c1_i32_267 : BitVec 32 := 1#32
  let v396 : BitVec 32 := Scalar.muli v155 c1_i32_267
  let v397 : BitVec 32 := Scalar.addi v395 v396
  v397.toNat
def k0_dev27 (d0 : Dev nD) : Nat :=
  let c0_i32_274 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_101 : BitVec 32 := 1#32
  let v156 : BitVec 32 := Scalar.xori v2 c1_i32_101
  let c8_i32_273 : BitVec 32 := 8#32
  let v404 : BitVec 32 := Scalar.muli v156 c8_i32_273
  let v405 : BitVec 32 := Scalar.addi c0_i32_274 v404
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_102 : BitVec 32 := 1#32
  let v157 : BitVec 32 := Scalar.xori v5 c1_i32_102
  let c4_i32_275 : BitVec 32 := 4#32
  let v406 : BitVec 32 := Scalar.muli v157 c4_i32_275
  let v407 : BitVec 32 := Scalar.addi v405 v406
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_103 : BitVec 32 := 0#32
  let v158 : BitVec 32 := Scalar.addi v8 c0_i32_103
  let c4_i32_104 : BitVec 32 := 4#32
  let c0_i32_105 : BitVec 32 := 0#32
  let v159 : BitVec 1 := Scalar.cmpi .eq c4_i32_104 c0_i32_105
  let c1_i32_106 : BitVec 32 := 1#32
  let v160 : BitVec 32 := Scalar.select v159 c1_i32_106 c4_i32_104
  let v161 : BitVec 32 := Scalar.remsi v158 v160
  let c0_i32_108 : BitVec 32 := 0#32
  let v163 : BitVec 1 := Scalar.cmpi .slt v161 c0_i32_108
  let c0_i32_109 : BitVec 32 := 0#32
  let v164 : BitVec 1 := Scalar.cmpi .slt v160 c0_i32_109
  let v165 : BitVec 1 := Scalar.xori v163 v164
  let c0_i32_107 : BitVec 32 := 0#32
  let v162 : BitVec 1 := Scalar.cmpi .ne v161 c0_i32_107
  let v166 : BitVec 1 := Scalar.andi v165 v162
  let v167 : BitVec 32 := Scalar.addi v161 v160
  let v168 : BitVec 32 := Scalar.select v166 v167 v161
  let c1_i32_276 : BitVec 32 := 1#32
  let v408 : BitVec 32 := Scalar.muli v168 c1_i32_276
  let v409 : BitVec 32 := Scalar.addi v407 v408
  v409.toNat
def k0_dev28 (d0 : Dev nD) : Nat :=
  let c0_i32_283 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_110 : BitVec 32 := 1#32
  let v169 : BitVec 32 := Scalar.xori v2 c1_i32_110
  let c8_i32_282 : BitVec 32 := 8#32
  let v416 : BitVec 32 := Scalar.muli v169 c8_i32_282
  let v417 : BitVec 32 := Scalar.addi c0_i32_283 v416
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_111 : BitVec 32 := 1#32
  let v170 : BitVec 32 := Scalar.xori v5 c1_i32_111
  let c4_i32_284 : BitVec 32 := 4#32
  let v418 : BitVec 32 := Scalar.muli v170 c4_i32_284
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v171 : BitVec 32 := Scalar.addi v8 c1_i32_112
  let c4_i32_113 : BitVec 32 := 4#32
  let c0_i32_114 : BitVec 32 := 0#32
  let v172 : BitVec 1 := Scalar.cmpi .eq c4_i32_113 c0_i32_114
  let c1_i32_115 : BitVec 32 := 1#32
  let v173 : BitVec 32 := Scalar.select v172 c1_i32_115 c4_i32_113
  let v174 : BitVec 32 := Scalar.remsi v171 v173
  let c0_i32_117 : BitVec 32 := 0#32
  let v176 : BitVec 1 := Scalar.cmpi .slt v174 c0_i32_117
  let c0_i32_118 : BitVec 32 := 0#32
  let v177 : BitVec 1 := Scalar.cmpi .slt v173 c0_i32_118
  let v178 : BitVec 1 := Scalar.xori v176 v177
  let c0_i32_116 : BitVec 32 := 0#32
  let v175 : BitVec 1 := Scalar.cmpi .ne v174 c0_i32_116
  let v179 : BitVec 1 := Scalar.andi v178 v175
  let v180 : BitVec 32 := Scalar.addi v174 v173
  let v181 : BitVec 32 := Scalar.select v179 v180 v174
  let c1_i32_285 : BitVec 32 := 1#32
  let v420 : BitVec 32 := Scalar.muli v181 c1_i32_285
  let v421 : BitVec 32 := Scalar.addi v419 v420
  v421.toNat
def k0_dev29 (d0 : Dev nD) : Nat :=
  let c0_i32_292 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_119 : BitVec 32 := 1#32
  let v182 : BitVec 32 := Scalar.xori v2 c1_i32_119
  let c8_i32_291 : BitVec 32 := 8#32
  let v428 : BitVec 32 := Scalar.muli v182 c8_i32_291
  let v429 : BitVec 32 := Scalar.addi c0_i32_292 v428
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_120 : BitVec 32 := 1#32
  let v183 : BitVec 32 := Scalar.xori v5 c1_i32_120
  let c4_i32_293 : BitVec 32 := 4#32
  let v430 : BitVec 32 := Scalar.muli v183 c4_i32_293
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_121 : BitVec 32 := 2#32
  let v184 : BitVec 32 := Scalar.addi v8 c2_i32_121
  let c4_i32_122 : BitVec 32 := 4#32
  let c0_i32_123 : BitVec 32 := 0#32
  let v185 : BitVec 1 := Scalar.cmpi .eq c4_i32_122 c0_i32_123
  let c1_i32_124 : BitVec 32 := 1#32
  let v186 : BitVec 32 := Scalar.select v185 c1_i32_124 c4_i32_122
  let v187 : BitVec 32 := Scalar.remsi v184 v186
  let c0_i32_126 : BitVec 32 := 0#32
  let v189 : BitVec 1 := Scalar.cmpi .slt v187 c0_i32_126
  let c0_i32_127 : BitVec 32 := 0#32
  let v190 : BitVec 1 := Scalar.cmpi .slt v186 c0_i32_127
  let v191 : BitVec 1 := Scalar.xori v189 v190
  let c0_i32_125 : BitVec 32 := 0#32
  let v188 : BitVec 1 := Scalar.cmpi .ne v187 c0_i32_125
  let v192 : BitVec 1 := Scalar.andi v191 v188
  let v193 : BitVec 32 := Scalar.addi v187 v186
  let v194 : BitVec 32 := Scalar.select v192 v193 v187
  let c1_i32_294 : BitVec 32 := 1#32
  let v432 : BitVec 32 := Scalar.muli v194 c1_i32_294
  let v433 : BitVec 32 := Scalar.addi v431 v432
  v433.toNat
def k0_dev30 (d0 : Dev nD) : Nat :=
  let c0_i32_301 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_128 : BitVec 32 := 1#32
  let v195 : BitVec 32 := Scalar.xori v2 c1_i32_128
  let c8_i32_300 : BitVec 32 := 8#32
  let v440 : BitVec 32 := Scalar.muli v195 c8_i32_300
  let v441 : BitVec 32 := Scalar.addi c0_i32_301 v440
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_129 : BitVec 32 := 1#32
  let v196 : BitVec 32 := Scalar.xori v5 c1_i32_129
  let c4_i32_302 : BitVec 32 := 4#32
  let v442 : BitVec 32 := Scalar.muli v196 c4_i32_302
  let v443 : BitVec 32 := Scalar.addi v441 v442
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_130 : BitVec 32 := 3#32
  let v197 : BitVec 32 := Scalar.addi v8 c3_i32_130
  let c4_i32_131 : BitVec 32 := 4#32
  let c0_i32_132 : BitVec 32 := 0#32
  let v198 : BitVec 1 := Scalar.cmpi .eq c4_i32_131 c0_i32_132
  let c1_i32_133 : BitVec 32 := 1#32
  let v199 : BitVec 32 := Scalar.select v198 c1_i32_133 c4_i32_131
  let v200 : BitVec 32 := Scalar.remsi v197 v199
  let c0_i32_135 : BitVec 32 := 0#32
  let v202 : BitVec 1 := Scalar.cmpi .slt v200 c0_i32_135
  let c0_i32_136 : BitVec 32 := 0#32
  let v203 : BitVec 1 := Scalar.cmpi .slt v199 c0_i32_136
  let v204 : BitVec 1 := Scalar.xori v202 v203
  let c0_i32_134 : BitVec 32 := 0#32
  let v201 : BitVec 1 := Scalar.cmpi .ne v200 c0_i32_134
  let v205 : BitVec 1 := Scalar.andi v204 v201
  let v206 : BitVec 32 := Scalar.addi v200 v199
  let v207 : BitVec 32 := Scalar.select v205 v206 v200
  let c1_i32_303 : BitVec 32 := 1#32
  let v444 : BitVec 32 := Scalar.muli v207 c1_i32_303
  let v445 : BitVec 32 := Scalar.addi v443 v444
  v445.toNat
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S4x1x16x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16x1x16x64 : Shape := ⟨4, ![16, 1, 16, 64]⟩
abbrev S16x2048x16x64 : Shape := ⟨4, ![16, 2048, 16, 64]⟩
abbrev S16x16x1x2048 : Shape := ⟨4, ![16, 16, 1, 2048]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 23
  | .vmem => 0
  | .smem => 0
  | _ => 0

abbrev bufTy : (tb : Table) → Fin (tcTables nBuf tb) → BufTy
  | .hbm, ⟨0, _⟩ => ⟨S16x1x16x64, .bf16⟩
  | .hbm, ⟨1, _⟩ => ⟨S16x2048x16x64, .bf16⟩
  | .hbm, ⟨2, _⟩ => ⟨S16x2048x16x64, .bf16⟩
  | .hbm, ⟨3, _⟩ => ⟨S16x1x16x64, .f32⟩
  | .hbm, ⟨4, _⟩ => ⟨S16x2048x16x64, .f32⟩
  | .hbm, ⟨5, _⟩ => ⟨S16x2048x16x64, .f32⟩
  | .hbm, ⟨6, _⟩ => ⟨S16x16x1x2048, .f32⟩
  | .hbm, ⟨7, _⟩ => ⟨S_, .f32⟩
  | .hbm, ⟨8, _⟩ => ⟨S16x16x1x2048, .f32⟩
  | .hbm, ⟨9, _⟩ => ⟨S16x16x1x2048, .f32⟩
  | .hbm, ⟨10, _⟩ => ⟨S_, .f32⟩
  | .hbm, ⟨11, _⟩ => ⟨S16x16x1, .f32⟩
  | .hbm, ⟨12, _⟩ => ⟨S16x16x1x1, .f32⟩
  | .hbm, ⟨13, _⟩ => ⟨S16x16x1x2048, .f32⟩
  | .hbm, ⟨14, _⟩ => ⟨S16x16x1x2048, .f32⟩
  | .hbm, ⟨15, _⟩ => ⟨S16x16x1x2048, .f32⟩
  | .hbm, ⟨16, _⟩ => ⟨S_, .f32⟩
  | .hbm, ⟨17, _⟩ => ⟨S16x16x1, .f32⟩
  | .hbm, ⟨18, _⟩ => ⟨S16x16x1x1, .f32⟩
  | .hbm, ⟨19, _⟩ => ⟨S16x16x1x2048, .f32⟩
  | .hbm, ⟨20, _⟩ => ⟨S16x16x1x2048, .f32⟩
  | .hbm, ⟨21, _⟩ => ⟨S16x16x64x1, .f32⟩
  | .hbm, ⟨22, _⟩ => ⟨S16x1x16x64, .f32⟩
  | _, _ => ⟨S16x1x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Mesh.lean ====
/-
The mesh of sixteen devices as the kernel uses it: the peers a device exchanges with, named by the fifteen non-zero
offsets `j`, and the closed forms of the device numbers and of the buffer offsets the kernel computes.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384
set_option backward.proofsInPublic true

noncomputable section

namespace Cert.KernelIdeal.Mesh

open Idealize.ShloMosaic Idealize.ShloMosaic.TcCoe

/-! ## The peers -/

/-- The device at offset `j` from device `c`: `j + 1` read in the mixed base (2, 2, 4) is added coordinate by coordinate. -/
def peer (j : Fin 15) (c : Dev nD) : Dev nD :=
  ⟨((c.val / 8 + (j.val + 1) / 8) % 2) * 8 + ((c.val / 4 % 2 + (j.val + 1) / 4 % 2) % 2) * 4 + (c.val % 4 + (j.val + 1) % 4) % 4,
    show _ < 16 by omega⟩

/-- The device whose peer at offset `j` is `c`. -/
def inv (j : Fin 15) (c : Dev nD) : Dev nD :=
  ⟨((c.val / 8 + (j.val + 1) / 8) % 2) * 8 + ((c.val / 4 % 2 + (j.val + 1) / 4 % 2) % 2) * 4 + (c.val % 4 + 4 - (j.val + 1) % 4) % 4,
    show _ < 16 by omega⟩

/-- The opposite offset. -/
def neg (j : Fin 15) : Fin 15 := ⟨((j.val + 1) / 4) * 4 + (4 - (j.val + 1) % 4) % 4 - 1, by omega⟩

theorem inv_peer (j : Fin 15) (c : Dev nD) : inv j (peer j c) = c := by revert j c; decide
theorem peer_inv (j : Fin 15) (c : Dev nD) : peer j (inv j c) = c := by revert j c; decide
theorem inv_neg (j : Fin 15) (c : Dev nD) : inv (neg j) c = peer j c := by revert j c; decide
theorem neg_neg (j : Fin 15) : neg (neg j) = j := by revert j; decide
theorem inv_ne (j : Fin 15) (c : Dev nD) : inv j c ≠ c := by revert j c; decide
theorem peer_ne (j : Fin 15) (c : Dev nD) : peer j c ≠ c := by revert j c; decide

/-- The devices at offset `j` and at the opposite offset permute the mesh. -/
def peerE (j : Fin 15) : Dev nD ≃ Dev nD := ⟨peer j, inv j, inv_peer j, peer_inv j⟩

/-- The offset at which `c` finds `d` as a peer (any offset when `d` is `c`). -/
def off (c d : Dev nD) : Fin 15 :=
  ⟨(((c.val / 8 + d.val / 8) % 2) * 8 + ((c.val / 4 % 2 + d.val / 4 % 2) % 2) * 4 + (d.val % 4 + 4 - c.val % 4) % 4 + 14) % 15,
    Nat.mod_lt _ (by decide)⟩

theorem peer_off (c d : Dev nD) (h : d ≠ c) : peer (off c d) c = d := by revert c d; decide
theorem off_peer (j : Fin 15) (c : Dev nD) : off c (peer j c) = j := by revert j c; decide

/-- The fifteen offsets name the fifteen other devices once each. -/
def others (c : Dev nD) : Fin 15 ≃ {d : Dev nD // d ≠ c} where
  toFun j := ⟨peer j c, peer_ne j c⟩
  invFun d := off c d.1
  left_inv j := off_peer j c
  right_inv d := Subtype.ext (peer_off c d.1 d.2)

/-! ## What the kernel computes -/

/-- The table word of device `c`: its place among the eight devices of its half. -/
def tw (c : Dev nD) : BitVec 32 := BitVec.ofNat 32 (c.val % 8)

theorem dev1_eq (c : Dev nD) : k0_dev1 c = (peer 0 c).val := by revert c; decide
theorem dev2_eq (c : Dev nD) : k0_dev2 c = (peer 1 c).val := by revert c; decide
theorem dev3_eq (c : Dev nD) : k0_dev3 c = (peer 2 c).val := by revert c; decide
theorem dev4_eq (c : Dev nD) : k0_dev4 c = (peer 3 c).val := by revert c; decide
theorem dev5_eq (c : Dev nD) : k0_dev5 c = (peer 4 c).val := by revert c; decide
theorem dev6_eq (c : Dev nD) : k0_dev6 c = (peer 5 c).val := by revert c; decide
theorem dev7_eq (c : Dev nD) : k0_dev7 c = (peer 6 c).val := by revert c; decide
theorem dev8_eq (c : Dev nD) : k0_dev8 c = (peer 7 c).val := by revert c; decide
theorem dev9_eq (c : Dev nD) : k0_dev9 c = (peer 8 c).val := by revert c; decide
theorem dev10_eq (c : Dev nD) : k0_dev10 c = (peer 9 c).val := by revert c; decide
theorem dev11_eq (c : Dev nD) : k0_dev11 c = (peer 10 c).val := by revert c; decide
theorem dev12_eq (c : Dev nD) : k0_dev12 c = (peer 11 c).val := by revert c; decide
theorem dev13_eq (c : Dev nD) : k0_dev13 c = (peer 12 c).val := by revert c; decide
theorem dev14_eq (c : Dev nD) : k0_dev14 c = (peer 13 c).val := by revert c; decide
theorem dev15_eq (c : Dev nD) : k0_dev15 c = (peer 14 c).val := by revert c; decide
theorem dev16_eq (c : Dev nD) : k0_dev16 c = (peer 0 c).val := by revert c; decide
theorem dev17_eq (c : Dev nD) : k0_dev17 c = (peer 1 c).val := by revert c; decide
theorem dev18_eq (c : Dev nD) : k0_dev18 c = (peer 2 c).val := by revert c; decide
theorem dev19_eq (c : Dev nD) : k0_dev19 c = (peer 3 c).val := by revert c; decide
theorem dev20_eq (c : Dev nD) : k0_dev20 c = (peer 4 c).val := by revert c; decide
theorem dev21_eq (c : Dev nD) : k0_dev21 c = (peer 5 c).val := by revert c; decide
theorem dev22_eq (c : Dev nD) : k0_dev22 c = (peer 6 c).val := by revert c; decide
theorem dev23_eq (c : Dev nD) : k0_dev23 c = (peer 7 c).val := by revert c; decide
theorem dev24_eq (c : Dev nD) : k0_dev24 c = (peer 8 c).val := by revert c; decide
theorem dev25_eq (c : Dev nD) : k0_dev25 c = (peer 9 c).val := by revert c; decide
theorem dev26_eq (c : Dev nD) : k0_dev26 c = (peer 10 c).val := by revert c; decide
theorem dev27_eq (c : Dev nD) : k0_dev27 c = (peer 11 c).val := by revert c; decide
theorem dev28_eq (c : Dev nD) : k0_dev28 c = (peer 12 c).val := by revert c; decide
theorem dev29_eq (c : Dev nD) : k0_dev29 c = (peer 13 c).val := by revert c; decide
theorem dev30_eq (c : Dev nD) : k0_dev30 c = (peer 14 c).val := by revert c; decide

theorem off1_eq (c : Dev nD) : k0_off1 (tw c) = ![0, 0, 2 * (c.val % 8), 0] := by revert c; decide
theorem off2_eq (t : Fin grid0.N) (c : Dev nD) : k0_off2 (grid0.coords t) c (tw c) = ![c.val, 8 * t.val, 0] := by revert t c; decide
theorem off3_eq (c : Dev nD) : k0_off3 c (tw c) = ![c.val, 32, 0] := by revert c; decide
theorem off4_eq (c : Dev nD) : k0_off4 c (tw c) = ![c.val, 32, 32] := by revert c; decide
theorem off5_eq (c : Dev nD) : k0_off5 c (tw c) = ![c.val, 32, 8] := by revert c; decide
theorem off6_eq (c : Dev nD) : k0_off6 c (tw c) = ![c.val, 32, 40] := by revert c; decide
theorem off7_eq (c : Dev nD) : k0_off7 c (tw c) = ![c.val, 32, 16] := by revert c; decide
theorem off8_eq (c : Dev nD) : k0_off8 c (tw c) = ![c.val, 32, 48] := by revert c; decide
theorem off9_eq (c : Dev nD) : k0_off9 c (tw c) = ![c.val, 32, 24] := by revert c; decide
theorem off10_eq (c : Dev nD) : k0_off10 c (tw c) = ![c.val, 32, 56] := by revert c; decide
theorem off11_eq (c : Dev nD) : k0_off11 c (tw c) = ![c.val, 0, 0] := by revert c; decide

/-- The conditions on the grid point: the first holds at point 0, the four of the statistics at one point each, the last at point 3. -/
theorem conds : ∀ t : Fin grid0.N,
    (k0_cond1 (grid0.coords t) = 1#1 ↔ t.val = 0) ∧ (k0_cond2 (grid0.coords t) = 1#1 ↔ t.val = 0) ∧ (k0_cond3 (grid0.coords t) = 1#1 ↔ t.val = 1)
      ∧ (k0_cond4 (grid0.coords t) = 1#1 ↔ t.val = 2) ∧ (k0_cond5 (grid0.coords t) = 1#1 ↔ t.val = 3) ∧ (k0_cond6 (grid0.coords t) = 1#1 ↔ t.val = 3) := by
  decide

/-- The word's side condition holds at the device's own table word. -/
theorem chk (t : Fin grid0.N) (c : Dev nD) : k0_chk1 (grid0.coords t) c (tw c) := by
  have hc : c.val < 16 := c.isLt
  have hi : t.val < 4 := lt_of_lt_of_eq t.isLt Gen.N_0
  unfold k0_chk1
  rw [off1_eq, off2_eq, off3_eq, off4_eq, off5_eq, off6_eq, off7_eq, off8_eq, off9_eq, off10_eq, off11_eq]
  refine ⟨?_, ?_, ?_, ?_, ?_, ?_, ?_, ?_, ?_, ?_, ?_⟩
  · intro a; fin_cases a <;> simp [Shape.size] <;> omega
  · intro a; fin_cases a <;> simp [Shape.size] <;> omega
  all_goals (intro _ a; fin_cases a <;> simp [Shape.size] <;> omega)

end Cert.KernelIdeal.Mesh
-- ==== Proof.Proto.lean ====
/-
The protocol of the exchange. Every device has one barrier cell, which the fifteen other devices pay one unit each at
the first grid point, and for every offset `j` a send and a receive cell. What a barrier unit hands over is the block
of the payer's exchange buffer the receiver of the unit will write; what a receive cell's credit hands over is that
block, holding what the sender computed; what a send cell's credit gives back is the lent share of the sender's block.
-/
module

public import proofs.«01_k».proof.Proof.Mesh
public import Idealize.ShloMosaic.Lib.Rounds.Family
public import Idealize.ShloMosaic.Lib.ShareLeaves

@[expose] public section

set_option maxRecDepth 16384
set_option backward.proofsInPublic true

noncomputable section

namespace Cert.KernelIdeal.Ring

open Cert.KernelIdeal Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's and the exchange's -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The offsets still to do and the offsets done -/

/-- The offsets from `n` on. -/
def rem (n : ℕ) : Finset (Fin 15) := Finset.univ.filter fun j => n ≤ j.val
/-- The offsets below `n`. -/
def don (n : ℕ) : Finset (Fin 15) := Finset.univ.filter fun j => j.val < n

theorem rem_zero : rem 0 = Finset.univ := by decide
theorem rem_end : rem 15 = ∅ := by decide
theorem don_zero : don 0 = ∅ := by decide
theorem don_end : don 15 = Finset.univ := by decide
theorem rem_step (j : Fin 15) : rem j.val = insert j (rem (j.val + 1)) := by revert j; decide
theorem don_step (j : Fin 15) : don (j.val + 1) = insert j (don j.val) := by revert j; decide
theorem rem_not (j : Fin 15) : j ∉ rem (j.val + 1) := by revert j; decide
theorem don_not (j : Fin 15) : j ∉ don j.val := by revert j; decide

/-! ## Buffers, blocks and cells -/

abbrev pM : Memref sig .tc .vmem S16x34x64 .f32 := Memref.whole cc0_scratch0

/-- The last grid point. -/
def t3 : Fin grid0.N := ⟨3, by decide⟩
theorem h6 : k0_cond6 (grid0.coords t3) = 1#1 := ((conds t3).2.2.2.2.2).mpr rfl

/-- Device `s`'s block of the exchange buffer, as the transfers name it. -/
abbrev bM (s : Dev nD) : Memref sig .tc .vmem S1x34x64 .f32 :=
  pM.slice (Rect.unit (s := S16x34x64) (k0_off11 s (tw s)) S1x34x64.size (k0_off11_inb (grid0.coords t3) s (tw s) (chk t3 s) h6)) (fun _ => rfl)

/-- Its elements: first coordinate `s`. -/
def blk (s : Dev nD) : Finset S16x34x64.Idx := Finset.univ.filter fun i => (i 0).val = s.val

theorem mem_blk {s : Dev nD} {i : S16x34x64.Idx} : i ∈ blk s ↔ (i 0).val = s.val := by unfold blk; simp

theorem bM_set (s : Dev nD) : ((bM s).view.set : Finset S16x34x64.Idx) = blk s := by
  have e : ((bM s).view.set : Finset S16x34x64.Idx)
      = (Rect.unit (s := S16x34x64) (k0_off11 s (tw s)) S1x34x64.size (k0_off11_inb (grid0.coords t3) s (tw s) (chk t3 s) h6)).set := by
    refine (View.set_slice _ _).trans ?_
    ext i; simp [Memref.view_whole]
    exact ⟨fun ⟨a, h, e⟩ => e ▸ h, fun h => ⟨i, h, rfl⟩⟩
  rw [e]; ext i
  rw [Rect.mem_set_unit, mem_blk]
  have e0 : ∀ a, k0_off11 s (tw s) a = (![s.val, 0, 0] : Fin 3 → ℕ) a := fun a => congrFun (off11_eq s) a
  constructor
  · intro h
    have := h 0; rw [e0] at this
    simp [Shape.size] at this; omega
  · intro h a
    rw [e0]
    have hi := (i a).isLt
    fin_cases a <;> simp [Shape.size] at hi ⊢ <;> omega

theorem blk_disj {s s' : Dev nD} (h : s ≠ s') : Disjoint (blk s) (blk s') := by
  rw [Finset.disjoint_left]; intro i hi hj
  exact h (Fin.ext ((mem_blk.mp hi).symm.trans (mem_blk.mp hj)))

theorem blk_all : (Finset.univ : Finset (Dev nD)).biUnion blk = Finset.univ := by
  ext i; simp only [Finset.mem_biUnion, Finset.mem_univ, true_and, iff_true]
  exact ⟨⟨(i 0).val, (i 0).isLt⟩, mem_blk.mpr rfl⟩

abbrev barS : Sem sig := (SemArray.scalar (sig.barrier 0 rfl) : Sems sig S_).sem
/-- The send and the receive semaphore of offset `j`. -/
def sendS (j : Fin 15) : DmaSem sig := (⟨7 + j.val, by omega⟩ : Fin 37)
def recvS (j : Fin 15) : DmaSem sig := (⟨22 + j.val, by omega⟩ : Fin 37)

abbrev barCell (c : Dev nD) : GSem nD τ sig := ((c : Thread nD τ), .reg barS)
abbrev sendCell (c : Dev nD) (j : Fin 15) : GSem nD τ sig := ((c : Thread nD τ), .dma (sendS j))
abbrev recvCell (c : Dev nD) (j : Fin 15) : GSem nD τ sig := ((c : Thread nD τ), .dma (recvS j))

theorem sendS_inj : ∀ j j' : Fin 15, sendS j = sendS j' → j = j' := by decide
theorem recvS_inj : ∀ j j' : Fin 15, recvS j = recvS j' → j = j' := by decide
theorem send_ne_recv : ∀ j j' : Fin 15, sendS j ≠ recvS j' := by decide

/-- The credit of one block's transfer. -/
def N : ℕ := (bM 0).view.dmaCredit
theorem credit_eq (v : View sig .tc .vmem S1x34x64 .f32) (hb : v.buf = (bM 0).view.buf) : v.dmaCredit = N := by
  unfold N View.dmaCredit; rw [hb]
theorem N_eq (s : Dev nD) : (bM s).view.dmaCredit = N := credit_eq _ rfl
theorem N_pos : 0 < N := View.dmaCredit_pos _ (by decide)

/-! ## What the cells hand over -/

/-- A part of device `c`'s exchange buffer at share `q`. -/
abbrev pts (c : Dev nD) (I : Finset S16x34x64.Idx) (q : PosShare TreeShare) (f : S16x34x64.Idx → Elt F .f32) : sProp 𝕄 :=
  (c : Thread nD τ).loc cc0_scratch0 ↦[I]{q} f

variable (PB : S16x34x64.Idx → Elt F .f32)

/-- Contents that are, on block `s` and off the one row nobody writes, the contents `PB`. -/
def Good (s : Dev nD) (f : S16x34x64.Idx → Elt F .f32) : Prop := ∀ i, (i 0).val = s.val → (i 1).val ≠ 33 → f i = PB i

def lf (j : Fin 15) : PosShare TreeShare := ShareLeaves.leaf 4 fullShare ⟨j.val + 1, by omega⟩
def lf0 : PosShare TreeShare := ShareLeaves.leaf 4 fullShare ⟨0, by omega⟩

/-- What the unit at offset `d` hands device `c`: the payer's block `c`, and that the payer reached its receive cell. -/
def barPay (c : Dev nD) (d : Fin 15) : sProp 𝕄 :=
  iprop((∃ f, pts (inv d c) (blk c) fullShare f) ∗ reached ER (recvCell (inv d c) (neg d)) 0)
def recvPay (c : Dev nD) (d : Fin 15) : sProp 𝕄 := iprop(∃ f, ⌜Good PB (inv d c) f⌝ ∗ pts c (blk (inv d c)) fullShare f)
def sendPay (c : Dev nD) (d : Fin 15) : sProp 𝕄 := iprop(∃ f, pts c (blk c) (lf d) f)

/-- One round: a barrier cell has one duty of one unit per offset, a send or receive cell of offset `d` the duty `d`. -/
def Rd : Rounds.Schedule (GSem nD τ sig) (Fin 15) 𝕄 where
  duties g r := if r = 0 ∧ g.1.2 = .tc then
    Finset.univ.filter (fun d => g.2 = .reg barS ∨ g.2 = .dma (sendS d) ∨ g.2 = .dma (recvS d)) else ∅
  unitless _ := False
  amount g _ _ := if g.2 = .reg barS then 1 else N
  payload g _ d :=
    if g.2 = .reg barS then barPay g.1.1 d
    else if g.2 = .dma (recvS d) then recvPay PB g.1.1 d
    else sendPay g.1.1 d
  amount_pos g _ _ _ := by
    by_cases h : g.2 = .reg barS
    · rw [if_pos h]; exact Nat.one_pos
    · rw [if_neg h]; exact N_pos

omit [FloatOps F] in
instance barPay_storable (c : Dev nD) (d : Fin 15) : BI.Storable (upEmb : UEmb _ 𝕄) (barPay (F := F) c d) := by
  unfold barPay; infer_instance
omit [FloatOps F] in
instance recvPay_storable (c : Dev nD) (d : Fin 15) : BI.Storable (upEmb : UEmb _ 𝕄) (recvPay (F := F) PB c d) := by
  unfold recvPay; infer_instance
omit [FloatOps F] in
instance sendPay_storable (c : Dev nD) (d : Fin 15) : BI.Storable (upEmb : UEmb _ 𝕄) (sendPay (F := F) c d) := by
  unfold sendPay; infer_instance

omit [FloatOps F] in
instance payload_storable (g : GSem nD τ sig) (r : ℕ) (d : Fin 15) : BI.Storable (upEmb : UEmb _ 𝕄) ((Rd (F := F) PB).payload g r d) := by
  show BI.Storable upEmb (if g.2 = .reg barS then barPay g.1.1 d else if g.2 = .dma (recvS d) then recvPay PB g.1.1 d else sendPay g.1.1 d)
  (repeat' split) <;> infer_instance

section Table
omit [FloatOps F]
variable (c : Dev nD) (j : Fin 15)

theorem dma_ne_bar (s : DmaSem sig) : (SemLoc.dma s : SemLoc sig) ≠ .reg barS := fun h => by cases h

theorem duties_bar : (Rd PB).duties (barCell c) 0 = Finset.univ := by
  dsimp only [Rd]; rw [if_pos ⟨rfl, rfl⟩]; ext d; simp
theorem duties_send : (Rd PB).duties (sendCell c j) 0 = {j} := by
  dsimp only [Rd]; rw [if_pos ⟨rfl, rfl⟩]; ext d
  simp only [Finset.mem_filter, Finset.mem_univ, true_and, Finset.mem_singleton]
  constructor
  · rintro (h | h | h)
    · cases h
    · exact (sendS_inj _ _ (SemLoc.dma.inj h)).symm
    · exact absurd (SemLoc.dma.inj h) (send_ne_recv _ _)
  · rintro rfl; exact .inr (.inl rfl)
theorem duties_recv : (Rd PB).duties (recvCell c j) 0 = {j} := by
  dsimp only [Rd]; rw [if_pos ⟨rfl, rfl⟩]; ext d
  simp only [Finset.mem_filter, Finset.mem_univ, true_and, Finset.mem_singleton]
  constructor
  · rintro (h | h | h)
    · cases h
    · exact absurd (SemLoc.dma.inj h).symm (send_ne_recv _ _)
    · exact (recvS_inj _ _ (SemLoc.dma.inj h)).symm
  · rintro rfl; exact .inr (.inr rfl)
theorem duties_later (g : GSem nD τ sig) : ∀ r, 1 ≤ r → (Rd PB).duties g r = ∅ :=
  fun r hr => by dsimp only [Rd]; exact if_neg fun h => by omega

theorem amount_bar (d : Fin 15) : (Rd PB).amount (barCell c) 0 d = 1 := by dsimp only [Rd]; exact if_pos rfl
theorem amount_send (d : Fin 15) : (Rd PB).amount (sendCell c j) 0 d = N := by dsimp only [Rd]; exact if_neg (dma_ne_bar _)
theorem amount_recv (d : Fin 15) : (Rd PB).amount (recvCell c j) 0 d = N := by dsimp only [Rd]; exact if_neg (dma_ne_bar _)

theorem expect_bar : (Rd PB).expect (barCell c) 0 = 15 := by
  unfold Schedule.expect Schedule.amountOf
  rw [duties_bar, Finset.sum_congr rfl fun d _ => amount_bar PB c d, Finset.sum_const, Finset.card_univ, Fintype.card_fin, smul_eq_mul]
theorem expect_send : (Rd PB).expect (sendCell c j) 0 = N := by
  unfold Schedule.expect Schedule.amountOf; rw [duties_send, Finset.sum_singleton, amount_send]
theorem expect_recv : (Rd PB).expect (recvCell c j) 0 = N := by
  unfold Schedule.expect Schedule.amountOf; rw [duties_recv, Finset.sum_singleton, amount_recv]

theorem payload_bar (d : Fin 15) : (Rd PB).payload (barCell c) 0 d = barPay c d := by dsimp only [Rd]; exact if_pos rfl
theorem payload_recv : (Rd PB).payload (recvCell c j) 0 j = recvPay PB c j := by
  dsimp only [Rd]; rw [if_neg (dma_ne_bar _), if_pos rfl]
theorem payload_send : (Rd PB).payload (sendCell c j) 0 j = sendPay c j := by
  dsimp only [Rd]; rw [if_neg (dma_ne_bar _), if_neg (fun h => send_ne_recv _ _ (SemLoc.dma.inj h))]
end Table

/-! ## Levels and dues -/

def L (g : GSem nD τ sig) : Finset Unit := if g.1.2 = .tc then {()} else ∅
/-- A barrier cell is below the receive cells, a pipeline cell below both. -/
def lv (g : GSem nD τ sig) (_ : Unit) : ℕ := if g.2 = .reg barS then 1 else if ∃ j, g.2 = .dma (recvS j) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (j : Fin 15) : lv (recvCell c j) () = 2 := by
  unfold lv; rw [if_neg (dma_ne_bar _), if_pos ⟨j, rfl⟩]

/-- The barrier units, and the transfers' credits, device `c` still owes from offset `n` on. -/
def dueB (c : Dev nD) (n : ℕ) : CellTallies nD τ sig Unit := ∑ j ∈ rem n, tallyAt (barCell (peer j c)) () 1
def dueR (c : Dev nD) (n : ℕ) : CellTallies nD τ sig Unit := ∑ j ∈ rem n, tallyAt (recvCell (peer j c) j) () N
def O₀ (c : Dev nD) : CellTallies nD τ sig Unit := dueB c 0 + dueR c 0

theorem dueB_step (c : Dev nD) (j : Fin 15) : dueB c j.val = dueB c (j.val + 1) + tallyAt (barCell (peer j c)) () 1 := by
  unfold dueB; rw [rem_step, Finset.sum_insert (rem_not j), add_comm]
theorem dueR_step (c : Dev nD) (j : Fin 15) : dueR c j.val = dueR c (j.val + 1) + tallyAt (recvCell (peer j c) j) () N := by
  unfold dueR; rw [rem_step, Finset.sum_insert (rem_not j), add_comm]
theorem dueB_end (c : Dev nD) : dueB c 15 = 0 := by unfold dueB; rw [rem_end, Finset.sum_empty]
theorem dueR_end (c : Dev nD) : dueR c 15 = 0 := by unfold dueR; rw [rem_end, Finset.sum_empty]

theorem dueR_pos {c : Dev nD} {n : ℕ} {g : GSem nD τ sig} {u : Unit} (h : 0 < dueR c n g u) : ∃ j, g = recvCell (peer j c) j := by
  unfold dueR at h
  rw [Finset.sum_apply, Finsupp.finset_sum_apply] at h
  obtain ⟨j, _, hj⟩ := Finset.exists_ne_zero_of_sum_ne_zero h.ne'
  rw [tallyAt_apply] at hj
  by_contra hn
  exact hj (if_neg fun h' => hn ⟨j, h'.1⟩)
theorem dueB_pos {c : Dev nD} {n : ℕ} {g : GSem nD τ sig} {u : Unit} (h : 0 < dueB c n g u) : ∃ j, g = barCell (peer j c) := by
  unfold dueB at h
  rw [Finset.sum_apply, Finsupp.finset_sum_apply] at h
  obtain ⟨j, _, hj⟩ := Finset.exists_ne_zero_of_sum_ne_zero h.ne'
  rw [tallyAt_apply] at hj
  by_contra hn
  exact hj (if_neg fun h' => hn ⟨j, h'.1⟩)

omit [FloatOps F] in
/-- At its barrier wait a device owes transfers only: their cells are above the barrier's. -/
theorem mayWait_bar (c : Dev nD) : (levAts L lv : sProp 𝕄) ⊢ MayWait (c : Thread nD τ) (.reg barS) () (dueR c 0) :=
  MayOwe.of_cut (L := L) (lev := lv) 1 (fun p hp => by rw [Finset.mem_singleton.mp hp, L_tc]; exact Finset.mem_singleton_self _)
    (fun g u hg => by obtain ⟨j, rfl⟩ := dueR_pos hg; rw [L_tc]; exact Finset.mem_singleton_self _)
    (fun p hp => by rw [Finset.mem_singleton.mp hp]; exact le_of_eq (lv_bar c))
    (fun g u hg => by obtain ⟨j, rfl⟩ := dueR_pos hg; rw [lv_recv]; decide)

omit [FloatOps F] in
/-- A staging cell may be waited on whatever the device owes of the exchange: its level is below every cell it owes. -/
theorem mayWait_stage (c : Dev nD) (q : DmaSem sig) (hq : ∀ j, q ≠ recvS j) (O : CellTallies nD τ sig Unit)
    (hO : ∀ g u, 0 < O g u → (∃ j, g = recvCell (peer j c) j) ∨ ∃ j, g = barCell (peer j c)) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by rcases hO g u hg with ⟨j, rfl⟩ | ⟨j, rfl⟩ <;> (rw [L_tc]; exact Finset.mem_singleton_self _))
    (fun p hp => by
      rw [Finset.mem_singleton.mp hp]; unfold lv
      rw [if_neg (dma_ne_bar _), if_neg (fun ⟨j, h⟩ => hq j (SemLoc.dma.inj h))])
    (fun g u hg => by
      rcases hO g u hg with ⟨j, rfl⟩ | ⟨j, rfl⟩
      · rw [lv_recv]; decide
      · rw [lv_bar]; decide)

end Cert.KernelIdeal.Ring
-- ==== Proof.Steps.lean ====
/-
The steps of the exchange, each stated once for every offset: a signal, a send, a wait on a receive cell, a wait on a
send cell, and the barrier wait. A step's state counts how many offsets are done.
-/
module

public import proofs.«01_k».proof.Proof.Proto

@[expose] public section

set_option maxRecDepth 16384
set_option backward.proofsInPublic true

noncomputable section

namespace Cert.KernelIdeal.Ring

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] peer Mesh.inv neg Mesh.off blk N

variable {F : FTy → Type} [FloatOps F] [Facts]

local notation "𝕄" => MT nD τ sig Unit (Elt F) ℕ UU ℕ

abbrev 𝒱₀ : Variants := Variants.none

/-- What a core's program satisfies: the weakest precondition at the program's thread. -/
abbrev W (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells' invariants -/

def barE : Dev nD ↪ GSem nD τ sig := ⟨barCell, fun a b h => by injection h with h1 h2; injection h1⟩
def sendE : Dev nD × Fin 15 ↪ GSem nD τ sig := ⟨fun x => sendCell x.1 x.2, fun a b h => by
  obtain ⟨a1, a2⟩ := a; obtain ⟨b1, b2⟩ := b
  injection h with h1 h2; injection h1 with h1; injection h2 with h2
  exact Prod.ext h1 (sendS_inj _ _ h2)⟩
def recvE : Dev nD × Fin 15 ↪ GSem nD τ sig := ⟨fun x => recvCell x.1 x.2, fun a b h => by
  obtain ⟨a1, a2⟩ := a; obtain ⟨b1, b2⟩ := b
  injection h with h1 h2; injection h1 with h1; injection h2 with h2
  exact Prod.ext h1 (recvS_inj _ _ h2)⟩

/-- The barrier cells, and the transfers' cells. -/
def barCells : Finset (GSem nD τ sig) := Finset.univ.map barE
def dmaCells : Finset (GSem nD τ sig) := Finset.univ.map sendE ∪ Finset.univ.map recvE

theorem mem_bar (c : Dev nD) : barCell c ∈ barCells ∪ dmaCells :=
  Finset.mem_union_left _ (Finset.mem_map_of_mem barE (Finset.mem_univ c))
theorem mem_send (c : Dev nD) (j : Fin 15) : sendCell c j ∈ barCells ∪ dmaCells :=
  Finset.mem_union_right _ (Finset.mem_union_left _ (Finset.mem_map_of_mem sendE (Finset.mem_univ (c, j))))
theorem mem_recv (c : Dev nD) (j : Fin 15) : recvCell c j ∈ barCells ∪ dmaCells :=
  Finset.mem_union_right _ (Finset.mem_union_right _ (Finset.mem_map_of_mem recvE (Finset.mem_univ (c, j))))

variable (PB : S16x34x64.Idx → Elt F .f32) (κ : GSem nD τ sig → ℕ)

/-- Every cell's invariant. -/
def INV : sProp 𝕄 := bigSep (barCells ∪ dmaCells) fun g => cellInv ER (Rd PB) (κ g) g

omit [FloatOps F] [Facts] in
instance INV_persistent : BI.Persistent (INV PB κ) := by unfold INV; infer_instance

omit [FloatOps F] [Facts] in
theorem INV_get {g : GSem nD τ sig} (hg : g ∈ barCells ∪ dmaCells) : INV PB κ ⊢ cellInv ER (Rd PB) (κ g) g := by
  unfold INV; exact bigSep_elim hg

omit [FloatOps F] [Facts] in
theorem rem_split (Φ : Fin 15 → sProp 𝕄) (j : Fin 15) : bigSep (rem j.val) Φ ⊢ iprop(Φ j ∗ bigSep (rem (j.val + 1)) Φ) := by
  rw [rem_step]; exact Entails.of_eq (bigSep_insert (rem_not j))
omit [FloatOps F] [Facts] in
theorem don_join (Φ : Fin 15 → sProp 𝕄) (j : Fin 15) : iprop(Φ j ∗ bigSep (don j.val) Φ) ⊢ bigSep (don (j.val + 1)) Φ := by
  rw [don_step]; exact Entails.of_eq (bigSep_insert (don_not j)).symm

/-! ## The signals -/

/-- What device `c` signals the device at offset `j` with. -/
def sigIn (c : Dev nD) (j : Fin 15) : sProp 𝕄 :=
  iprop(dutyTok ER (barCell (peer j c)) 0 j ∗ (∃ f, pts c (blk (peer j c)) fullShare f)
    ∗ reached ER (recvCell c (neg j)) 0 ∗ reached ER (barCell (peer j c)) 0)
def sigSt (c : Dev nD) (n : ℕ) : sProp 𝕄 :=
  iprop(INV PB κ ∗ bigSep (rem n) (sigIn c) ∗ ∃ Wt, owes (c : Thread nD τ) (dueB c n + dueR c 0) Wt)

omit [FloatOps F] [Facts] in
theorem sigSt_out (c : Dev nD) (j : Fin 15) : sigSt PB κ c j.val
    ⊢ iprop(INV PB κ ∗ (sigIn c j ∗ bigSep (rem (j.val + 1)) (sigIn c)) ∗ ∃ Wt, owes (c : Thread nD τ) (dueB c j.val + dueR c 0) Wt) :=
  sep_mono_right (sep_mono_left (rem_split _ j))
omit [FloatOps F] [Facts] in
theorem sigSt_in (c : Dev nD) (n : ℕ) :
    iprop(INV PB κ ∗ bigSep (rem n) (sigIn c) ∗ ∃ Wt, owes (c : Thread nD τ) (dueB c n + dueR c 0) Wt) ⊢ sigSt PB κ c n := BI.Entails.refl _

omit [FloatOps F] [Facts] in
theorem barPay_in (c : Dev nD) (j : Fin 15) :
    iprop((∃ f, pts (F := F) c (blk (peer j c)) fullShare f) ∗ reached ER (recvCell c (neg j)) 0) ⊢ (Rd PB).payload (barCell (peer j c)) 0 j := by
  rw [payload_bar]; unfold barPay; rw [inv_peer]
omit [FloatOps F] [Facts] in
theorem mayWait_none (c : Dev nD) (sm : SemLoc sig) : (iprop(emp) : sProp 𝕄) ⊢ MayWait (c : Thread nD τ) sm () 0 := by
  rw [MayWait_zero]; exact BI.Entails.refl _

/-- One signal, whatever else there is to signal. -/
theorem signal_core (R : sProp 𝕄) (c : Dev nD) (j : Fin 15) (n : Dev nD) (hn : n = peer j c) {α : Type} {Q : α → sProp 𝕄}
    {k : PUnit → Prog (TpuEff nD τ sig (Elt F) Λ₀ .tc) α} :
    iprop(INV PB κ ∗ (sigIn c j ∗ R) ∗ ∃ Wt, owes (c : Thread nD τ) (dueB c j.val + dueR c 0) Wt)
      ⊢ iprop((iprop(INV PB κ ∗ R ∗ ∃ Wt, owes (c : Thread nD τ) (dueB c (j.val + 1) + dueR c 0) Wt) -∗ W c (k ⟨⟩) Q)
      -∗ W c (.op (.semSignal (n : Thread nD τ) barS (1#32 : BitVec 32).toInt) k) Q) := by
  subst hn
  unfold sigIn
  iintro ⟨#HI, ⟨Hj, Hrest⟩, %Wt, HO⟩ Hk
  icases Hj with ⟨Ht, Hp, #Hr, #Hb⟩
  ihave #HIb := (INV_get PB κ (mem_bar (peer j c))) $$ HI
  iapply (Rounds.wp_signal 𝒱₀ ER (Rd PB) (c : Thread nD τ) none (dst := (peer j c : Thread nD τ)) (κ := κ (barCell (peer j c)))
      (d := j) (by rw [duties_bar]; exact Finset.mem_univ _) ((amount_bar PB (peer j c) j).trans (by decide)) () (dueB c (j.val + 1) + dueR c 0)
      (O₀ := dueB c j.val + dueR c 0) (by rw [dueB_step]; exact add_right_comm _ _ _)) $$ [HO Ht Hp]
  · isplitr; · iexact HIb
    isplitl [HO]; · iexact HO
    isplitl [Ht]; · iexact Ht
    isplitl [Hp]
    · iapply (barPay_in PB c j)
      isplitl [Hp]; · iexact Hp
      iexact Hr
    · iexact Hb
  iintro HO
  iapply Hk
  isplitr; · iexact HI
  isplitl [Hrest]; · iexact Hrest
  iexists Wt; iexact HO

/-- One signal. -/
theorem signal_step (c : Dev nD) (j : Fin 15) (n : Dev nD) (hn : n = peer j c) {α : Type} {Q : α → sProp 𝕄}
    {k : PUnit → Prog (TpuEff nD τ sig (Elt F) Λ₀ .tc) α} :
    sigSt PB κ c j.val ⊢ iprop((sigSt PB κ c (j.val + 1) -∗ W c (k ⟨⟩) Q)
      -∗ W c (.op (.semSignal (n : Thread nD τ) barS (1#32 : BitVec 32).toInt) k) Q) :=
  (sigSt_out PB κ c j).trans (signal_core PB κ _ c j n hn)

/-! ## The barrier wait -/

def barWait (c : Dev nD) : sProp 𝕄 :=
  iprop(levAts L lv ∗ cred (tallyAt (barCell c) () 15) ∗ atPos ER (barCell c) 0 ∅ 0)
/-- The peers' blocks for device `c`, as the barrier's units bring them. -/
def lands (c : Dev nD) : sProp 𝕄 :=
  bigSep Finset.univ fun j : Fin 15 => iprop((∃ f, pts (peer j c) (blk c) fullShare f) ∗ reached ER (recvCell (peer j c) j) 0)

omit [FloatOps F] [Facts] in
theorem negE_eq (c : Dev nD) (d : Fin 15) : iprop((∃ f, pts (F := F) (inv d c) (blk c) fullShare f) ∗ reached ER (recvCell (inv d c) (neg d)) 0)
    = (iprop((∃ f, pts (F := F) (peer (neg d) c) (blk c) fullShare f) ∗ reached ER (recvCell (peer (neg d) c) (neg d)) 0) : sProp 𝕄) := by
  have e : inv d c = peer (neg d) c := by rw [← inv_neg, Mesh.neg_neg]
  rw [e]

def negE : Fin 15 ≃ Fin 15 := ⟨neg, neg, Mesh.neg_neg, Mesh.neg_neg⟩

omit [FloatOps F] [Facts] in
theorem rest_bar (c : Dev nD) : bigSep ((Rd PB).duties (barCell c) 0 \ ∅) ((Rd PB).payload (barCell c) 0) = lands (F := F) c := by
  rw [duties_bar, Finset.sdiff_empty]
  unfold lands
  refine Eq.trans ?_ (bigSep_univ_equiv negE _).symm
  refine congrArg (bigSep Finset.univ) (funext fun d => ?_)
  rw [payload_bar]
  exact negE_eq c d

omit [FloatOps F] [Facts] in
theorem rest_recv (c : Dev nD) (j : Fin 15) : bigSep ((Rd PB).duties (recvCell c j) 0 \ ∅) ((Rd PB).payload (recvCell c j) 0) = recvPay PB c j := by
  rw [duties_recv, Finset.sdiff_empty, bigSep_singleton, payload_recv]
omit [FloatOps F] [Facts] in
theorem rest_send (c : Dev nD) (j : Fin 15) : bigSep ((Rd PB).duties (sendCell c j) 0 \ ∅) ((Rd PB).payload (sendCell c j) 0) = sendPay c j := by
  rw [duties_send, Finset.sdiff_empty, bigSep_singleton, payload_send]

/-- The wait: the barrier cell is done and closed. -/
theorem barrier_wait (c : Dev nD) {α : Type} {Q : α → sProp 𝕄} {k : PUnit → Prog (TpuEff nD τ sig (Elt F) Λ₀ .tc) α} :
    iprop(sigSt PB κ c 15 ∗ barWait c) ⊢ iprop(((lands c ∗ semVal (barCell c) 0 ∗ ∃ Wt, owes (c : Thread nD τ) (dueR c 0) Wt) -∗ W c (k ⟨⟩) Q)
      -∗ W c (.op (.semWait barS (15#32 : BitVec 32).toInt) k) Q) := by
  unfold sigSt barWait
  rw [dueB_end, zero_add]
  iintro ⟨⟨#HI, -, %Wt, HO⟩, #Hlev, Hc, Ha⟩ Hk
  ihave #HIb := (INV_get PB κ (mem_bar c)) $$ HI
  iapply (Rounds.wp_wait_rest_token 𝒱₀ ER (Rd PB) (c : Thread nD τ) none (κ := κ (barCell c))
      (wpE_semWait_eq 𝒱₀ (c : Thread nD τ) none Set.univ) (Set.mem_univ _) () (O := dueR c 0) (W := Wt) (R := 0) (m := 0) (T := ∅)
      (by rw [expect_bar]; decide)) $$ [Hc HO Ha]
  · isplitr; · iexact HIb
    isplitl [Hc]; · iexact Hc
    isplitl [HO]; · iexact HO
    isplitr; · iapply (mayWait_bar c); iexact Hlev
    iexact Ha
  iintro ⟨HO, Ha, -, Hpay⟩
  imod (Rounds.cell_close ER (Rd PB) (Set.mem_univ (κ (barCell c))) (fun h => h) (R := 0 + 1) (duties_later PB (barCell c))) $$ [Ha] with Hz
  · isplitr; · iexact HIb
    iexact Ha
  ihave Hp := (Entails.of_eq (rest_bar PB c)) $$ Hpay
  iapply Hk
  isplitl [Hp]; · iexact Hp
  isplitl [Hz]; · iexact Hz
  iexists _; iexact HO

/-! ## The sends -/

omit [FloatOps F] [Facts] in
theorem good_write (c : Dev nD) (fd f : S16x34x64.Idx → Elt F .f32) (h : Good PB c f) :
    Good PB c ((bM c).view.write (Elt F) fd ((bM c).view.read (Elt F) f) Finset.univ) := by
  intro i h0 h1
  have hi : i ∈ ((bM c).view.set : Finset S16x34x64.Idx) := by rw [bM_set]; exact mem_blk.mpr h0
  obtain ⟨y, -, rfl⟩ := Finset.mem_map.mp hi
  rw [View.write_emb_of_mem (h := Finset.mem_univ y), View.read_apply]
  exact h _ h0 h1

def sendIn (c : Dev nD) (f : S16x34x64.Idx → Elt F .f32) (j : Fin 15) : sProp 𝕄 :=
  iprop(dutyTok ER (sendCell c j) 0 j ∗ reached ER (sendCell c j) 0 ∗ dutyTok ER (recvCell (peer j c) j) 0 j
    ∗ ((∃ f', pts (peer j c) (blk c) fullShare f') ∗ reached ER (recvCell (peer j c) j) 0) ∗ pts c (blk c) (lf j) f)
def sendOut (c : Dev nD) (j : Fin 15) : sProp 𝕄 := cred (tallyAt (sendCell c j) () N)
def sendSt (f : S16x34x64.Idx → Elt F .f32) (c : Dev nD) (n : ℕ) : sProp 𝕄 :=
  iprop(INV PB κ ∗ bigSep (rem n) (sendIn c f) ∗ bigSep (don n) (sendOut c) ∗ ∃ Wt, owes (c : Thread nD τ) (dueR c n) Wt)

omit [FloatOps F] [Facts] in
theorem hN (c : Dev nD) {j : Fin 15} : (bM c).view.amount (.dma (recvS j)) = N := (View.amount_dma _ _).trans (N_eq c)

omit [FloatOps F] [Facts] in
theorem pts_bM (c c' : Dev nD) (q : PosShare TreeShare) (f : S16x34x64.Idx → Elt F .f32) :
    ((bM c).view.loc (c' : Thread nD τ) ↦[(bM c).view.set]{q} f) = (pts c' (blk c) q f : sProp 𝕄) := by
  unfold pts; rw [← bM_set c]

omit [FloatOps F] [Facts] in
theorem sendSt_out (f : S16x34x64.Idx → Elt F .f32) (c : Dev nD) (j : Fin 15) : sendSt PB κ f c j.val
    ⊢ iprop(INV PB κ ∗ (sendIn c f j ∗ bigSep (rem (j.val + 1)) (sendIn c f)) ∗ bigSep (don j.val) (sendOut c) ∗ ∃ Wt, owes (c : Thread nD τ) (dueR c j.val) Wt) :=
  sep_mono_right (sep_mono_left (rem_split _ j))
omit [FloatOps F] [Facts] in
theorem sendSt_in (f : S16x34x64.Idx → Elt F .f32) (c : Dev nD) (j : Fin 15) :
    iprop(INV PB κ ∗ bigSep (rem (j.val + 1)) (sendIn c f) ∗ (sendOut c j ∗ bigSep (don j.val) (sendOut c)) ∗ ∃ Wt, owes (c : Thread nD τ) (dueR c (j.val + 1)) Wt)
      ⊢ sendSt PB κ f c (j.val + 1) :=
  sep_mono_right (sep_mono_right (sep_mono_left (don_join _ j)))

/-- One transfer, its two payloads as the schedule has them. -/
theorem wp_send_block (f : S16x34x64.Idx → Elt F .f32) (c : Dev nD) (hf : Good PB c f) (j : Fin 15) (n : Dev nD) (hn : n = peer j c)
    {hsc : (bM c : Memref sig (Dev.tc n : Thread nD τ).2.kind .vmem S1x34x64 .f32).view.ref.isScScratch = false}
    {hsrc : (bM c).view.WordExact} {hdst : (bM c).view.WordExact}
    {hsem : DmaTarget.Typed .vmem (.dma (recvS j)) (.remote (Dev.tc n : Thread nD τ) (bM c) (.dma (sendS j)) hsc)}
    {α : Type} {Q : α → sProp 𝕄} {k : PUnit → Prog (TpuEff nD τ sig (Elt F) Λ₀ .tc) α} (fd : S16x34x64.Idx → Elt F .f32) (Wt : Waits sig Unit) :
    iprop(cellInv ER (Rd PB) (κ (sendCell c j)) (sendCell c j) ∗ cellInv ER (Rd PB) (κ (recvCell (peer j c) j)) (recvCell (peer j c) j)
        ∗ pts c (blk c) (lf j) f ∗ pts (peer j c) (blk c) fullShare fd
        ∗ owes (c : Thread nD τ) (dueR c j.val) Wt
        ∗ dutyTok ER (sendCell c j) 0 j ∗ reached ER (sendCell c j) 0
        ∗ dutyTok ER (recvCell (peer j c) j) 0 j ∗ reached ER (recvCell (peer j c) j) 0)
      ⊢ iprop(((cred (tallyAt (sendCell c j) () N) ∗ owes (c : Thread nD τ) (dueR c (j.val + 1)) Wt) -∗ W c (k ⟨⟩) Q)
          -∗ W c (.op (.enqueueDma (bM c) (.remote (Dev.tc n : Thread nD τ) (bM c) (.dma (sendS j)) hsc) (.dma (recvS j)) hsrc hdst hsem) k) Q) := by
  subst hn
  have hpay₁ : ((bM c).view.loc (c : Thread nD τ) ↦[(bM c).view.set]{lf j} f) ⊢ (Rd (F := F) PB).payload (sendCell c j) 0 j := by
    rw [payload_send, pts_bM]; unfold sendPay; iintro H; iexists f; iexact H
  have hpay₂ : ((bM c).view.loc (peer j c : Thread nD τ) ↦[(bM c).view.set]{fullShare} ((bM c).view.write (Elt F) fd ((bM c).view.read (Elt F) f) Finset.univ))
      ⊢ (Rd (F := F) PB).payload (recvCell (peer j c) j) 0 j := by
    rw [payload_recv, pts_bM]; unfold recvPay; rw [inv_peer]
    iintro H; iexists _; isplitr
    · ipureintro; exact good_write PB c fd f hf
    · iexact H
  rw [← pts_bM c c, ← pts_bM c (peer j c)]
  exact Rounds.wp_send_pointsTo 𝒱₀ ER (Rd PB) (c : Thread nD τ) none (c' := (peer j c : Thread nD τ)) (src := bM c) (dst := bM c)
    (sS := .dma (sendS j)) (sem := .dma (recvS j)) (κ₁ := κ (sendCell c j)) (κ₂ := κ (recvCell (peer j c) j))
    (r₁ := 0) (r₂ := 0) (d₁ := j) (d₂ := j) (fd := fd) (fs := f) (q := lf j)
    (by rw [duties_send]; exact Finset.mem_singleton_self _) (by rw [duties_recv]; exact Finset.mem_singleton_self _)
    () () N (hN c) (amount_send PB c j j) (amount_recv PB (peer j c) j j) (dueR c (j.val + 1)) (dueR_step c j) (W := Wt) hpay₁ hpay₂

/-- The same, whatever else there is. -/
theorem send_core (R D : sProp 𝕄) (f : S16x34x64.Idx → Elt F .f32) (c : Dev nD) (hf : Good PB c f) (j : Fin 15) (n : Dev nD) (hn : n = peer j c)
    {hsc : (bM c : Memref sig (Dev.tc n : Thread nD τ).2.kind .vmem S1x34x64 .f32).view.ref.isScScratch = false}
    {hsrc : (bM c).view.WordExact} {hdst : (bM c).view.WordExact}
    {hsem : DmaTarget.Typed .vmem (.dma (recvS j)) (.remote (Dev.tc n : Thread nD τ) (bM c) (.dma (sendS j)) hsc)}
    {α : Type} {Q : α → sProp 𝕄} {k : PUnit → Prog (TpuEff nD τ sig (Elt F) Λ₀ .tc) α} :
    iprop(INV PB κ ∗ (sendIn c f j ∗ R) ∗ D ∗ ∃ Wt, owes (c : Thread nD τ) (dueR c j.val) Wt)
      ⊢ iprop((iprop(INV PB κ ∗ R ∗ (sendOut c j ∗ D) ∗ ∃ Wt, owes (c : Thread nD τ) (dueR c (j.val + 1)) Wt) -∗ W c (k ⟨⟩) Q)
      -∗ W c (.op (.enqueueDma (bM c) (.remote (Dev.tc n : Thread nD τ) (bM c) (.dma (sendS j)) hsc) (.dma (recvS j)) hsrc hdst hsem) k) Q) := by
  unfold sendIn sendOut
  iintro ⟨#HI, ⟨Hj, Hrest⟩, Hd, %Wt, HO⟩ Hk
  icases Hj with ⟨HtS, #HrS, HtR, ⟨⟨%fd, Hdst⟩, #HrR⟩, Hsrc⟩
  ihave #HIs := (INV_get PB κ (mem_send c j)) $$ HI
  ihave #HIr := (INV_get PB κ (mem_recv (peer j c) j)) $$ HI
  iapply (wp_send_block PB κ f c hf j n hn fd Wt) $$ [HtS HtR Hdst Hsrc HO]
  · isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  isplitr; · iexact HI
  isplitl [Hrest]; · iexact Hrest
  isplitl [Hc Hd]
  · isplitl [Hc]; · iexact Hc
    iexact Hd
  iexists Wt; iexact HO

/-- One send: the block goes to the peer, a share of it lent until the send cell's credit. -/
theorem send_step (f : S16x34x64.Idx → Elt F .f32) (c : Dev nD) (hf : Good PB c f) (j : Fin 15) (n : Dev nD) (hn : n = peer j c)
    {hsc : (bM c : Memref sig (Dev.tc n : Thread nD τ).2.kind .vmem S1x34x64 .f32).view.ref.isScScratch = false}
    {hsrc : (bM c).view.WordExact} {hdst : (bM c).view.WordExact}
    {hsem : DmaTarget.Typed .vmem (.dma (recvS j)) (.remote (Dev.tc n : Thread nD τ) (bM c) (.dma (sendS j)) hsc)}
    {α : Type} {Q : α → sProp 𝕄} {k : PUnit → Prog (TpuEff nD τ sig (Elt F) Λ₀ .tc) α} :
    sendSt PB κ f c j.val ⊢ iprop((sendSt PB κ f c (j.val + 1) -∗ W c (k ⟨⟩) Q)
      -∗ W c (.op (.enqueueDma (bM c) (.remote (Dev.tc n : Thread nD τ) (bM c) (.dma (sendS j)) hsc) (.dma (recvS j)) hsrc hdst hsem) k) Q) := by
  iintro H Hk
  iapply (send_core PB κ _ _ f c hf j n hn) $$ [H]
  · iapply (sendSt_out PB κ f c j) $$ H
  iintro H
  iapply Hk
  iapply (sendSt_in PB κ f c j) $$ H

/-! ## The waits for the transfers -/

def recvIn (c : Dev nD) (j : Fin 15) : sProp 𝕄 := iprop(atPos ER (recvCell c j) 0 ∅ 0 ∗ cred (tallyAt (recvCell c j) () N))
def recvOut (c : Dev nD) (j : Fin 15) : sProp 𝕄 := iprop(recvPay PB c j ∗ semVal (recvCell c j) 0)
def recvSt (c : Dev nD) (n : ℕ) : sProp 𝕄 :=
  iprop(INV PB κ ∗ bigSep (rem n) (recvIn c) ∗ bigSep (don n) (recvOut PB c) ∗ ∃ Wt, owes (c : Thread nD τ) 0 Wt)

omit [FloatOps F] [Facts] in
theorem recvSt_out (c : Dev nD) (j : Fin 15) : recvSt PB κ c j.val
    ⊢ iprop(INV PB κ ∗ (recvIn c j ∗ bigSep (rem (j.val + 1)) (recvIn c)) ∗ bigSep (don j.val) (recvOut PB c) ∗ ∃ Wt, owes (c : Thread nD τ) 0 Wt) :=
  sep_mono_right (sep_mono_left (rem_split _ j))
omit [FloatOps F] [Facts] in
theorem recvSt_in (c : Dev nD) (j : Fin 15) :
    iprop(INV PB κ ∗ bigSep (rem (j.val + 1)) (recvIn c) ∗ (recvOut PB c j ∗ bigSep (don j.val) (recvOut PB c)) ∗ ∃ Wt, owes (c : Thread nD τ) 0 Wt)
      ⊢ recvSt PB κ c (j.val + 1) :=
  sep_mono_right (sep_mono_right (sep_mono_left (don_join _ j)))

/-- The same, whatever else there is. -/
theorem recv_core (R D : sProp 𝕄) (c : Dev nD) (j : Fin 15) {src dst : Memref sig .tc .vmem S1x34x64 .f32} (hN : dst.view.dmaCredit = N)
    {hsrc : src.view.WordExact} {hdst : dst.view.WordExact} {α : Type} {Q : α → sProp 𝕄} {k : PUnit → Prog (TpuEff nD τ sig (Elt F) Λ₀ .tc) α} :
    iprop(INV PB κ ∗ (recvIn c j ∗ R) ∗ D ∗ ∃ Wt, owes (c : Thread nD τ) (0) Wt)
      ⊢ iprop((iprop(INV PB κ ∗ R ∗ (recvOut PB c j ∗ D) ∗ ∃ Wt, owes (c : Thread nD τ) (0) Wt) -∗ W c (k ⟨⟩) Q)
      -∗ W c (.op (.waitDma2 (recvS j) src dst hsrc hdst) k) Q) := by
  unfold recvIn recvOut
  rw [← hN]
  iintro ⟨#HI, ⟨Hj, Hrest⟩, Hd, %Wt, HO⟩ Hk
  icases Hj with ⟨Ha, Hc⟩
  ihave #HIr := (INV_get PB κ (mem_recv c j)) $$ HI
  iapply (Rounds.wp_wait_rest_token 𝒱₀ ER (Rd PB) (c : Thread nD τ) none (κ := κ (recvCell c j))
      (wpE_waitDma2_eq 𝒱₀ (c : Thread nD τ) none Set.univ) (Set.mem_univ _) () (O := 0) (W := Wt) (R := 0) (m := 0) (T := ∅)
      (by rw [Nat.zero_add, expect_recv, hN])) $$ [Hc HO Ha]
  · isplitr; · iexact HIr
    isplitl [Hc]; · iexact Hc
    isplitl [HO]; · iexact HO
    isplitr; · iapply (mayWait_none c _); iempintro
    iexact Ha
  iintro ⟨HO, Ha, -, Hpay⟩
  imod (Rounds.cell_close ER (Rd PB) (Set.mem_univ (κ (recvCell c j))) (fun h => h) (R := 0 + 1) (duties_later PB (recvCell c j))) $$ [Ha] with Hz
  · isplitr; · iexact HIr
    iexact Ha
  iapply Hk
  isplitr; · iexact HI
  isplitl [Hrest]; · iexact Hrest
  isplitl [Hpay Hz Hd]
  · isplitl [Hpay Hz]
    · isplitl [Hpay]
      · iapply (Entails.of_eq (rest_recv PB c j)) $$ Hpay
      · iexact Hz
    · iexact Hd
  iexists _; iexact HO

/-- One wait on a receive cell: the sender's block has come, and the cell is closed. -/
theorem recv_step (c : Dev nD) (j : Fin 15) {src dst : Memref sig .tc .vmem S1x34x64 .f32} (hN : dst.view.dmaCredit = N)
    {hsrc : src.view.WordExact} {hdst : dst.view.WordExact} {α : Type} {Q : α → sProp 𝕄} {k : PUnit → Prog (TpuEff nD τ sig (Elt F) Λ₀ .tc) α} :
    recvSt PB κ c j.val ⊢ iprop((recvSt PB κ c (j.val + 1) -∗ W c (k ⟨⟩) Q)
      -∗ W c (.op (.waitDma2 (recvS j) src dst hsrc hdst) k) Q) := by
  iintro H Hk
  iapply (recv_core PB κ _ _ c j hN) $$ [H]
  · iapply (recvSt_out PB κ c j) $$ H
  iintro H
  iapply Hk
  iapply (recvSt_in PB κ c j) $$ H

def backIn (c : Dev nD) (j : Fin 15) : sProp 𝕄 := iprop(atPos ER (sendCell c j) 0 ∅ 0 ∗ cred (tallyAt (sendCell c j) () N))
def backOut (c : Dev nD) (j : Fin 15) : sProp 𝕄 := iprop(sendPay c j ∗ semVal (sendCell c j) 0)
def backSt (c : Dev nD) (n : ℕ) : sProp 𝕄 :=
  iprop(INV PB κ ∗ bigSep (rem n) (backIn c) ∗ bigSep (don n) (backOut c) ∗ ∃ Wt, owes (c : Thread nD τ) 0 Wt)

omit [FloatOps F] [Facts] in
theorem backSt_out (c : Dev nD) (j : Fin 15) : backSt PB κ c j.val
    ⊢ iprop(INV PB κ ∗ (backIn c j ∗ bigSep (rem (j.val + 1)) (backIn c)) ∗ bigSep (don j.val) (backOut c) ∗ ∃ Wt, owes (c : Thread nD τ) 0 Wt) :=
  sep_mono_right (sep_mono_left (rem_split _ j))
omit [FloatOps F] [Facts] in
theorem backSt_in (c : Dev nD) (j : Fin 15) :
    iprop(INV PB κ ∗ bigSep (rem (j.val + 1)) (backIn c) ∗ (backOut c j ∗ bigSep (don j.val) (backOut c)) ∗ ∃ Wt, owes (c : Thread nD τ) 0 Wt)
      ⊢ backSt PB κ c (j.val + 1) :=
  sep_mono_right (sep_mono_right (sep_mono_left (don_join _ j)))

/-- The same, whatever else there is. -/
theorem back_core (R D : sProp 𝕄) (c : Dev nD) (j : Fin 15) {src dst : Memref sig .tc .vmem S1x34x64 .f32} (hN : dst.view.dmaCredit = N)
    {hsrc : src.view.WordExact} {hdst : dst.view.WordExact} {α : Type} {Q : α → sProp 𝕄} {k : PUnit → Prog (TpuEff nD τ sig (Elt F) Λ₀ .tc) α} :
    iprop(INV PB κ ∗ (backIn c j ∗ R) ∗ D ∗ ∃ Wt, owes (c : Thread nD τ) (0) Wt)
      ⊢ iprop((iprop(INV PB κ ∗ R ∗ (backOut c j ∗ D) ∗ ∃ Wt, owes (c : Thread nD τ) (0) Wt) -∗ W c (k ⟨⟩) Q)
      -∗ W c (.op (.waitDma2 (sendS j) src dst hsrc hdst) k) Q) := by
  unfold backIn backOut
  rw [← hN]
  iintro ⟨#HI, ⟨Hj, Hrest⟩, Hd, %Wt, HO⟩ Hk
  icases Hj with ⟨Ha, Hc⟩
  ihave #HIr := (INV_get PB κ (mem_send c j)) $$ HI
  iapply (Rounds.wp_wait_rest_token 𝒱₀ ER (Rd PB) (c : Thread nD τ) none (κ := κ (sendCell c j))
      (wpE_waitDma2_eq 𝒱₀ (c : Thread nD τ) none Set.univ) (Set.mem_univ _) () (O := 0) (W := Wt) (R := 0) (m := 0) (T := ∅)
      (by rw [Nat.zero_add, expect_send, hN])) $$ [Hc HO Ha]
  · isplitr; · iexact HIr
    isplitl [Hc]; · iexact Hc
    isplitl [HO]; · iexact HO
    isplitr; · iapply (mayWait_none c _); iempintro
    iexact Ha
  iintro ⟨HO, Ha, -, Hpay⟩
  imod (Rounds.cell_close ER (Rd PB) (Set.mem_univ (κ (sendCell c j))) (fun h => h) (R := 0 + 1) (duties_later PB (sendCell c j))) $$ [Ha] with Hz
  · isplitr; · iexact HIr
    iexact Ha
  iapply Hk
  isplitr; · iexact HI
  isplitl [Hrest]; · iexact Hrest
  isplitl [Hpay Hz Hd]
  · isplitl [Hpay Hz]
    · isplitl [Hpay]
      · iapply (Entails.of_eq (rest_send PB c j)) $$ Hpay
      · iexact Hz
    · iexact Hd
  iexists _; iexact HO

/-- One wait on a send cell: the lent share is back, and the cell is closed. -/
theorem back_step (c : Dev nD) (j : Fin 15) {src dst : Memref sig .tc .vmem S1x34x64 .f32} (hN : dst.view.dmaCredit = N)
    {hsrc : src.view.WordExact} {hdst : dst.view.WordExact} {α : Type} {Q : α → sProp 𝕄} {k : PUnit → Prog (TpuEff nD τ sig (Elt F) Λ₀ .tc) α} :
    backSt PB κ c j.val ⊢ iprop((backSt PB κ c (j.val + 1) -∗ W c (k ⟨⟩) Q)
      -∗ W c (.op (.waitDma2 (sendS j) src dst hsrc hdst) k) Q) := by
  iintro H Hk
  iapply (back_core PB κ _ _ c j hN) $$ [H]
  · iapply (backSt_out PB κ c j) $$ H
  iintro H
  iapply Hk
  iapply (backSt_in PB κ c j) $$ H

end Cert.KernelIdeal.Ring
-- ==== Proof.Parts.lean ====
/-
The parts of the body that carry the exchange, each one's run: five signals, three sends, three waits and so on, by
the step lemmas. The words a part gets that it uses for nothing are left general.
-/
module

public import proofs.«01_k».proof.Proof.Steps

@[expose] public section

set_option maxRecDepth 16384
set_option backward.proofsInPublic true

noncomputable section

namespace Cert.KernelIdeal.Ring

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] peer Mesh.inv neg Mesh.off blk N

variable {F : FTy → Type} [FloatOps F] [Facts]

local notation "𝕄" => MT nD τ sig Unit (Elt F) ℕ UU ℕ

variable (PB : S16x34x64.Idx → Elt F .f32) (κ : GSem nD τ sig → ℕ) (c : Dev nD)

/-- A program that is done. -/
theorem ret_intro {α : Type} (a : α) (Q : α → sProp 𝕄) : Q a ⊢ W c (.ret a) Q := by
  unfold W; rw [wp_ret]; iintro H; imodintro; iexact H

/-- The signal step between counts written as numerals. -/
theorem signal_at (j : Fin 15) (a b : ℕ) (ha : j.val = a) (hb : j.val + 1 = b) (n : Dev nD) (hn : n = peer j c) {α : Type}
    {Q : α → sProp 𝕄} {k : PUnit → Prog (TpuEff nD τ sig (Elt F) Λ₀ .tc) α} :
    sigSt PB κ c a ⊢ iprop((sigSt PB κ c b -∗ W c (k ⟨⟩) Q)
      -∗ W c (.op (.semSignal (n : Thread nD τ) barS (1#32 : BitVec 32).toInt) k) Q) := by
  subst ha hb; exact signal_step PB κ c j n hn

/-- The send step, the block and the semaphores given by equations. -/
theorem send_at (f : S16x34x64.Idx → Elt F .f32) (hf : Good PB c f) (j : Fin 15) (a b : ℕ) (ha : j.val = a)
    (hb : j.val + 1 = b) (n : Dev nD) (hn : n = peer j c) (M : Memref sig .tc .vmem S1x34x64 .f32) (hM : M = bM c)
    (s r : DmaSem sig) (hs : s = sendS j) (hr : r = recvS j)
    {hsc : (M : Memref sig (Dev.tc n : Thread nD τ).2.kind .vmem S1x34x64 .f32).view.ref.isScScratch = false}
    {hsrc : M.view.WordExact} {hdst : M.view.WordExact}
    {hsem : DmaTarget.Typed .vmem (.dma r) (.remote (Dev.tc n : Thread nD τ) M (.dma s) hsc)}
    {α : Type} {Q : α → sProp 𝕄} {k : PUnit → Prog (TpuEff nD τ sig (Elt F) Λ₀ .tc) α} :
    sendSt PB κ f c a ⊢ iprop((sendSt PB κ f c b -∗ W c (k ⟨⟩) Q)
      -∗ W c (.op (.enqueueDma M (.remote (Dev.tc n : Thread nD τ) M (.dma s) hsc) (.dma r) hsrc hdst hsem) k) Q) := by
  subst ha hb hM hs hr; exact send_step PB κ f c hf j n hn

/-- The wait on a receive cell, the semaphore given by an equation. -/
theorem recv_at (j : Fin 15) (a b : ℕ) (ha : j.val = a) (hb : j.val + 1 = b)
    {src dst : Memref sig .tc .vmem S1x34x64 .f32} (hN : dst.view.dmaCredit = N) (r : DmaSem sig) (hr : r = recvS j)
    {hsrc : src.view.WordExact} {hdst : dst.view.WordExact} {α : Type} {Q : α → sProp 𝕄}
    {k : PUnit → Prog (TpuEff nD τ sig (Elt F) Λ₀ .tc) α} :
    recvSt PB κ c a ⊢ iprop((recvSt PB κ c b -∗ W c (k ⟨⟩) Q) -∗ W c (.op (.waitDma2 r src dst hsrc hdst) k) Q) := by
  subst ha hb hr; exact recv_step PB κ c j hN

/-- The wait on a send cell, the semaphore given by an equation. -/
theorem back_at (j : Fin 15) (a b : ℕ) (ha : j.val = a) (hb : j.val + 1 = b)
    (M : Memref sig .tc .vmem S1x34x64 .f32) (hM : M = bM c) (r : DmaSem sig) (hr : r = sendS j)
    {hsrc : M.view.WordExact} {hdst : M.view.WordExact} {α : Type} {Q : α → sProp 𝕄}
    {k : PUnit → Prog (TpuEff nD τ sig (Elt F) Λ₀ .tc) α} :
    backSt PB κ c a ⊢ iprop((backSt PB κ c b -∗ W c (k ⟨⟩) Q) -∗ W c (.op (.waitDma2 r M M hsrc hdst) k) Q) := by
  subst ha hb hr hM; exact back_step PB κ c j (src := bM c) (dst := bM c) (credit_eq _ rfl)

/-- The signals at the offsets from 0 to 3. -/
theorem part1_wp (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v13 v14 v25 v26 v27 v38 v39 v40 v51 v52 v53 v64 v65 v66 v77 : BitVec 32) (k0_h1 : k0_cond1 i = 1#1) {Q : _ → sProp 𝕄} :
    sigSt PB κ c 0 ⊢ iprop((sigSt PB κ c 4 -∗ Q (SemArray.scalar (sig.barrier 0 rfl))) -∗ W c (k0_part1 i arg1 harg1 arg2 harg2 arg3 harg3 arg4 harg4 arg5 harg5 pM harg6 cc0_scratch1 cc0_scratch2 c v13 v14 v25 v26 v27 v38 v39 v40 v51 v52 v53 v64 v65 v66 v77 k0_h1) Q) := by
  simp only [k0_part1_eq_skeleton]; unfold k0_part1_skel
  simp only [semSignalWord, semWaitWord, Prog.lift, Prog.bind_op, Prog.bind_ret, Prog.pure_eq_ret, Prog.bind_assoc]
  iintro H Hk
  iapply (signal_at PB κ c 0 0 1 rfl rfl _ (Fin.ext (dev1_eq c))) $$ H
  iintro H
  iapply (signal_at PB κ c 1 1 2 rfl rfl _ (Fin.ext (dev2_eq c))) $$ H
  iintro H
  iapply (signal_at PB κ c 2 2 3 rfl rfl _ (Fin.ext (dev3_eq c))) $$ H
  iintro H
  iapply (signal_at PB κ c 3 3 4 rfl rfl _ (Fin.ext (dev4_eq c))) $$ H
  iintro H
  iapply (ret_intro c _ _)
  iapply Hk
  iexact H

/-- The signals at the offsets from 4 to 8. -/
theorem part2_wp (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v78 v79 v90 v91 v92 v103 v104 v105 v116 v117 v118 v129 v130 v131 v142 : BitVec 32) (k0_h1 : k0_cond1 i = 1#1) {Q : _ → sProp 𝕄} :
    sigSt PB κ c 4 ⊢ iprop((sigSt PB κ c 9 -∗ Q ⟨⟩) -∗ W c (k0_part2 i arg1 harg1 arg2 harg2 arg3 harg3 arg4 harg4 arg5 harg5 pM harg6 cc0_scratch1 cc0_scratch2 c v78 v79 v90 v91 v92 v103 v104 v105 v116 v117 v118 v129 v130 v131 v142 k0_h1 (SemArray.scalar (sig.barrier 0 rfl))) Q) := by
  simp only [k0_part2_eq_skeleton]; unfold k0_part2_skel
  simp only [semSignalWord, semWaitWord, Prog.lift, Prog.bind_op, Prog.bind_ret, Prog.pure_eq_ret, Prog.bind_assoc]
  iintro H Hk
  iapply (signal_at PB κ c 4 4 5 rfl rfl _ (Fin.ext (dev5_eq c))) $$ H
  iintro H
  iapply (signal_at PB κ c 5 5 6 rfl rfl _ (Fin.ext (dev6_eq c))) $$ H
  iintro H
  iapply (signal_at PB κ c 6 6 7 rfl rfl _ (Fin.ext (dev7_eq c))) $$ H
  iintro H
  iapply (signal_at PB κ c 7 7 8 rfl rfl _ (Fin.ext (dev8_eq c))) $$ H
  iintro H
  iapply (signal_at PB κ c 8 8 9 rfl rfl _ (Fin.ext (dev9_eq c))) $$ H
  iintro H
  iapply (ret_intro c _ _)
  iapply Hk
  iexact H

/-- The signals at the offsets from 9 to 13. -/
theorem part3_wp (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v143 v144 v155 v156 v157 v168 v169 v170 v181 v182 v183 v194 v195 v196 v207 : BitVec 32) (k0_h1 : k0_cond1 i = 1#1) {Q : _ → sProp 𝕄} :
    sigSt PB κ c 9 ⊢ iprop((sigSt PB κ c 14 -∗ Q ⟨⟩) -∗ W c (k0_part3 i arg1 harg1 arg2 harg2 arg3 harg3 arg4 harg4 arg5 harg5 pM harg6 cc0_scratch1 cc0_scratch2 c v143 v144 v155 v156 v157 v168 v169 v170 v181 v182 v183 v194 v195 v196 v207 k0_h1 (SemArray.scalar (sig.barrier 0 rfl))) Q) := by
  simp only [k0_part3_eq_skeleton]; unfold k0_part3_skel
  simp only [semSignalWord, semWaitWord, Prog.lift, Prog.bind_op, Prog.bind_ret, Prog.pure_eq_ret, Prog.bind_assoc]
  iintro H Hk
  iapply (signal_at PB κ c 9 9 10 rfl rfl _ (Fin.ext (dev10_eq c))) $$ H
  iintro H
  iapply (signal_at PB κ c 10 10 11 rfl rfl _ (Fin.ext (dev11_eq c))) $$ H
  iintro H
  iapply (signal_at PB κ c 11 11 12 rfl rfl _ (Fin.ext (dev12_eq c))) $$ H
  iintro H
  iapply (signal_at PB κ c 12 12 13 rfl rfl _ (Fin.ext (dev13_eq c))) $$ H
  iintro H
  iapply (signal_at PB κ c 13 13 14 rfl rfl _ (Fin.ext (dev14_eq c))) $$ H
  iintro H
  iapply (ret_intro c _ _)
  iapply Hk
  iexact H

/-- The sends at the offsets from 0 to 1. -/
theorem part4_wp (f : S16x34x64.Idx → Elt F .f32) (hf : Good PB c f) (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v13 v14 v25 v26 v27 v38 v39 v40 v51 : BitVec 32) (k0_hw1 : k0_chk1 i c (tw c)) (k0_h6 : k0_cond6 i = 1#1) {Q : _ → sProp 𝕄} :
    sendSt PB κ f c 0 ⊢ iprop((sendSt PB κ f c 2 -∗ Q ⟨⟩) -∗ W c (k0_part4 i arg1 harg1 arg2 harg2 arg3 harg3 arg4 harg4 arg5 harg5 pM harg6 cc0_scratch1 cc0_scratch2 c (tw c) k0_hw1 v13 v14 v25 v26 v27 v38 v39 v40 v51 k0_h6) Q) := by
  simp only [k0_part4_eq_skeleton]; unfold k0_part4_skel
  simp only [semSignalWord, semWaitWord, Prog.lift, Prog.bind_op, Prog.bind_ret, Prog.pure_eq_ret, Prog.bind_assoc]
  iintro H Hk
  iapply (send_at PB κ c f hf 0 0 1 rfl rfl _ (Fin.ext (dev16_eq c)) _ rfl _ _ rfl rfl) $$ H
  iintro H
  iapply (send_at PB κ c f hf 1 1 2 rfl rfl _ (Fin.ext (dev17_eq c)) _ rfl _ _ rfl rfl) $$ H
  iintro H
  iapply (ret_intro c _ _)
  iapply Hk
  iexact H

/-- The sends at the offsets from 2 to 4. -/
theorem part5_wp (f : S16x34x64.Idx → Elt F .f32) (hf : Good PB c f) (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v52 v53 v64 v65 v66 v77 v78 : BitVec 32) (k0_hw1 : k0_chk1 i c (tw c)) (k0_h6 : k0_cond6 i = 1#1) {Q : _ → sProp 𝕄} :
    sendSt PB κ f c 2 ⊢ iprop((∀ r, sendSt PB κ f c 5 -∗ Q r) -∗ W c (k0_part5 i arg1 harg1 arg2 harg2 arg3 harg3 arg4 harg4 arg5 harg5 pM harg6 cc0_scratch1 cc0_scratch2 c (tw c) k0_hw1 v52 v53 v64 v65 v66 v77 v78 k0_h6) Q) := by
  simp only [k0_part5_eq_skeleton]; unfold k0_part5_skel
  simp only [semSignalWord, semWaitWord, Prog.lift, Prog.bind_op, Prog.bind_ret, Prog.pure_eq_ret, Prog.bind_assoc]
  iintro H Hk
  iapply (send_at PB κ c f hf 2 2 3 rfl rfl _ (Fin.ext (dev18_eq c)) _ rfl _ _ rfl rfl) $$ H
  iintro H
  iapply (send_at PB κ c f hf 3 3 4 rfl rfl _ (Fin.ext (dev19_eq c)) _ rfl _ _ rfl rfl) $$ H
  iintro H
  iapply (send_at PB κ c f hf 4 4 5 rfl rfl _ (Fin.ext (dev20_eq c)) _ rfl _ _ rfl rfl) $$ H
  iintro H
  iapply (ret_intro c _ _)
  iapply Hk
  iexact H

/-- The sends at the offsets from 5 to 6. -/
theorem part6_wp (f : S16x34x64.Idx → Elt F .f32) (hf : Good PB c f) (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v79 v90 v91 v92 v103 v104 v105 v116 v332 c0_i32_219 : BitVec 32) (k0_hw1 : k0_chk1 i c (tw c)) (k0_h6 : k0_cond6 i = 1#1) {Q : _ → sProp 𝕄} :
    sendSt PB κ f c 5 ⊢ iprop((sendSt PB κ f c 7 -∗ Q ⟨⟩) -∗ W c (k0_part6 i arg1 harg1 arg2 harg2 arg3 harg3 arg4 harg4 arg5 harg5 pM harg6 cc0_scratch1 cc0_scratch2 c (tw c) k0_hw1 v79 v90 v91 v92 v103 v104 v105 v116 k0_h6 v332 c0_i32_219) Q) := by
  simp only [k0_part6_eq_skeleton]; unfold k0_part6_skel
  simp only [semSignalWord, semWaitWord, Prog.lift, Prog.bind_op, Prog.bind_ret, Prog.pure_eq_ret, Prog.bind_assoc]
  iintro H Hk
  iapply (send_at PB κ c f hf 5 5 6 rfl rfl _ (Fin.ext (dev21_eq c)) _ rfl _ _ rfl rfl) $$ H
  iintro H
  iapply (send_at PB κ c f hf 6 6 7 rfl rfl _ (Fin.ext (dev22_eq c)) _ rfl _ _ rfl rfl) $$ H
  iintro H
  iapply (ret_intro c _ _)
  iapply Hk
  iexact H

/-- The sends at the offsets from 7 to 9. -/
theorem part7_wp (f : S16x34x64.Idx → Elt F .f32) (hf : Good PB c f) (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v117 v118 v129 v130 v131 v142 v143 v144 : BitVec 32) (k0_hw1 : k0_chk1 i c (tw c)) (k0_h6 : k0_cond6 i = 1#1) {Q : _ → sProp 𝕄} :
    sendSt PB κ f c 7 ⊢ iprop((∀ r, sendSt PB κ f c 10 -∗ Q r) -∗ W c (k0_part7 i arg1 harg1 arg2 harg2 arg3 harg3 arg4 harg4 arg5 harg5 pM harg6 cc0_scratch1 cc0_scratch2 c (tw c) k0_hw1 v117 v118 v129 v130 v131 v142 v143 v144 k0_h6) Q) := by
  simp only [k0_part7_eq_skeleton]; unfold k0_part7_skel
  simp only [semSignalWord, semWaitWord, Prog.lift, Prog.bind_op, Prog.bind_ret, Prog.pure_eq_ret, Prog.bind_assoc]
  iintro H Hk
  iapply (send_at PB κ c f hf 7 7 8 rfl rfl _ (Fin.ext (dev23_eq c)) _ rfl _ _ rfl rfl) $$ H
  iintro H
  iapply (send_at PB κ c f hf 8 8 9 rfl rfl _ (Fin.ext (dev24_eq c)) _ rfl _ _ rfl rfl) $$ H
  iintro H
  iapply (send_at PB κ c f hf 9 9 10 rfl rfl _ (Fin.ext (dev25_eq c)) _ rfl _ _ rfl rfl) $$ H
  iintro H
  iapply (ret_intro c _ _)
  iapply Hk
  iexact H

/-- The sends at the offsets from 10 to 12. -/
theorem part8_wp (f : S16x34x64.Idx → Elt F .f32) (hf : Good PB c f) (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v155 v156 v157 v168 v169 v170 v181 v395 c1_i32_267 : BitVec 32) (k0_hw1 : k0_chk1 i c (tw c)) (k0_h6 : k0_cond6 i = 1#1) {Q : _ → sProp 𝕄} :
    sendSt PB κ f c 10 ⊢ iprop((sendSt PB κ f c 13 -∗ Q ⟨⟩) -∗ W c (k0_part8 i arg1 harg1 arg2 harg2 arg3 harg3 arg4 harg4 arg5 harg5 pM harg6 cc0_scratch1 cc0_scratch2 c (tw c) k0_hw1 v155 v156 v157 v168 v169 v170 v181 k0_h6 v395 c1_i32_267) Q) := by
  simp only [k0_part8_eq_skeleton]; unfold k0_part8_skel
  simp only [semSignalWord, semWaitWord, Prog.lift, Prog.bind_op, Prog.bind_ret, Prog.pure_eq_ret, Prog.bind_assoc]
  iintro H Hk
  iapply (send_at PB κ c f hf 10 10 11 rfl rfl _ (Fin.ext (dev26_eq c)) _ rfl _ _ rfl rfl) $$ H
  iintro H
  iapply (send_at PB κ c f hf 11 11 12 rfl rfl _ (Fin.ext (dev27_eq c)) _ rfl _ _ rfl rfl) $$ H
  iintro H
  iapply (send_at PB κ c f hf 12 12 13 rfl rfl _ (Fin.ext (dev28_eq c)) _ rfl _ _ rfl rfl) $$ H
  iintro H
  iapply (ret_intro c _ _)
  iapply Hk
  iexact H

/-- The sends at the offsets from 13 to 14. -/
theorem part9_wp (f : S16x34x64.Idx → Elt F .f32) (hf : Good PB c f) (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v13 v14 v25 v182 v183 v194 v195 v196 v207 : BitVec 32) (k0_hw1 : k0_chk1 i c (tw c)) (k0_h6 : k0_cond6 i = 1#1) {Q : _ → sProp 𝕄} :
    sendSt PB κ f c 13 ⊢ iprop((sendSt PB κ f c 15 -∗ Q ⟨⟩) -∗ W c (k0_part9 i arg1 harg1 arg2 harg2 arg3 harg3 arg4 harg4 arg5 harg5 pM harg6 cc0_scratch1 cc0_scratch2 c (tw c) k0_hw1 v13 v14 v25 v182 v183 v194 v195 v196 v207 k0_h6) Q) := by
  simp only [k0_part9_eq_skeleton]; unfold k0_part9_skel
  simp only [semSignalWord, semWaitWord, Prog.lift, Prog.bind_op, Prog.bind_ret, Prog.pure_eq_ret, Prog.bind_assoc]
  iintro H Hk
  iapply (send_at PB κ c f hf 13 13 14 rfl rfl _ (Fin.ext (dev29_eq c)) _ rfl _ _ rfl rfl) $$ H
  iintro H
  iapply (send_at PB κ c f hf 14 14 15 rfl rfl _ (Fin.ext (dev30_eq c)) _ rfl _ _ rfl rfl) $$ H
  iintro H
  iapply (ret_intro c _ _)
  iapply Hk
  iexact H

/-- The waits on the receive cells from 0 to 2. -/
theorem part10_wp (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v26 v27 v38 v39 v40 v51 v52 : BitVec 32) {Q : _ → sProp 𝕄} :
    recvSt PB κ c 0 ⊢ iprop((∀ r, recvSt PB κ c 3 -∗ Q r) -∗ W c (k0_part10 i arg1 harg1 arg2 harg2 arg3 harg3 arg4 harg4 arg5 harg5 pM harg6 cc0_scratch1 cc0_scratch2 v26 v27 v38 v39 v40 v51 v52) Q) := by
  simp only [k0_part10_eq_skeleton]; unfold k0_part10_skel
  simp only [semSignalWord, semWaitWord, Prog.lift, Prog.bind_op, Prog.bind_ret, Prog.pure_eq_ret, Prog.bind_assoc]
  iintro H Hk
  iapply (recv_at PB κ c 0 0 1 rfl rfl (credit_eq _ rfl) _ rfl) $$ H
  iintro H
  iapply (recv_at PB κ c 1 1 2 rfl rfl (credit_eq _ rfl) _ rfl) $$ H
  iintro H
  iapply (recv_at PB κ c 2 2 3 rfl rfl (credit_eq _ rfl) _ rfl) $$ H
  iintro H
  iapply (ret_intro c _ _)
  iapply Hk
  iexact H

/-- The waits on the receive cells from 3 to 4. -/
theorem part11_wp (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v53 v64 v65 v66 v77 v78 v79 v90 v483 : BitVec 32) {Q : _ → sProp 𝕄} :
    recvSt PB κ c 3 ⊢ iprop((recvSt PB κ c 5 -∗ Q ⟨⟩) -∗ W c (k0_part11 i arg1 harg1 arg2 harg2 arg3 harg3 arg4 harg4 arg5 harg5 pM harg6 cc0_scratch1 cc0_scratch2 v53 v64 v65 v66 v77 v78 v79 v90 v483) Q) := by
  simp only [k0_part11_eq_skeleton]; unfold k0_part11_skel
  simp only [semSignalWord, semWaitWord, Prog.lift, Prog.bind_op, Prog.bind_ret, Prog.pure_eq_ret, Prog.bind_assoc]
  iintro H Hk
  iapply (recv_at PB κ c 3 3 4 rfl rfl (credit_eq _ rfl) _ rfl) $$ H
  iintro H
  iapply (recv_at PB κ c 4 4 5 rfl rfl (credit_eq _ rfl) _ rfl) $$ H
  iintro H
  iapply (ret_intro c _ _)
  iapply Hk
  iexact H

/-- The waits on the receive cells from 5 to 7. -/
theorem part12_wp (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v91 v92 v103 v104 v105 v116 v117 v118 v129 : BitVec 32) {Q : _ → sProp 𝕄} :
    recvSt PB κ c 5 ⊢ iprop((∀ r, recvSt PB κ c 8 -∗ Q r) -∗ W c (k0_part12 i arg1 harg1 arg2 harg2 arg3 harg3 arg4 harg4 arg5 harg5 pM harg6 cc0_scratch1 cc0_scratch2 v91 v92 v103 v104 v105 v116 v117 v118 v129) Q) := by
  simp only [k0_part12_eq_skeleton]; unfold k0_part12_skel
  simp only [semSignalWord, semWaitWord, Prog.lift, Prog.bind_op, Prog.bind_ret, Prog.pure_eq_ret, Prog.bind_assoc]
  iintro H Hk
  iapply (recv_at PB κ c 5 5 6 rfl rfl (credit_eq _ rfl) _ rfl) $$ H
  iintro H
  iapply (recv_at PB κ c 6 6 7 rfl rfl (credit_eq _ rfl) _ rfl) $$ H
  iintro H
  iapply (recv_at PB κ c 7 7 8 rfl rfl (credit_eq _ rfl) _ rfl) $$ H
  iintro H
  iapply (ret_intro c _ _)
  iapply Hk
  iexact H

/-- The waits on the receive cells from 8 to 10. -/
theorem part13_wp (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v130 v131 v142 v143 v144 v155 v535 v536 : BitVec 32) {Q : _ → sProp 𝕄} :
    recvSt PB κ c 8 ⊢ iprop((recvSt PB κ c 11 -∗ Q ⟨⟩) -∗ W c (k0_part13 i arg1 harg1 arg2 harg2 arg3 harg3 arg4 harg4 arg5 harg5 pM harg6 cc0_scratch1 cc0_scratch2 v130 v131 v142 v143 v144 v155 v535 v536) Q) := by
  simp only [k0_part13_eq_skeleton]; unfold k0_part13_skel
  simp only [semSignalWord, semWaitWord, Prog.lift, Prog.bind_op, Prog.bind_ret, Prog.pure_eq_ret, Prog.bind_assoc]
  iintro H Hk
  iapply (recv_at PB κ c 8 8 9 rfl rfl (credit_eq _ rfl) _ rfl) $$ H
  iintro H
  iapply (recv_at PB κ c 9 9 10 rfl rfl (credit_eq _ rfl) _ rfl) $$ H
  iintro H
  iapply (recv_at PB κ c 10 10 11 rfl rfl (credit_eq _ rfl) _ rfl) $$ H
  iintro H
  iapply (ret_intro c _ _)
  iapply Hk
  iexact H

/-- The waits on the receive cells from 11 to 12. -/
theorem part14_wp (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v156 v157 v168 v169 v170 v181 v182 v183 v194 : BitVec 32) {Q : _ → sProp 𝕄} :
    recvSt PB κ c 11 ⊢ iprop((recvSt PB κ c 13 -∗ Q ⟨⟩) -∗ W c (k0_part14 i arg1 harg1 arg2 harg2 arg3 harg3 arg4 harg4 arg5 harg5 pM harg6 cc0_scratch1 cc0_scratch2 v156 v157 v168 v169 v170 v181 v182 v183 v194) Q) := by
  simp only [k0_part14_eq_skeleton]; unfold k0_part14_skel
  simp only [semSignalWord, semWaitWord, Prog.lift, Prog.bind_op, Prog.bind_ret, Prog.pure_eq_ret, Prog.bind_assoc]
  iintro H Hk
  iapply (recv_at PB κ c 11 11 12 rfl rfl (credit_eq _ rfl) _ rfl) $$ H
  iintro H
  iapply (recv_at PB κ c 12 12 13 rfl rfl (credit_eq _ rfl) _ rfl) $$ H
  iintro H
  iapply (ret_intro c _ _)
  iapply Hk
  iexact H

/-- The waits on the send cells from 0 to 2. -/
theorem part16_wp (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v605 : FVec F S2x8x16x2x64 .f32) (v611 : FVec F S2x8x16x2 .f32) (v621 : FVec F S8x16x2x1 .f32) (v626 : FVec F S8x16x2x1 .f32) (v628 : FVec F S8x16x2 .f32) (k0_hw1 : k0_chk1 i c (tw c)) (k0_h6 : k0_cond6 i = 1#1) {Q : _ → sProp 𝕄} :
    backSt PB κ c 0 ⊢ iprop((backSt PB κ c 3 -∗ Q (k0_pay20 v605 v611 v621 v626 v628)) -∗ W c (k0_part16 i arg1 harg1 arg2 harg2 arg3 harg3 arg4 harg4 arg5 harg5 pM harg6 cc0_scratch1 cc0_scratch2 c (tw c) k0_hw1 k0_h6 v605 v611 v621 v626 v628) Q) := by
  simp only [k0_part16_eq_skeleton]; unfold k0_part16_skel
  simp only [semSignalWord, semWaitWord, Prog.lift, Prog.bind_op, Prog.bind_ret, Prog.pure_eq_ret, Prog.bind_assoc]
  iintro H Hk
  iapply (back_at PB κ c 0 0 1 rfl rfl _ rfl _ rfl) $$ H
  iintro H
  iapply (back_at PB κ c 1 1 2 rfl rfl _ rfl _ rfl) $$ H
  iintro H
  iapply (back_at PB κ c 2 2 3 rfl rfl _ rfl _ rfl) $$ H
  iintro H
  iapply (ret_intro c _ _)
  iapply Hk
  iexact H

/-- The waits on the send cells from 3 to 7. -/
theorem part17_wp (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (k0_hw1 : k0_chk1 i c (tw c)) (k0_h6 : k0_cond6 i = 1#1) {Q : _ → sProp 𝕄} :
    backSt PB κ c 3 ⊢ iprop((backSt PB κ c 8 -∗ Q ⟨⟩) -∗ W c (k0_part17 i arg1 harg1 arg2 harg2 arg3 harg3 arg4 harg4 arg5 harg5 pM harg6 cc0_scratch1 cc0_scratch2 c (tw c) k0_hw1 k0_h6) Q) := by
  simp only [k0_part17_eq_skeleton]; unfold k0_part17_skel
  simp only [semSignalWord, semWaitWord, Prog.lift, Prog.bind_op, Prog.bind_ret, Prog.pure_eq_ret, Prog.bind_assoc]
  iintro H Hk
  iapply (back_at PB κ c 3 3 4 rfl rfl _ rfl _ rfl) $$ H
  iintro H
  iapply (back_at PB κ c 4 4 5 rfl rfl _ rfl _ rfl) $$ H
  iintro H
  iapply (back_at PB κ c 5 5 6 rfl rfl _ rfl _ rfl) $$ H
  iintro H
  iapply (back_at PB κ c 6 6 7 rfl rfl _ rfl _ rfl) $$ H
  iintro H
  iapply (back_at PB κ c 7 7 8 rfl rfl _ rfl _ rfl) $$ H
  iintro H
  iapply (ret_intro c _ _)
  iapply Hk
  iexact H

/-- The waits on the send cells from 8 to 12. -/
theorem part18_wp (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (k0_hw1 : k0_chk1 i c (tw c)) (k0_h6 : k0_cond6 i = 1#1) {Q : _ → sProp 𝕄} :
    backSt PB κ c 8 ⊢ iprop((backSt PB κ c 13 -∗ Q ⟨⟩) -∗ W c (k0_part18 i arg1 harg1 arg2 harg2 arg3 harg3 arg4 harg4 arg5 harg5 pM harg6 cc0_scratch1 cc0_scratch2 c (tw c) k0_hw1 k0_h6) Q) := by
  simp only [k0_part18_eq_skeleton]; unfold k0_part18_skel
  simp only [semSignalWord, semWaitWord, Prog.lift, Prog.bind_op, Prog.bind_ret, Prog.pure_eq_ret, Prog.bind_assoc]
  iintro H Hk
  iapply (back_at PB κ c 8 8 9 rfl rfl _ rfl _ rfl) $$ H
  iintro H
  iapply (back_at PB κ c 9 9 10 rfl rfl _ rfl _ rfl) $$ H
  iintro H
  iapply (back_at PB κ c 10 10 11 rfl rfl _ rfl _ rfl) $$ H
  iintro H
  iapply (back_at PB κ c 11 11 12 rfl rfl _ rfl _ rfl) $$ H
  iintro H
  iapply (back_at PB κ c 12 12 13 rfl rfl _ rfl _ rfl) $$ H
  iintro H
  iapply (ret_intro c _ _)
  iapply Hk
  iexact H

end Cert.KernelIdeal.Ring
-- ==== Proof.Split.lean ====
/-
How the exchange buffer is cut up and put together: into the devices' blocks at the first grid point, a block into its
shares for the sends, and the received blocks and the shares back into the whole buffer.
-/
module

public import proofs.«01_k».proof.Proof.Steps
public import Idealize.ShloMosaic.Lib.ShareLeaves

@[expose] public section

set_option maxRecDepth 16384
set_option backward.proofsInPublic true

noncomputable section

namespace Cert.KernelIdeal.Ring

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] peer Mesh.inv neg Mesh.off blk N

variable {F : FTy → Type} [FloatOps F] [Facts]

local notation "𝕄" => MT nD τ sig Unit (Elt F) ℕ UU ℕ

variable (PB : S16x34x64.Idx → Elt F .f32) (c : Dev nD)

omit [FloatOps F] [Facts] in
/-- A resource carried through a family, each member changed beside it. -/
theorem carry {J : Type} [DecidableEq J] (R : sProp 𝕄) (A B : J → sProp 𝕄) (S : Finset J)
    (h : ∀ j ∈ S, iprop(R ∗ A j) ⊢ iprop(R ∗ B j)) : iprop(R ∗ bigSep S A) ⊢ iprop(R ∗ bigSep S B) := by
  induction S using Finset.induction_on with
  | empty => exact .rfl
  | insert j S hj ih =>
    have ih' := ih fun i hi => h i (Finset.mem_insert_of_mem hi)
    have hj' := h j (Finset.mem_insert_self j S)
    have eA : bigSep (insert j S) A = iprop(A j ∗ bigSep S A) := BI.bigSep_insert hj
    have eB : bigSep (insert j S) B = iprop(B j ∗ bigSep S B) := BI.bigSep_insert hj
    rw [eA, eB]
    iintro ⟨HR, HA, HS⟩
    ihave H := hj' $$ [HR HA]
    · isplitl [HR] <;> iassumption
    icases H with ⟨HR, HB⟩
    ihave H := ih' $$ [HR HS]
    · isplitl [HR] <;> iassumption
    icases H with ⟨HR, HS⟩
    isplitl [HR]; · iexact HR
    isplitl [HB] <;> iassumption

theorem blocks_disj : ∀ j ∈ (Finset.univ : Finset (Fin 15)), ∀ j' ∈ (Finset.univ : Finset (Fin 15)), j ≠ j' →
    Disjoint (blk (peer j c)) (blk (peer j' c)) := fun j _ j' _ h =>
  blk_disj fun e => h (by rw [← off_peer j c, ← off_peer j' c, e])

theorem rest_disj : Disjoint (blk c) ((Finset.univ : Finset (Fin 15)).biUnion fun j => blk (peer j c)) :=
  (Finset.disjoint_biUnion_right _ _ _).mpr fun j _ => blk_disj (peer_ne j c).symm

theorem rest_all : blk c ∪ ((Finset.univ : Finset (Fin 15)).biUnion fun j => blk (peer j c)) = Finset.univ := by
  ext i
  simp only [Finset.mem_union, Finset.mem_biUnion, Finset.mem_univ, true_and, iff_true]
  by_cases h : (⟨(i 0).val, (i 0).isLt⟩ : Dev nD) = c
  · exact Or.inl (mem_blk.mpr (congrArg Fin.val h))
  · exact Or.inr ⟨off c _, mem_blk.mpr (congrArg Fin.val (peer_off c _ h)).symm⟩

theorem invs_disj : ∀ j ∈ (Finset.univ : Finset (Fin 15)), ∀ j' ∈ (Finset.univ : Finset (Fin 15)), j ≠ j' →
    Disjoint (blk (Mesh.inv j c)) (blk (Mesh.inv j' c)) := fun j _ j' _ h =>
  blk_disj fun e => h (by
    have h1 : peer j (Mesh.inv j c) = peer j' (Mesh.inv j c) := by rw [peer_inv, e, peer_inv]
    rw [← off_peer j (Mesh.inv j c), ← off_peer j' (Mesh.inv j c), h1])

theorem invs_all : ((Finset.univ : Finset (Fin 15)).biUnion fun j => blk (Mesh.inv j c))
    = (Finset.univ : Finset (Fin 15)).biUnion fun j => blk (peer j c) := by
  ext i
  simp only [Finset.mem_biUnion, Finset.mem_univ, true_and]
  constructor
  · rintro ⟨j, h⟩; exact ⟨neg j, by rw [← inv_neg, Mesh.neg_neg]; exact h⟩
  · rintro ⟨j, h⟩; exact ⟨neg j, by rw [inv_neg]; exact h⟩

abbrev restBlk : Finset S16x34x64.Idx := (Finset.univ : Finset (Fin 15)).biUnion fun j => blk (peer j c)

omit [FloatOps F] [Facts] in
/-- The whole exchange buffer is the device's own block and its peers' blocks. -/
theorem whole_split (f : S16x34x64.Idx → Elt F .f32) : (pts c Finset.univ fullShare f : sProp 𝕄)
    ⊢ iprop((∃ f, pts c (blk c) fullShare f) ∗ bigSep Finset.univ fun j : Fin 15 => iprop(∃ f, pts c (blk (peer j c)) fullShare f)) := by
  have h1 : (pts c Finset.univ fullShare f : sProp 𝕄) ⊢ iprop(pts c (blk c) fullShare f ∗ pts c (restBlk c) fullShare f) := by
    rw [← rest_all c]; exact (pointsTo_union (rest_disj c)).1
  have h2 : (pts c (restBlk c) fullShare f : sProp 𝕄) ⊢ bigSep Finset.univ fun j : Fin 15 => iprop(∃ f, pts c (blk (peer j c)) fullShare f) := by
    unfold pts restBlk
    rw [pointsTo_biUnion _ _ (blocks_disj c)]
    have hex : ∀ j : Fin 15, (pts c (blk (peer j c)) fullShare f : sProp 𝕄) ⊢ iprop(∃ f, pts c (blk (peer j c)) fullShare f) := by
      intro j; iintro H; iexists f; iexact H
    exact BI.bigSep_mono fun j _ => hex j
  refine h1.trans ?_
  iintro ⟨H1, H2⟩
  isplitl [H1]
  · iexists f; iexact H1
  · iapply h2; iexact H2

omit [FloatOps F] [Facts] in
/-- A set of elements in full is its kept share and the fifteen shares the sends lend. -/
theorem lend (I : Finset S16x34x64.Idx) (f : S16x34x64.Idx → Elt F .f32) : (pts c I fullShare f : sProp 𝕄)
    = iprop(pts c I lf0 f ∗ bigSep Finset.univ fun j : Fin 15 => pts c I (lf j) f) := by
  unfold pts
  rw [ShareLeaves.pointsTo_leaves (ℓ := (c : Thread nD τ).loc cc0_scratch0) I f 4 fullShare]
  have e : (Finset.univ : Finset (Fin (2 ^ 4))) = insert (0 : Fin 16) ((Finset.univ : Finset (Fin 15)).map (Fin.succEmb 15)) := by decide
  rw [e, BI.bigSep_insert (by decide)]
  have e2 : ∀ (Φ : Fin (2 ^ 4) → sProp 𝕄), bigSep ((Finset.univ : Finset (Fin 15)).map (Fin.succEmb 15)) Φ
      = bigSep Finset.univ fun j : Fin 15 => Φ (Fin.succ j) := fun Φ => by
    unfold BI.bigSep; rw [Finset.fold_map]; rfl
  rw [e2]; rfl

omit [FloatOps F] [Facts] in
theorem agree_leaf (I : Finset S16x34x64.Idx) (f : S16x34x64.Idx → Elt F .f32) (q q' : PosShare TreeShare) :
    iprop(pts c I q f ∗ ∃ f', pts c I q' f') ⊢ (iprop(pts c I q f ∗ pts c I q' f) : sProp 𝕄) := by
  iintro ⟨H, %f', H'⟩
  ihave %h := (pointsTo_agree (ℓ := (c : Thread nD τ).loc cc0_scratch0) (I := I) (J := I) (q₁ := q) (q₂ := q') (f := f) (g := f')) $$ [H H']
  · isplitl [H] <;> iassumption
  ihave H' := (Entails.of_eq (pointsTo_congr (ℓ := (c : Thread nD τ).loc cc0_scratch0) (q := q') fun i hi => (h i (by simpa using hi)).1.symm)) $$ H'
  isplitl [H] <;> iassumption

omit [FloatOps F] [Facts] in
/-- The lent shares back make the set of elements full again. -/
theorem giveback (I : Finset S16x34x64.Idx) (f : S16x34x64.Idx → Elt F .f32) :
    iprop(pts c I lf0 f ∗ bigSep Finset.univ fun j : Fin 15 => iprop(∃ f', pts c I (lf j) f')) ⊢ (pts c I fullShare f : sProp 𝕄) := by
  rw [lend c I f]
  exact carry _ _ _ _ fun j _ => agree_leaf c I f lf0 (lf j)

omit [FloatOps F] [Facts] in
/-- The received blocks together: one contents, good at every other device's block. -/
theorem gather (S : Finset (Fin 15)) (f₀ : S16x34x64.Idx → Elt F .f32) : bigSep S (recvPay PB c)
    ⊢ iprop(∃ g, ⌜∀ j ∈ S, Good PB (Mesh.inv j c) g⌝ ∗ pts c (S.biUnion fun j => blk (Mesh.inv j c)) fullShare g) := by
  induction S using Finset.induction_on with
  | empty =>
    iintro -
    iexists f₀
    isplitr
    · ipureintro; intro j hj; exact absurd hj (Finset.notMem_empty j)
    · rw [Finset.biUnion_empty]; unfold pts; rw [pointsTo_empty]; iempintro
  | insert j S hj ih =>
    have eA : bigSep (insert j S) (recvPay PB c) = iprop(recvPay PB c j ∗ bigSep S (recvPay PB c)) := BI.bigSep_insert hj
    rw [eA, Finset.biUnion_insert]
    unfold recvPay at ih ⊢
    have hd : Disjoint (blk (Mesh.inv j c)) (S.biUnion fun j => blk (Mesh.inv j c)) :=
      (Finset.disjoint_biUnion_right _ _ _).mpr fun j' hj' =>
        invs_disj c j (Finset.mem_univ _) j' (Finset.mem_univ _) fun e => hj (e ▸ hj')
    iintro ⟨⟨%f, %hf, H1⟩, H2⟩
    ihave H2 := ih $$ H2
    icases H2 with ⟨%g, %hg, H2⟩
    iexists (S.biUnion fun j => blk (Mesh.inv j c)).piecewise g f
    isplitr
    · ipureintro
      intro j' hj' i hi h33
      rcases Finset.mem_insert.mp hj' with rfl | h
      · rw [Finset.piecewise_eq_of_notMem]
        · exact hf i hi h33
        · exact Finset.disjoint_left.mp hd (mem_blk.mpr hi)
      · rw [Finset.piecewise_eq_of_mem _ _ _ (Finset.mem_biUnion.mpr ⟨j', h, mem_blk.mpr hi⟩)]
        exact hg j' h i hi h33
    · iapply (pointsTo_join (ℓ := (c : Thread nD τ).loc cc0_scratch0) hd)
      isplitl [H1] <;> iassumption

omit [FloatOps F] [Facts] in
/-- After the waits: the kept share of the own block and the received blocks are the kept share of the whole buffer,
    good at every block, and the other shares of the others' blocks. -/
theorem assemble (f : S16x34x64.Idx → Elt F .f32) (hf : Good PB c f) :
    iprop(pts c (blk c) lf0 f ∗ bigSep Finset.univ (recvPay PB c))
    ⊢ iprop(∃ g, ⌜∀ i, (i 1).val ≠ 33 → g i = PB i⌝ ∗ pts c Finset.univ lf0 g
        ∗ bigSep Finset.univ fun j : Fin 15 => pts c (restBlk c) (lf j) g) := by
  have hg0 := gather PB c Finset.univ f
  rw [invs_all c] at hg0
  have hmk : ∀ g : S16x34x64.Idx → Elt F .f32, (∀ j ∈ (Finset.univ : Finset (Fin 15)), Good PB (Mesh.inv j c) g) →
      ∃ h : S16x34x64.Idx → Elt F .f32, (∀ i ∈ blk c, f i = h i) ∧ (∀ i ∈ restBlk c, g i = h i) ∧ ∀ i, (i 1).val ≠ 33 → h i = PB i := by
    intro g hg
    refine ⟨(blk c).piecewise f g, fun i hi => ((blk c).piecewise_eq_of_mem f g hi).symm,
      fun i hi => ((blk c).piecewise_eq_of_notMem f g (Finset.disjoint_right.mp (rest_disj c) hi)).symm, fun i h33 => ?_⟩
    by_cases hi : i ∈ blk c
    · rw [(blk c).piecewise_eq_of_mem f g hi]; exact hf i (mem_blk.mp hi) h33
    · rw [(blk c).piecewise_eq_of_notMem f g hi]
      have hr : i ∈ restBlk c := by
        have := rest_all c ▸ Finset.mem_univ i
        rcases Finset.mem_union.mp this with h | h
        · exact absurd h hi
        · exact h
      rw [restBlk, ← invs_all c] at hr
      obtain ⟨j, -, hj⟩ := Finset.mem_biUnion.mp hr
      exact hg j (Finset.mem_univ j) i (mem_blk.mp hj) h33
  have hj : ∀ h : S16x34x64.Idx → Elt F .f32, iprop(pts c (blk c) lf0 h ∗ pts c (restBlk c) fullShare h)
      ⊢ (iprop(pts c Finset.univ lf0 h ∗ bigSep Finset.univ fun j : Fin 15 => pts c (restBlk c) (lf j) h) : sProp 𝕄) := by
    intro h
    have hu : iprop(pts c (blk c) lf0 h ∗ pts c (restBlk c) lf0 h) ⊢ (pts c Finset.univ lf0 h : sProp 𝕄) := by
      rw [← rest_all c]; exact (pointsTo_union (rest_disj c)).2
    rw [lend c (restBlk c) h]
    iintro ⟨H1, H2, H3⟩
    isplitr [H3]
    · iapply hu; isplitl [H1] <;> iassumption
    · iexact H3
  iintro ⟨H1, H2⟩
  ihave H2 := hg0 $$ H2
  icases H2 with ⟨%g, %hg, H2⟩
  obtain ⟨h, e1, e2, e3⟩ := hmk g hg
  ihave H1 := (Entails.of_eq (pointsTo_congr (ℓ := (c : Thread nD τ).loc cc0_scratch0) (q := lf0) e1)) $$ H1
  ihave H2 := (Entails.of_eq (pointsTo_congr (ℓ := (c : Thread nD τ).loc cc0_scratch0) (q := fullShare) e2)) $$ H2
  iexists h
  isplitr; · ipureintro; exact e3
  iapply (hj h)
  isplitl [H1] <;> iassumption

omit [FloatOps F] [Facts] in
/-- The kept share of the whole buffer, the shares of the others' blocks and the shares the sends give back are the
    whole buffer in full. -/
theorem restore (g : S16x34x64.Idx → Elt F .f32) :
    iprop(pts c Finset.univ lf0 g ∗ (bigSep Finset.univ fun j : Fin 15 => pts c (restBlk c) (lf j) g)
      ∗ bigSep Finset.univ (sendPay c)) ⊢ (pts c Finset.univ fullShare g : sProp 𝕄) := by
  have h1 : (pts c Finset.univ lf0 g : sProp 𝕄) ⊢ iprop(pts c (blk c) lf0 g ∗ pts c (restBlk c) lf0 g) := by
    rw [← rest_all c]; exact (pointsTo_union (rest_disj c)).1
  have h2 : iprop(pts c (blk c) fullShare g ∗ pts c (restBlk c) fullShare g) ⊢ (pts c Finset.univ fullShare g : sProp 𝕄) := by
    rw [← rest_all c]; exact (pointsTo_union (rest_disj c)).2
  have h3 := giveback c (blk c) g
  have h4 : iprop(pts c (restBlk c) lf0 g ∗ bigSep Finset.univ fun j : Fin 15 => pts c (restBlk c) (lf j) g)
      ⊢ (pts c (restBlk c) fullShare g : sProp 𝕄) := Entails.of_eq (lend c (restBlk c) g).symm
  unfold sendPay
  iintro ⟨H, HR, HS⟩
  ihave H := h1 $$ H
  icases H with ⟨H, H'⟩
  iapply h2
  isplitl [H HS]
  · iapply h3; isplitl [H] <;> iassumption
  · iapply h4; isplitl [H'] <;> iassumption

end Cert.KernelIdeal.Ring
-- ==== Proof.Pieces.lean ====
/-
The pieces of the body's run beside the exchange: loads and stores with the rest of the state left as it is, the parts
that only compute words, the part that reads the table, the part that loads the operands and the part that loads the
whole exchange buffer.
-/
module

public import proofs.«01_k».proof.Proof.Parts
public import proofs.«01_k».proof.Proof.Split

@[expose] public section

set_option maxRecDepth 16384
set_option backward.proofsInPublic true

noncomputable section

namespace Cert.KernelIdeal.Ring

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] peer Mesh.inv neg Mesh.off blk N

variable {F : FTy → Type} [FloatOps F] [Facts]

local notation "𝕄" => MT nD τ sig Unit (Elt F) ℕ UU ℕ

variable (PB : S16x34x64.Idx → Elt F .f32) (κ : GSem nD τ sig → ℕ) (c : Dev nD)

/-! ## Steps with a frame -/

omit [FloatOps F] [Facts] in
/-- A step's rule used with a frame beside its state. -/
theorem use {T A B X P : sProp 𝕄} (h : A ⊢ iprop((B -∗ X) -∗ P)) (h2 : iprop(T ∗ B) ⊢ X) : iprop(T ∗ A) ⊢ P := by
  iintro ⟨HT, HA⟩
  iapply h $$ HA
  iintro HB
  iapply h2
  isplitl [HT] <;> iassumption

omit [FloatOps F] [Facts] in
theorem pure_in {φ : Prop} {P X : sProp 𝕄} (h : φ → P ⊢ X) : iprop(⌜φ⌝ ∗ P) ⊢ X := by
  iintro ⟨%hφ, H⟩
  iapply (h hφ) $$ H

omit [FloatOps F] [Facts] in
/-- The same for a part with a result that is used for nothing. -/
theorem useA {α : Type} {T A B P : sProp 𝕄} {X : α → sProp 𝕄} (h : A ⊢ iprop((∀ r, B -∗ X r) -∗ P)) (h2 : ∀ r, iprop(T ∗ B) ⊢ X r) :
    iprop(T ∗ A) ⊢ P := by
  iintro ⟨HT, HA⟩
  iapply h $$ HA
  iintro %r HB
  iapply (h2 r)
  isplitl [HT] <;> iassumption

/-- A program in sequence. -/
theorem bind_wp {α β : Type} {p : Prog (TpuEff nD τ sig (Elt F) Λ₀ .tc) α} {k : α → Prog (TpuEff nD τ sig (Elt F) Λ₀ .tc) β}
    {Q : β → sProp 𝕄} {P : sProp 𝕄} (h : P ⊢ W c p fun a => W c (k a) Q) : P ⊢ W c (p >>= k) Q := by
  unfold W at h ⊢; rw [wp_bind]; exact h

/-- A part that only computes: its result is left general. -/
theorem bind_pure {α β : Type} {p : Prog (TpuEff nD τ sig (Elt F) Λ₀ .tc) α} {k : α → Prog (TpuEff nD τ sig (Elt F) Λ₀ .tc) β}
    {Q : β → sProp 𝕄} {P : sProp 𝕄} (hp : ∃ r, p = .ret r) (h : ∀ r, P ⊢ W c (k r) Q) : P ⊢ W c (p >>= k) Q := by
  obtain ⟨r, rfl⟩ := hp; exact h r

/-- An assumption that holds. -/
theorem assume_intro {P : Prop} {d : Decidable P} (hp : P) {α : Type} {k : PLift P → Prog (TpuEff nD τ sig (Elt F) Λ₀ .tc) α}
    {Q : α → sProp 𝕄} : W c (k ⟨hp⟩) Q ⊢ W c (.op (.assume P d) k) Q := by
  unfold W; rw [wp_assume_of _ _ _ _ hp]

/-- A load of a memref held with contents `X`. -/
theorem load_owns {s : Shape} {e : EltTy} (M : Memref sig .tc .vmem s e) (X : s.Idx → Elt F e) (r : LoadRect s) {hl : M.view.LoadsAt r}
    {α : Type} {k : (r.shape.Idx → Elt F e) → Prog (TpuEff nD τ sig (Elt F) Λ₀ .tc) α} {Q : α → sProp 𝕄} {T : sProp 𝕄}
    (h : iprop(T ∗ owns (c : Thread nD τ) M fullShare X) ⊢ W c (k fun x => X (r.idx x)) Q) :
    iprop(T ∗ owns (c : Thread nD τ) M fullShare X) ⊢ W c (.op (.load M r hl) k) Q := by
  unfold owns at h ⊢
  iintro ⟨HT, %f, %hf, H⟩
  subst hf
  iapply (wp_load 𝒱₀ (c : Thread nD τ) none Set.univ (m := M) (r := r) (M.view.setOn_subset_set r.set)) $$ H
  iintro H
  iapply h
  isplitl [HT]; · iexact HT
  iexists f
  isplitr; · ipureintro; rfl
  iexact H

/-- A load from the exchange buffer. -/
theorem load_pts (S : Finset S16x34x64.Idx) (q : PosShare TreeShare) (f : S16x34x64.Idx → Elt F .f32) (r : LoadRect S16x34x64)
    {hl : (pM : Memref sig .tc .vmem S16x34x64 .f32).view.LoadsAt r} (hS : (pM : Memref sig .tc .vmem S16x34x64 .f32).view.setOn r.set ⊆ S)
    {α : Type} {k : (r.shape.Idx → Elt F .f32) → Prog (TpuEff nD τ sig (Elt F) Λ₀ .tc) α} {Q : α → sProp 𝕄} {T : sProp 𝕄}
    (h : iprop(T ∗ pts c S q f) ⊢ W c (k ((pM : Memref sig .tc .vmem S16x34x64 .f32).view.readAt (Elt F) r f)) Q) :
    iprop(T ∗ pts c S q f) ⊢ W c (.op (.load pM r hl) k) Q := by
  iintro ⟨HT, H⟩
  iapply (wp_load 𝒱₀ (c : Thread nD τ) none Set.univ (m := pM) (r := r) hS) $$ H
  iintro H
  iapply h
  isplitl [HT] <;> iassumption

/-- A store to the exchange buffer. -/
theorem store_pts (S : Finset S16x34x64.Idx) (f : S16x34x64.Idx → Elt F .f32) (r : Rect S16x34x64)
    (w : r.shape.Idx → Elt F .f32) {hx : ((pM : Memref sig .tc .vmem S16x34x64 .f32).access r).Stores Finset.univ}
    {hm : (Finset.univ : Finset r.shape.Idx) = Finset.univ ∨ ∀ a, r.stride a = 1}
    (hS : ((pM : Memref sig .tc .vmem S16x34x64 .f32).access r).setOn Finset.univ ⊆ S)
    {α : Type} {k : PUnit → Prog (TpuEff nD τ sig (Elt F) Λ₀ .tc) α} {Q : α → sProp 𝕄} {T : sProp 𝕄}
    (h : iprop(T ∗ pts c S fullShare (((pM : Memref sig .tc .vmem S16x34x64 .f32).access r).write (Elt F) f w Finset.univ)) ⊢ W c (k ⟨⟩) Q) :
    iprop(T ∗ pts c S fullShare f) ⊢ W c (.op (.store pM r w Finset.univ hx hm) k) Q := by
  iintro ⟨HT, H⟩
  iapply (wp_store 𝒱₀ (c : Thread nD τ) none Set.univ (m := pM) (r := r) (Mk := Finset.univ) hS) $$ H
  iintro H
  iapply h
  isplitl [HT] <;> iassumption

/-! ## What a store leaves -/

omit [FloatOps F] [Facts] in
theorem unit_sub {off off' size : Fin 3 → ℕ} (inb : ∀ a, off a + size a ≤ S16x34x64.size a) (e : off = off')
    (h0 : off' 0 = c.val) (h1 : size 0 = 1) :
    ((pM : Memref sig .tc .vmem S16x34x64 .f32).access (Rect.unit (s := S16x34x64) off size inb)).setOn Finset.univ ⊆ blk c := by
  subst e
  intro i hi
  have hi' : i ∈ (Rect.unit (s := S16x34x64) off size inb).set := by
    have : i ∈ ((View.whole cc0_scratch0 : View sig .tc _ _ _).slice (Rect.unit (s := S16x34x64) off size inb)).set := hi
    rwa [View.set_slice_whole] at this
  rw [Rect.mem_set_unit] at hi'
  have := hi' 0
  rw [mem_blk]; omega

omit [FloatOps F] [Facts] in
theorem unit_sub_load {off off' size : Fin 3 → ℕ} (inb : ∀ a, off a + size a ≤ S16x34x64.size a) (e : off = off')
    (h0 : off' 0 = c.val) (h1 : size 0 = 1) :
    (pM : Memref sig .tc .vmem S16x34x64 .f32).view.setOn (Rect.unit (s := S16x34x64) off size inb).toLoadRect.set ⊆ blk c := by
  subst e
  intro i hi
  have hi' : i ∈ (Rect.unit (s := S16x34x64) off size inb).set := by
    obtain ⟨x, hx, rfl⟩ := Finset.mem_map.mp hi
    exact hx
  rw [Rect.mem_set_unit] at hi'
  have := hi' 0
  rw [mem_blk]; omega

omit [FloatOps F] [Facts] in
/-- Contents that agree with `PB` on `R`, after a store that agrees with it too, agree on `R` and on the rectangle. -/
theorem write_agr {off off' size : Fin 3 → ℕ} (inb : ∀ a, off a + size a ≤ S16x34x64.size a) (e : off = off')
    (w : (Rect.unit (s := S16x34x64) off size inb).shape.Idx → Elt F .f32) (f : S16x34x64.Idx → Elt F .f32)
    (R : S16x34x64.Idx → Prop) (hR : ∀ i, R i → f i = PB i)
    (hw : ∀ (x : (Rect.unit (s := S16x34x64) off size inb).shape.Idx) (i : S16x34x64.Idx), (∀ a, (i a).val = off' a + (x a).val) → PB i = w x)
    (i : S16x34x64.Idx) (hi : R i ∨ ∀ a, off' a ≤ (i a).val ∧ (i a).val < off' a + size a) :
    ((pM : Memref sig .tc .vmem S16x34x64 .f32).access (Rect.unit (s := S16x34x64) off size inb)).write (Elt F) f w Finset.univ i = PB i := by
  subst e
  by_cases hm : i ∈ (Rect.unit (s := S16x34x64) off size inb).set
  · have hm' : i ∈ ((View.whole cc0_scratch0 : View sig .tc _ _ _).slice (Rect.unit (s := S16x34x64) off size inb)).set := by
      rw [View.set_slice_whole]; exact hm
    obtain ⟨x, -, hx⟩ := Finset.mem_map.mp hm'
    have h1 : ((pM : Memref sig .tc .vmem S16x34x64 .f32).access (Rect.unit (s := S16x34x64) off size inb)).write (Elt F) f w Finset.univ
        (((pM : Memref sig .tc .vmem S16x34x64 .f32).access (Rect.unit (s := S16x34x64) off size inb)).emb x) = w x :=
      View.write_emb_of_mem _ _ (Finset.mem_univ x)
    have hx' : (((pM : Memref sig .tc .vmem S16x34x64 .f32).access (Rect.unit (s := S16x34x64) off size inb)).emb x) = i := hx
    rw [hx'] at h1
    rw [h1]
    refine (hw x i fun a => ?_).symm
    have : i = (Rect.unit (s := S16x34x64) off size inb).emb x := hx.symm
    rw [this]
    show off a + 1 * (x a).val = _
    omega
  · have h1 : ((pM : Memref sig .tc .vmem S16x34x64 .f32).access (Rect.unit (s := S16x34x64) off size inb)).write (Elt F) f w Finset.univ i = f i :=
      View.write_of_not_mem _ _ _ (by
        intro h
        have : i ∈ ((View.whole cc0_scratch0 : View sig .tc _ _ _).slice (Rect.unit (s := S16x34x64) off size inb)).set := h
        rw [View.set_slice_whole] at this
        exact hm this)
    rw [h1]
    rcases hi with hi | hi
    · exact hR i hi
    · exact absurd (Rect.mem_set_unit.mpr hi) hm

/-! ## The parts that compute words -/

theorem part20_pure (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v2 v5 v8 v30 v31 c0_i32_18 : BitVec 32) : ∃ r, k0_part20 (F := F) i arg1 harg1 arg2 harg2 arg3 harg3 arg4 harg4 arg5 harg5 pM harg6 cc0_scratch1 cc0_scratch2 v2 v5 v8 v30 v31 c0_i32_18 = .ret r := ⟨_, rfl⟩

theorem part21_pure (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v2 v5 v8 v67 c4_i32_41 : BitVec 32) : ∃ r, k0_part21 (F := F) i arg1 harg1 arg2 harg2 arg3 harg3 arg4 harg4 arg5 harg5 pM harg6 cc0_scratch1 cc0_scratch2 v2 v5 v8 v67 c4_i32_41 = .ret r := ⟨_, rfl⟩

theorem part22_pure (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v2 v5 v8 c1_i32_65 : BitVec 32) : ∃ r, k0_part22 (F := F) i arg1 harg1 arg2 harg2 arg3 harg3 arg4 harg4 arg5 harg5 pM harg6 cc0_scratch1 cc0_scratch2 v2 v5 v8 c1_i32_65 = .ret r := ⟨_, rfl⟩

theorem part23_pure (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v136 : BitVec 1) (v137 : BitVec 1) (v2 v5 v8 v134 v135 c0_i32_91 : BitVec 32) : ∃ r, k0_part23 (F := F) i arg1 harg1 arg2 harg2 arg3 harg3 arg4 harg4 arg5 harg5 pM harg6 cc0_scratch1 cc0_scratch2 v2 v5 v8 v134 v135 v136 v137 c0_i32_91 = .ret r := ⟨_, rfl⟩

theorem part24_pure (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (arg0 v2 v5 v8 v171 v173 : BitVec 32) : ∃ r, k0_part24 (F := F) i arg1 harg1 arg2 harg2 arg3 harg3 arg4 harg4 arg5 harg5 pM harg6 cc0_scratch1 cc0_scratch2 arg0 v2 v5 v8 v171 v173 = .ret r := ⟨_, rfl⟩

/-- The table's word of device `c`, held in full. -/
def tabPts (c : Dev nD) : sProp 𝕄 :=
  (c : Thread nD τ).loc main_v11 ↦{fullShare} (fun _ => tw c : (main_v11 : Ref sig .tc).ty.Contents (Elt F))

abbrev tM : Memref sig .tc .smem S1 .i32 := Memref.whole main_v11

/-- The part that asks for the device and reads the table: the device is `c`, the word read is the table's, and the
    assumption about it holds. -/
theorem part19_wp (t : Fin grid0.N) (harg1 : tM.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) {T : sProp 𝕄} {Q : _ → sProp 𝕄}
    (h : ∀ r, r.2.1 = c → r.2.2.2.2.2.1 = tw c → iprop(T ∗ tabPts c) ⊢ Q r) :
    iprop(T ∗ tabPts c) ⊢ W c (k0_part19 (grid0.coords t) tM harg1 arg2 harg2 arg3 harg3 arg4 harg4 arg5 harg5 pM harg6 cc0_scratch1 cc0_scratch2) Q := by
  simp only [k0_part19_eq_skeleton]; unfold k0_part19_skel
  simp only [smemLoad, smemLoadElt, Prog.lift, Prog.bind_op, Prog.bind_ret, Prog.pure_eq_ret, Prog.bind_assoc, W, wp_deviceId]
  unfold tabPts at h ⊢
  iintro ⟨HT, H⟩
  iapply (wp_load_rect 𝒱₀ (c : Thread nD τ) none Set.univ (m := tM) (r := Rect.unit (s := S1) ![0] S1.size inb_S1_S1_0)
    (Finset.subset_univ _)) $$ H
  iintro H
  iapply (assume_intro c (show k0_chk1 (grid0.coords t) c (tw c) from chk t c))
  iapply (ret_intro c _ _)
  iapply (h _ rfl rfl)
  isplitl [HT] <;> iassumption

/-! ## The operands and the barrier -/

/-- What the body reads of the query block: the two heads the table selects. -/
def qsel (c : Dev nD) (X : S4x1x16x64.Idx → Elt F .bf16) : S4x1x2x64.Idx → Elt F .bf16 :=
  fun x => X ((Rect.unit (s := S4x1x16x64) (k0_off1 (tw c)) S4x1x2x64.size (k0_off1_inb (grid0.coords t3) c (tw c) (chk t3 c))).toLoadRect.idx x)

/-- The three operands' staging buffers. -/
def opnds (c : Dev nD) (M2 : Memref sig .tc .vmem S4x1x16x64 .bf16) (M3 M4 : Memref sig .tc .vmem S4x2x64x1024 .bf16)
    (X2 : S4x1x16x64.Idx → Elt F .bf16) (X3 X4 : S4x2x64x1024.Idx → Elt F .bf16) : sProp 𝕄 :=
  iprop(owns (c : Thread nD τ) M2 fullShare X2 ∗ owns (c : Thread nD τ) M3 fullShare X3 ∗ owns (c : Thread nD τ) M4 fullShare X4)

omit [FloatOps F] [Facts] in
theorem whole_idx (X : S4x2x64x1024.Idx → Elt F .bf16) :
    (fun x => X ((Rect.unit (s := S4x2x64x1024) ![0, 0, 0, 0] S4x2x64x1024.size inb_S4x2x64x1024_S4x2x64x1024_0_0_0_0).toLoadRect.idx x)) = X := by
  funext x
  refine congrArg X (funext fun a => Fin.ext ?_)
  show (![0, 0, 0, 0] : Fin 4 → ℕ) a + 1 * (x a).val = (x a).val
  have : (![0, 0, 0, 0] : Fin 4 → ℕ) a = 0 := by fin_cases a <;> rfl
  omega

/-- The three loads, the rest of the program left general. -/
theorem loads_wp (i : grid0.Coords) (M2 : Memref sig .tc .vmem S4x1x16x64 .bf16) (M3 M4 : Memref sig .tc .vmem S4x2x64x1024 .bf16)
    (X2 : S4x1x16x64.Idx → Elt F .bf16) (X3 X4 : S4x2x64x1024.Idx → Elt F .bf16) (k0_hw1 : k0_chk1 i c (tw c))
    {hl2 : M2.view.LoadsAt (Rect.unit (s := S4x1x16x64) (k0_off1 (tw c)) S4x1x2x64.size (k0_off1_inb i c (tw c) k0_hw1)).toLoadRect}
    {hl3 : M3.view.LoadsAt (Rect.unit (s := S4x2x64x1024) ![0, 0, 0, 0] S4x2x64x1024.size inb_S4x2x64x1024_S4x2x64x1024_0_0_0_0).toLoadRect}
    {hl4 : M4.view.LoadsAt (Rect.unit (s := S4x2x64x1024) ![0, 0, 0, 0] S4x2x64x1024.size inb_S4x2x64x1024_S4x2x64x1024_0_0_0_0).toLoadRect}
    {α : Type} {k : (S4x1x2x64.Idx → Elt F .bf16) → (S4x2x64x1024.Idx → Elt F .bf16) → (S4x2x64x1024.Idx → Elt F .bf16) → Prog (TpuEff nD τ sig (Elt F) Λ₀ .tc) α}
    {T : sProp 𝕄} {Q : _ → sProp 𝕄} (h : iprop(T ∗ opnds c M2 M3 M4 X2 X3 X4) ⊢ W c (k (qsel c X2) X3 X4) Q) :
    iprop(T ∗ opnds c M2 M3 M4 X2 X3 X4) ⊢ W c (.op (.load M2 (Rect.unit (s := S4x1x16x64) (k0_off1 (tw c)) S4x1x2x64.size (k0_off1_inb i c (tw c) k0_hw1)).toLoadRect hl2) fun q =>
      .op (.load M3 (Rect.unit (s := S4x2x64x1024) ![0, 0, 0, 0] S4x2x64x1024.size inb_S4x2x64x1024_S4x2x64x1024_0_0_0_0).toLoadRect hl3) fun y =>
      .op (.load M4 (Rect.unit (s := S4x2x64x1024) ![0, 0, 0, 0] S4x2x64x1024.size inb_S4x2x64x1024_S4x2x64x1024_0_0_0_0).toLoadRect hl4) fun z => k q y z) Q := by
  unfold opnds at h ⊢
  have e1 : iprop(T ∗ owns (c : Thread nD τ) M2 fullShare X2 ∗ owns (c : Thread nD τ) M3 fullShare X3 ∗ owns (c : Thread nD τ) M4 fullShare X4)
      ⊢ iprop((T ∗ owns (c : Thread nD τ) M3 fullShare X3 ∗ owns (c : Thread nD τ) M4 fullShare X4) ∗ owns (c : Thread nD τ) M2 fullShare X2) := by
    iintro ⟨HT, H2, H3, H4⟩
    isplitr [H2]
    · isplitl [HT]; · iexact HT
      isplitl [H3] <;> iassumption
    · iexact H2
  have e2 : iprop((T ∗ owns (c : Thread nD τ) M3 fullShare X3 ∗ owns (c : Thread nD τ) M4 fullShare X4) ∗ owns (c : Thread nD τ) M2 fullShare X2)
      ⊢ iprop((T ∗ owns (c : Thread nD τ) M2 fullShare X2 ∗ owns (c : Thread nD τ) M4 fullShare X4) ∗ owns (c : Thread nD τ) M3 fullShare X3) := by
    iintro ⟨⟨HT, H3, H4⟩, H2⟩
    isplitr [H3]
    · isplitl [HT]; · iexact HT
      isplitl [H2] <;> iassumption
    · iexact H3
  have e3 : iprop((T ∗ owns (c : Thread nD τ) M2 fullShare X2 ∗ owns (c : Thread nD τ) M4 fullShare X4) ∗ owns (c : Thread nD τ) M3 fullShare X3)
      ⊢ iprop((T ∗ owns (c : Thread nD τ) M2 fullShare X2 ∗ owns (c : Thread nD τ) M3 fullShare X3) ∗ owns (c : Thread nD τ) M4 fullShare X4) := by
    iintro ⟨⟨HT, H2, H4⟩, H3⟩
    isplitr [H4]
    · isplitl [HT]; · iexact HT
      isplitl [H2] <;> iassumption
    · iexact H4
  have e4 : iprop((T ∗ owns (c : Thread nD τ) M2 fullShare X2 ∗ owns (c : Thread nD τ) M3 fullShare X3) ∗ owns (c : Thread nD τ) M4 fullShare X4)
      ⊢ iprop(T ∗ owns (c : Thread nD τ) M2 fullShare X2 ∗ owns (c : Thread nD τ) M3 fullShare X3 ∗ owns (c : Thread nD τ) M4 fullShare X4) := by
    iintro ⟨⟨HT, H2, H3⟩, H4⟩
    isplitl [HT]; · iexact HT
    isplitl [H2]; · iexact H2
    isplitl [H3] <;> iassumption
  refine e1.trans (load_owns c M2 X2 _ (e2.trans (load_owns c M3 X3 _ (e3.trans (load_owns c M4 X4 _ (e4.trans ?_))))))
  rw [whole_idx X3, whole_idx X4]
  exact h

/-- The part of a grid point after the first: the loads. -/
theorem part25_rest (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (arg0 v12 v13 v14 v25 v26 v27 v38 v39 v40 v51 v52 v53 v64 v65 v66 v77 v78 v79 v90 v91 v92 v103 v104 v105 v116 v117 v118 v129 v130 v131 v142 v143 v144 v155 v156 v157 v168 v169 v170 v181 v182 v183 v194 v195 v196 v207 : BitVec 32) (k0_hw1 : k0_chk1 i c (tw c)) (h1 : ¬k0_cond1 i = 1#1)
    (X2 : S4x1x16x64.Idx → Elt F .bf16) (X3 X4 : S4x2x64x1024.Idx → Elt F .bf16) {T : sProp 𝕄} {Q : _ → sProp 𝕄}
    (h : ∀ w, iprop(T ∗ opnds c arg2 arg3 arg4 X2 X3 X4) ⊢ Q ⟨k0_pay23 (qsel c X2) X3, k0_pay25 (qsel c X2) X3, k0_pay26 (qsel c X2) X3 X4, w⟩) :
    iprop(T ∗ opnds c arg2 arg3 arg4 X2 X3 X4) ⊢ W c (k0_part25 i arg1 harg1 arg2 harg2 arg3 harg3 arg4 harg4 arg5 harg5 pM harg6 cc0_scratch1 cc0_scratch2 arg0 c (tw c) k0_hw1 v12 v13 v14 v25 v26 v27 v38 v39 v40 v51 v52 v53 v64 v65 v66 v77 v78 v79 v90 v91 v92 v103 v104 v105 v116 v117 v118 v129 v130 v131 v142 v143 v144 v155 v156 v157 v168 v169 v170 v181 v182 v183 v194 v195 v196 v207) Q := by
  simp only [k0_part25_eq_skeleton]; unfold k0_part25_skel
  simp only [dif_neg h1, semSignalWord, semWaitWord, Prog.lift, Prog.bind_op, Prog.bind_ret, Prog.pure_eq_ret, Prog.bind_assoc]
  exact loads_wp c i arg2 arg3 arg4 X2 X3 X4 k0_hw1 ((h _).trans (ret_intro c _ _))

/-- The part of the first grid point: the signals, the barrier wait and the loads. -/
theorem part25_first (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (arg0 v12 v13 v14 v25 v26 v27 v38 v39 v40 v51 v52 v53 v64 v65 v66 v77 v78 v79 v90 v91 v92 v103 v104 v105 v116 v117 v118 v129 v130 v131 v142 v143 v144 v155 v156 v157 v168 v169 v170 v181 v182 v183 v194 v195 v196 v207 : BitVec 32) (k0_hw1 : k0_chk1 i c (tw c)) (h1 : k0_cond1 i = 1#1)
    (X2 : S4x1x16x64.Idx → Elt F .bf16) (X3 X4 : S4x2x64x1024.Idx → Elt F .bf16) {T : sProp 𝕄} {Q : _ → sProp 𝕄}
    (h : ∀ w, iprop((T ∗ lands c ∗ semVal (barCell c) 0 ∗ ∃ Wt, owes (c : Thread nD τ) (dueR c 0) Wt) ∗ opnds c arg2 arg3 arg4 X2 X3 X4)
      ⊢ Q ⟨k0_pay23 (qsel c X2) X3, k0_pay25 (qsel c X2) X3, k0_pay26 (qsel c X2) X3 X4, w⟩) :
    iprop((T ∗ opnds c arg2 arg3 arg4 X2 X3 X4 ∗ barWait c) ∗ sigSt PB κ c 0) ⊢ W c (k0_part25 i arg1 harg1 arg2 harg2 arg3 harg3 arg4 harg4 arg5 harg5 pM harg6 cc0_scratch1 cc0_scratch2 arg0 c (tw c) k0_hw1 v12 v13 v14 v25 v26 v27 v38 v39 v40 v51 v52 v53 v64 v65 v66 v77 v78 v79 v90 v91 v92 v103 v104 v105 v116 v117 v118 v129 v130 v131 v142 v143 v144 v155 v156 v157 v168 v169 v170 v181 v182 v183 v194 v195 v196 v207) Q := by
  simp only [k0_part25_eq_skeleton]; unfold k0_part25_skel
  simp only [dif_pos h1, semSignalWord, semWaitWord, Prog.lift, Prog.bind_op, Prog.bind_ret, Prog.pure_eq_ret, Prog.bind_assoc]
  have e1 : ∀ O : sProp 𝕄, iprop((T ∗ O ∗ barWait c) ∗ sigSt PB κ c 15) ⊢ iprop((T ∗ O) ∗ sigSt PB κ c 15 ∗ barWait c) := by
    intro O
    iintro ⟨⟨HT, HO, HB⟩, HS⟩
    isplitl [HT HO]; · isplitl [HT] <;> iassumption
    isplitl [HS] <;> iassumption
  have e2 : ∀ O L : sProp 𝕄, iprop((T ∗ O) ∗ L) ⊢ iprop((T ∗ L) ∗ O) := by
    intro O L
    iintro ⟨⟨HT, HO⟩, HL⟩
    isplitl [HT HL]; · isplitl [HT] <;> iassumption
    iexact HO
  refine bind_wp c (use (part1_wp PB κ c _ _ _ _ _ _ _ _ _ _ _ _ _ _ _ _ _ _ _ _ _ _ _ _ _ _ _ _) ?_)
  refine bind_wp c (use (part2_wp PB κ c _ _ _ _ _ _ _ _ _ _ _ _ _ _ _ _ _ _ _ _ _ _ _ _ _ _ _ _) ?_)
  refine bind_wp c (use (part3_wp PB κ c _ _ _ _ _ _ _ _ _ _ _ _ _ _ _ _ _ _ _ _ _ _ _ _ _ _ _ _) ?_)
  refine use (signal_at PB κ c 14 14 15 rfl rfl _ (Fin.ext (dev15_eq c))) ?_
  refine (e1 _).trans (use (barrier_wait PB κ c) ?_)
  refine (e2 _ _).trans ?_
  exact loads_wp c i arg2 arg3 arg4 X2 X3 X4 k0_hw1 ((h _).trans (ret_intro c _ _))

/-- The part that waits for the last two blocks and loads the whole exchange buffer. -/
theorem part15_wp (i : grid0.Coords) (arg1 : Memref sig .tc .smem S1 .i32) (harg1 : arg1.IsWhole) (arg2 : Memref sig .tc .vmem S4x1x16x64 .bf16) (harg2 : arg2.IsWhole) (arg3 : Memref sig .tc .vmem S4x2x64x1024 .bf16) (harg3 : arg3.IsWhole) (arg4 : Memref sig .tc .vmem S4x2x64x1024 .bf16) (harg4 : arg4.IsWhole) (arg5 : Memref sig .tc .vmem S16x1x16x64 .f32) (harg5 : arg5.IsWhole) (harg6 : (pM : Memref sig .tc .vmem S16x34x64 .f32).IsWhole) (v195 v196 v207 : BitVec 32) (f : S16x34x64.Idx → Elt F .f32) (hf : Good PB c f) {T : sProp 𝕄} {Q : _ → sProp 𝕄}
    (h : ∀ g, (∀ i : S16x34x64.Idx, (i 1).val ≠ 33 → g i = PB i) →
      iprop((T ∗ (bigSep Finset.univ fun j : Fin 15 => pts c (restBlk c) (lf j) g)
          ∗ (bigSep Finset.univ fun j : Fin 15 => semVal (recvCell c j) 0) ∗ ∃ Wt, owes (c : Thread nD τ) 0 Wt)
        ∗ pts c Finset.univ lf0 g) ⊢ Q ⟨k0_pay12 g, k0_pay15 g, k0_pay17 g, k0_pay18 g, k0_pay19 g⟩) :
    iprop((T ∗ pts c (blk c) lf0 f) ∗ recvSt PB κ c 13) ⊢ W c (k0_part15 i arg1 harg1 arg2 harg2 arg3 harg3 arg4 harg4 arg5 harg5 pM harg6 cc0_scratch1 cc0_scratch2 v195 v196 v207) Q := by
  simp only [k0_part15_eq_skeleton]; unfold k0_part15_skel
  simp only [Prog.lift, Prog.bind_op, Prog.bind_ret, Prog.pure_eq_ret, Prog.bind_assoc]
  refine use (recv_at PB κ c 13 13 14 rfl rfl (credit_eq _ rfl) _ rfl) ?_
  refine use (recv_at PB κ c 14 14 15 rfl rfl (credit_eq _ rfl) _ rfl) ?_
  have e0 : iprop((T ∗ pts c (blk c) lf0 f) ∗ recvSt PB κ c 15)
      ⊢ iprop(∃ g, ⌜∀ i : S16x34x64.Idx, (i 1).val ≠ 33 → g i = PB i⌝ ∗ ((T ∗ (bigSep Finset.univ fun j : Fin 15 => pts c (restBlk c) (lf j) g)
          ∗ (bigSep Finset.univ fun j : Fin 15 => semVal (recvCell c j) 0) ∗ ∃ Wt, owes (c : Thread nD τ) 0 Wt)
        ∗ pts c Finset.univ lf0 g)) := by
    unfold recvSt
    rw [rem_end, don_end]
    have eS : bigSep Finset.univ (recvOut PB c) = (iprop(bigSep Finset.univ (recvPay PB c) ∗ bigSep Finset.univ fun j : Fin 15 => semVal (recvCell c j) 0) : sProp 𝕄) := by
      unfold recvOut; exact bigSep_sep' _ _ _
    rw [eS]
    have ha := assemble PB c f hf
    iintro ⟨⟨HT, HP⟩, HI, HE, ⟨HR, HS⟩, HO⟩
    ihave H := ha $$ [HP HR]
    · isplitl [HP] <;> iassumption
    icases H with ⟨%g, %hg, H1, H2⟩
    iexists g
    isplitr; · ipureintro; exact hg
    isplitr [H1]
    · isplitl [HT]; · iexact HT
      isplitl [H2]; · iexact H2
      isplitl [HS] <;> iassumption
    · iexact H1
  refine e0.trans (exists_elim fun g => ?_)
  refine pure_in fun hg => ?_
  refine load_pts c Finset.univ lf0 g _ (Finset.subset_univ _) ?_
  rw [show (pM : Memref sig .tc .vmem S16x34x64 .f32).view.readAt (Elt F) (Rect.unit (s := S16x34x64) ![0, 0, 0] S16x34x64.size inb_S16x34x64_S16x34x64_0_0_0).toLoadRect g = g from
    Memref.readAt_unit_zero (Elt F) cc0_scratch0 (funext fun a => by fin_cases a <;> rfl) _ g]
  exact (h g hg).trans (ret_intro c _ _)

end Cert.KernelIdeal.Ring
-- ==== Proof.Body.lean ====
/-
The body's run at each grid point. At the first a device signals its peers and waits for their signals; at every point
it computes its partial output and stores it, with its row maxima and row sums, into its own block of the exchange
buffer; at the last it sends the block to every peer, waits for the peers' blocks, combines them and stores the result.
-/
module

public import proofs.«01_k».proof.Proof.Pieces

@[expose] public section

set_option maxRecDepth 16384
set_option backward.proofsInPublic true

noncomputable section

namespace Cert.KernelIdeal.Ring

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] peer Mesh.inv neg Mesh.off blk N

variable {F : FTy → Type} [FloatOps F] [Facts]

local notation "𝕄" => MT nD τ sig Unit (Elt F) ℕ UU ℕ

variable (PB : S16x34x64.Idx → Elt F .f32) (κ : GSem nD τ sig → ℕ) (c : Dev nD)

/-! ## The states between grid points -/

/-- The tokens of device `c`'s send at offset `j`. -/
def sendG (c : Dev nD) (j : Fin 15) : sProp 𝕄 :=
  iprop(dutyTok ER (sendCell c j) 0 j ∗ reached ER (sendCell c j) 0 ∗ dutyTok ER (recvCell (peer j c) j) 0 j)

/-- What the exchange needs at the last grid point. -/
def ghosts (c : Dev nD) : sProp 𝕄 :=
  iprop(bigSep Finset.univ (sendG (F := F) c) ∗ bigSep Finset.univ (recvIn (F := F) c)
    ∗ bigSep Finset.univ fun j : Fin 15 => atPos ER (sendCell c j) 0 ∅ 0)

/-- The elements of the own block written before grid point `n`. -/
def Reg (c : Dev nD) (n : ℕ) (i : S16x34x64.Idx) : Prop :=
  (i 0).val = c.val ∧ ((i 1).val < 8 * n ∨ ((i 1).val = 32 ∧ (i 2).val % 32 < 8 * n))

/-- Contents that agree with `PB` on the elements written before grid point `n`. -/
def Agree (n : ℕ) (f : S16x34x64.Idx → Elt F .f32) : Prop := ∀ i, Reg c n i → f i = PB i

/-- `PB` holds, at device `c`'s block, what grid point `n` computes. -/
structure Fits (n : ℕ) (m l : S8x1.Idx → Elt F .f32) (o : S8x64.Idx → Elt F .f32) : Prop where
  o : ∀ (x : S1x8x64.Idx) (i : S16x34x64.Idx), (∀ a, (i a).val = (![c.val, 8 * n, 0] : Fin 3 → ℕ) a + (x a).val) → PB i = k0_pay1 o x
  m : ∀ (x : S1x1x8.Idx) (i : S16x34x64.Idx), (∀ a, (i a).val = (![c.val, 32, 8 * n] : Fin 3 → ℕ) a + (x a).val) → PB i = k0_pay2 m x
  l : ∀ (x : S1x1x8.Idx) (i : S16x34x64.Idx), (∀ a, (i a).val = (![c.val, 32, 32 + 8 * n] : Fin 3 → ℕ) a + (x a).val) → PB i = k0_pay3 l x

/-- Before the first grid point. -/
def Φstart (c : Dev nD) : sProp 𝕄 :=
  iprop(∃ κ, INV PB κ ∗ ghosts c ∗ bigSep Finset.univ (sigIn c) ∗ barWait c ∗ (∃ f, pts c (blk c) fullShare f) ∗ tabPts c)

/-- Before grid point `n`, after the first and up to the last. -/
def Φmid (c : Dev nD) (n : ℕ) : sProp 𝕄 :=
  iprop(∃ κ, INV PB κ ∗ ghosts c ∗ lands c ∗ semVal (barCell c) 0 ∗ (∃ f, ⌜Agree PB c n f⌝ ∗ pts c (blk c) fullShare f) ∗ tabPts c)

/-- After the last grid point. -/
def Φend (c : Dev nD) : sProp 𝕄 :=
  iprop((bigSep Finset.univ fun j : Fin 15 => semVal (sendCell c j) 0) ∗ (bigSep Finset.univ fun j : Fin 15 => semVal (recvCell c j) 0)
    ∗ semVal (barCell c) 0 ∗ (∃ f, pts c Finset.univ fullShare f) ∗ tabPts c)

omit [Facts] in
/-- The three stores of grid point `n`: after them the own block agrees one point further. -/
theorem stores_agree (t : Fin grid0.N) (n : ℕ) (hn : t.val = n) (m l : S8x1.Idx → Elt F .f32) (o : S8x64.Idx → Elt F .f32) (hfit : Fits PB c n m l o)
    (f : S16x34x64.Idx → Elt F .f32) (hf : Agree PB c n f) (offm offl : Fin 3 → ℕ) (em : offm = ![c.val, 32, 8 * n]) (el : offl = ![c.val, 32, 32 + 8 * n])
    (ib : ∀ a, k0_off2 (grid0.coords t) c (tw c) a + S1x8x64.size a ≤ S16x34x64.size a)
    (ibm : ∀ a, offm a + S1x1x8.size a ≤ S16x34x64.size a) (ibl : ∀ a, offl a + S1x1x8.size a ≤ S16x34x64.size a)
    (pm pl : S1x1x8.Idx → Elt F .f32) (epm : pm = k0_pay2 m) (epl : pl = k0_pay3 l) :
    Agree PB c (n + 1) (((pM : Memref sig .tc .vmem S16x34x64 .f32).access (Rect.unit (s := S16x34x64) offl S1x1x8.size ibl)).write (Elt F)
      (((pM : Memref sig .tc .vmem S16x34x64 .f32).access (Rect.unit (s := S16x34x64) offm S1x1x8.size ibm)).write (Elt F)
        (((pM : Memref sig .tc .vmem S16x34x64 .f32).access (Rect.unit (s := S16x34x64) (k0_off2 (grid0.coords t) c (tw c)) S1x8x64.size ib)).write (Elt F)
          f (k0_pay1 o) Finset.univ) pm Finset.univ) pl Finset.univ) := by
  subst epm epl hn
  have h1 := write_agr PB ib (off2_eq t c) (k0_pay1 o) f (Reg c t.val) hf hfit.o
  have h2 := write_agr PB ibm em (k0_pay2 m) _ _ h1 hfit.m
  have h3 := write_agr PB ibl el (k0_pay3 l) _ _ h2 hfit.l
  intro i hi
  refine h3 i ?_
  have ht : t.val < 4 := lt_of_lt_of_eq t.isLt Gen.N_0
  have hi1 : (i 1).val < 34 := (i 1).isLt
  have hi2 : (i 2).val < 64 := (i 2).isLt
  obtain ⟨e0, e1⟩ := hi
  by_cases ho : (i 1).val < 32
  · refine Or.inl (Or.inl ?_)
    rcases e1 with e1 | e1
    · by_cases hlt : (i 1).val < 8 * t.val
      · exact Or.inl ⟨e0, Or.inl hlt⟩
      · refine Or.inr fun a => ?_
        fin_cases a
        · exact ⟨le_of_eq e0.symm, by show (i 0).val < c.val + 1; omega⟩
        · exact ⟨by show 8 * t.val ≤ (i 1).val; omega, by show (i 1).val < 8 * t.val + 8; omega⟩
        · exact ⟨Nat.zero_le _, by show (i 2).val < 0 + 64; omega⟩
    · omega
  · by_cases hold : (i 2).val % 32 < 8 * t.val
    · have h32 : (i 1).val = 32 ∨ (i 1).val < 8 * t.val := by omega
      refine Or.inl (Or.inl (Or.inl ⟨e0, ?_⟩))
      rcases h32 with h | h
      · exact Or.inr ⟨h, hold⟩
      · exact Or.inl h
    · have h32 : (i 1).val = 32 ∧ (i 2).val % 32 < 8 * (t.val + 1) := by
        rcases e1 with h | h
        · omega
        · exact h
      by_cases hh : (i 2).val < 32
      · refine Or.inl (Or.inr fun a => ?_)
        fin_cases a
        · exact ⟨le_of_eq e0.symm, by show (i 0).val < c.val + 1; omega⟩
        · exact ⟨by show 32 ≤ (i 1).val; omega, by show (i 1).val < 32 + 1; omega⟩
        · exact ⟨by show 8 * t.val ≤ (i 2).val; omega, by show (i 2).val < 8 * t.val + 8; omega⟩
      · refine Or.inr fun a => ?_
        fin_cases a
        · exact ⟨le_of_eq e0.symm, by show (i 0).val < c.val + 1; omega⟩
        · exact ⟨by show 32 ≤ (i 1).val; omega, by show (i 1).val < 32 + 1; omega⟩
        · exact ⟨by show 32 + 8 * t.val ≤ (i 2).val; omega, by show (i 2).val < 32 + 8 * t.val + 8; omega⟩

omit [FloatOps F] [Facts] in
theorem agree_zero (f : S16x34x64.Idx → Elt F .f32) : Agree PB c 0 f := by
  rintro i ⟨-, h | h⟩ <;> omega

omit [FloatOps F] [Facts] in
theorem agree_good (f : S16x34x64.Idx → Elt F .f32) (h : Agree PB c 4 f) : Good PB c f := by
  intro i h0 h33
  have hi1 : (i 1).val < 34 := (i 1).isLt
  refine h i ⟨h0, ?_⟩
  omega

/-- The grid points before the last. -/
def t0 : Fin grid0.N := ⟨0, by decide⟩
def t1 : Fin grid0.N := ⟨1, by decide⟩
def t2 : Fin grid0.N := ⟨2, by decide⟩

abbrev oM : Memref sig .tc .vmem S16x1x16x64 .f32 := Memref.whole cc0_stg3_0

/-- Grid point 0. -/
theorem body0 (M2 : Memref sig .tc .vmem S4x1x16x64 .bf16) (hM2 : M2.IsWhole) (M3 M4 : Memref sig .tc .vmem S4x2x64x1024 .bf16) (hM3 : M3.IsWhole) (hM4 : M4.IsWhole)
    (M5 : Memref sig .tc .vmem S16x1x16x64 .f32) (hM5 : M5.IsWhole) (h1 : (tM : Memref sig .tc .smem S1 .i32).IsWhole) (h6w : (pM : Memref sig .tc .vmem S16x34x64 .f32).IsWhole)
    (X2 : S4x1x16x64.Idx → Elt F .bf16) (X3 X4 : S4x2x64x1024.Idx → Elt F .bf16)
    (hfit : Fits PB c 0 (k0_pay23 (qsel c X2) X3) (k0_pay25 (qsel c X2) X3) (k0_pay26 (qsel c X2) X3 X4))
    {Q : PUnit → sProp 𝕄} (hQ : iprop(Φmid PB c 1 ∗ (∃ Wt, owes (c : Thread nD τ) (dueR c 0) Wt) ∗ opnds c M2 M3 M4 X2 X3 X4) ⊢ Q ⟨⟩) :
    iprop(Φstart PB c ∗ (∃ Wt, owes (c : Thread nD τ) (O₀ c) Wt) ∗ opnds c M2 M3 M4 X2 X3 X4) ⊢ W c (cc0_body (grid0.coords t0) tM h1 M2 hM2 M3 hM3 M4 hM4 M5 hM5 pM h6w cc0_scratch1 cc0_scratch2) Q := by
  simp only [cc0_body_eq_skeleton]; unfold cc0_body_skel
  have e0 : iprop(Φstart PB c ∗ (∃ Wt, owes (c : Thread nD τ) (O₀ c) Wt) ∗ opnds c M2 M3 M4 X2 X3 X4) ⊢ iprop(∃ κ, ∃ f, (((INV PB κ ∗ ghosts c) ∗ pts c (blk c) fullShare f) ∗ (opnds c M2 M3 M4 X2 X3 X4 ∗ barWait c) ∗ sigSt PB κ c 0) ∗ tabPts c) := by
    unfold Φstart sigSt O₀
    rw [rem_zero]
    iintro ⟨⟨%κ, #HI, HG, HS, HB, ⟨%f, HP⟩, Ht⟩, HO, Hx⟩
    iexists κ; iexists f
    isplitr [Ht]
    · isplitl [HG HP]
      · isplitl [HG]
        · isplitr; · iexact HI
          iexact HG
        · iexact HP
      · isplitl [Hx HB]
        · isplitl [Hx] <;> iassumption
        · isplitr; · iexact HI
          isplitl [HS] <;> iassumption
    · iexact Ht
  refine e0.trans (exists_elim fun κ => exists_elim fun f => ?_)
  have hf : Agree PB c 0 f := agree_zero PB c f
  refine bind_wp c (part19_wp c _ _ _ _ _ _ _ _ _ _ _ (fun r hd hw => ?_))
  obtain ⟨arg0, d0, v2, v5, v8, v9, k0_hw1, v11, v12, v13, v14, v25, v26, v27, v30, v31, c0_i32_18⟩ := r
  dsimp only at hd hw ⊢
  obtain rfl : c = d0 := hd.symm
  subst hw
  refine bind_pure c (by apply part20_pure) fun r => ?_
  obtain ⟨v38, v39, v40, v51, v52, v53, v64, v65, v66, v67, c4_i32_41⟩ := r
  dsimp only
  refine bind_pure c (by apply part21_pure) fun r => ?_
  obtain ⟨v77, v78, v79, v90, v91, v92, v103, c1_i32_65⟩ := r
  dsimp only
  refine bind_pure c (by apply part22_pure) fun r => ?_
  obtain ⟨v104, v105, v116, v117, v118, v129, v130, v131, v134, v135, v136, v137, c0_i32_91⟩ := r
  dsimp only
  refine bind_pure c (by apply part23_pure) fun r => ?_
  obtain ⟨v142, v143, v144, v155, v156, v157, v168, v169, v170, v171, v173⟩ := r
  dsimp only
  refine bind_pure c (by apply part24_pure) fun r => ?_
  obtain ⟨v181, v182, v183, v194, v195, v196, v207⟩ := r
  dsimp only
  have c1 : k0_cond1 (grid0.coords t0) = 1#1 := ((conds t0).1).mpr rfl
  have c2 : k0_cond2 (grid0.coords t0) = 1#1 := ((conds t0).2.1).mpr rfl
  have c3 : ¬k0_cond3 (grid0.coords t0) = 1#1 := fun h => absurd (((conds t0).2.2.1).mp h) (by decide)
  have c4 : ¬k0_cond4 (grid0.coords t0) = 1#1 := fun h => absurd (((conds t0).2.2.2.1).mp h) (by decide)
  have c5 : ¬k0_cond5 (grid0.coords t0) = 1#1 := fun h => absurd (((conds t0).2.2.2.2.1).mp h) (by decide)
  have c6 : ¬k0_cond6 (grid0.coords t0) = 1#1 := fun h => absurd (((conds t0).2.2.2.2.2).mp h) (by decide)
  have e1 : ∀ A O B S Tb : sProp 𝕄, iprop((A ∗ (O ∗ B) ∗ S) ∗ Tb) ⊢ iprop(((A ∗ Tb) ∗ O ∗ B) ∗ S) := by
    intro A O B S Tb
    iintro ⟨⟨HA, ⟨HO, HB⟩, HS⟩, HT⟩
    isplitr [HS]
    · isplitl [HA HT]; · isplitl [HA] <;> iassumption
      isplitl [HO] <;> iassumption
    · iexact HS
  refine (e1 _ _ _ _ _).trans (bind_wp c (part25_first PB κ c _ _ _ _ _ _ _ _ _ _ _ _ _ _ _ _ _ _ _ _ _ _ _ _ _ _ _ _ _ _ _ _ _ _ _ _ _ _ _ _ _ _ _ _ _ _ _ _ _ _ _ _ _ _ _ _ _ _ _ _ c1 X2 X3 X4 fun w => ?_))
  have e2 : ∀ A P Tb L O : sProp 𝕄, iprop((((A ∗ P) ∗ Tb) ∗ L) ∗ O) ⊢ iprop((((A ∗ L) ∗ O) ∗ Tb) ∗ P) := by
    intro A P Tb L O
    iintro ⟨⟨⟨⟨HA, HP⟩, HT⟩, HL⟩, HO⟩
    isplitr [HP]
    · isplitr [HT]
      · isplitr [HO]
        · isplitl [HA] <;> iassumption
        · iexact HO
      · iexact HT
    · iexact HP
  refine (e2 _ _ _ _ _).trans ?_
  dsimp only
  simp only [dif_pos c2, dif_neg c3, dif_neg c4, dif_neg c5, dif_neg c6, Prog.lift, Prog.bind_op, Prog.bind_ret, Prog.pure_eq_ret, Prog.bind_assoc]
  refine load_pts c (blk c) fullShare f _ (unit_sub_load c _ (off2_eq t0 c) rfl rfl) ?_
  refine store_pts c (blk c) f _ _ (unit_sub c _ (off2_eq t0 c) rfl rfl) ?_
  refine load_pts c (blk c) fullShare _ _ (unit_sub_load c _ (off3_eq c) rfl rfl) ?_
  refine store_pts c (blk c) _ _ _ (unit_sub c _ (off3_eq c) rfl rfl) ?_
  refine load_pts c (blk c) fullShare _ _ (unit_sub_load c _ (off4_eq c) rfl rfl) ?_
  refine store_pts c (blk c) _ _ _ (unit_sub c _ (off4_eq c) rfl rfl) ?_
  have hf' := stores_agree PB c t0 0 rfl _ _ _ hfit f hf (k0_off3 c (tw c)) (k0_off4 c (tw c)) (off3_eq c) (off4_eq c)
    (k0_off2_inb (grid0.coords t0) c (tw c) k0_hw1) (k0_off3_inb (grid0.coords t0) c (tw c) k0_hw1 c2) (k0_off4_inb (grid0.coords t0) c (tw c) k0_hw1 c2)
    (k0_pay2 (k0_pay23 (qsel c X2) X3)) (k0_pay3 (k0_pay25 (qsel c X2) X3)) rfl rfl
  revert hf'
  generalize ((pM : Memref sig .tc .vmem S16x34x64 .f32).access (Rect.unit (s := S16x34x64) (k0_off4 c (tw c)) S1x1x8.size _)).write (Elt F) _ _ Finset.univ = f'
  intro hf'
  refine BIBase.Entails.trans ?_ ((hQ).trans (ret_intro c _ _))
  unfold Φmid
  iintro ⟨⟨⟨⟨⟨HI, HG⟩, HL, Hb, HO⟩, Hx⟩, Ht⟩, HP⟩
  isplitr [HO Hx]
  · iexists κ
    isplitl [HI]; · iexact HI
    isplitl [HG]; · iexact HG
    isplitl [HL]; · iexact HL
    isplitl [Hb]; · iexact Hb
    isplitr [Ht]
    · iexists f'
      isplitr; · ipureintro; exact hf'
      iexact HP
    · iexact Ht
  · isplitl [HO] <;> iassumption

/-- Grid point 1. -/
theorem body1 (M2 : Memref sig .tc .vmem S4x1x16x64 .bf16) (hM2 : M2.IsWhole) (M3 M4 : Memref sig .tc .vmem S4x2x64x1024 .bf16) (hM3 : M3.IsWhole) (hM4 : M4.IsWhole)
    (M5 : Memref sig .tc .vmem S16x1x16x64 .f32) (hM5 : M5.IsWhole) (h1 : (tM : Memref sig .tc .smem S1 .i32).IsWhole) (h6w : (pM : Memref sig .tc .vmem S16x34x64 .f32).IsWhole)
    (X2 : S4x1x16x64.Idx → Elt F .bf16) (X3 X4 : S4x2x64x1024.Idx → Elt F .bf16)
    (hfit : Fits PB c 1 (k0_pay23 (qsel c X2) X3) (k0_pay25 (qsel c X2) X3) (k0_pay26 (qsel c X2) X3 X4))
    {Q : PUnit → sProp 𝕄} (hQ : iprop(Φmid PB c 2 ∗ (∃ Wt, owes (c : Thread nD τ) (dueR c 0) Wt) ∗ opnds c M2 M3 M4 X2 X3 X4) ⊢ Q ⟨⟩) :
    iprop(Φmid PB c 1 ∗ (∃ Wt, owes (c : Thread nD τ) (dueR c 0) Wt) ∗ opnds c M2 M3 M4 X2 X3 X4) ⊢ W c (cc0_body (grid0.coords t1) tM h1 M2 hM2 M3 hM3 M4 hM4 M5 hM5 pM h6w cc0_scratch1 cc0_scratch2) Q := by
  simp only [cc0_body_eq_skeleton]; unfold cc0_body_skel
  have e0 : iprop(Φmid PB c 1 ∗ (∃ Wt, owes (c : Thread nD τ) (dueR c 0) Wt) ∗ opnds c M2 M3 M4 X2 X3 X4) ⊢ iprop(∃ κ, ∃ f, ⌜Agree PB c 1 f⌝ ∗ ((((INV PB κ ∗ ghosts c) ∗ (lands c ∗ semVal (barCell c) 0 ∗ (∃ Wt, owes (c : Thread nD τ) (dueR c 0) Wt))) ∗ pts c (blk c) fullShare f) ∗ opnds c M2 M3 M4 X2 X3 X4) ∗ tabPts c) := by
    unfold Φmid
    iintro ⟨⟨%κ, HI, HG, HL, Hb, ⟨%f, %hf, HP⟩, Ht⟩, HO, Hx⟩
    iexists κ; iexists f
    isplitr; · ipureintro; exact hf
    isplitr [Ht]
    · isplitr [Hx]
      · isplitr [HP]
        · isplitl [HI HG]; · isplitl [HI] <;> iassumption
          isplitl [HL]; · iexact HL
          isplitl [Hb] <;> iassumption
        · iexact HP
      · iexact Hx
    · iexact Ht
  refine e0.trans (exists_elim fun κ => exists_elim fun f => pure_in fun hf => ?_)
  refine bind_wp c (part19_wp c _ _ _ _ _ _ _ _ _ _ _ (fun r hd hw => ?_))
  obtain ⟨arg0, d0, v2, v5, v8, v9, k0_hw1, v11, v12, v13, v14, v25, v26, v27, v30, v31, c0_i32_18⟩ := r
  dsimp only at hd hw ⊢
  obtain rfl : c = d0 := hd.symm
  subst hw
  refine bind_pure c (by apply part20_pure) fun r => ?_
  obtain ⟨v38, v39, v40, v51, v52, v53, v64, v65, v66, v67, c4_i32_41⟩ := r
  dsimp only
  refine bind_pure c (by apply part21_pure) fun r => ?_
  obtain ⟨v77, v78, v79, v90, v91, v92, v103, c1_i32_65⟩ := r
  dsimp only
  refine bind_pure c (by apply part22_pure) fun r => ?_
  obtain ⟨v104, v105, v116, v117, v118, v129, v130, v131, v134, v135, v136, v137, c0_i32_91⟩ := r
  dsimp only
  refine bind_pure c (by apply part23_pure) fun r => ?_
  obtain ⟨v142, v143, v144, v155, v156, v157, v168, v169, v170, v171, v173⟩ := r
  dsimp only
  refine bind_pure c (by apply part24_pure) fun r => ?_
  obtain ⟨v181, v182, v183, v194, v195, v196, v207⟩ := r
  dsimp only
  have c1 : ¬k0_cond1 (grid0.coords t1) = 1#1 := fun h => absurd (((conds t1).1).mp h) (by decide)
  have c2 : ¬k0_cond2 (grid0.coords t1) = 1#1 := fun h => absurd (((conds t1).2.1).mp h) (by decide)
  have c3 : k0_cond3 (grid0.coords t1) = 1#1 := ((conds t1).2.2.1).mpr rfl
  have c4 : ¬k0_cond4 (grid0.coords t1) = 1#1 := fun h => absurd (((conds t1).2.2.2.1).mp h) (by decide)
  have c5 : ¬k0_cond5 (grid0.coords t1) = 1#1 := fun h => absurd (((conds t1).2.2.2.2.1).mp h) (by decide)
  have c6 : ¬k0_cond6 (grid0.coords t1) = 1#1 := fun h => absurd (((conds t1).2.2.2.2.2).mp h) (by decide)
  have e1 : ∀ A P O Tb : sProp 𝕄, iprop(((A ∗ P) ∗ O) ∗ Tb) ⊢ iprop(((A ∗ P) ∗ Tb) ∗ O) := by
    intro A P O Tb
    iintro ⟨⟨HA, HO⟩, HT⟩
    isplitr [HO]
    · isplitl [HA] <;> iassumption
    · iexact HO
  refine (e1 _ _ _ _).trans (bind_wp c (part25_rest c _ _ _ _ _ _ _ _ _ _ _ _ _ _ _ _ _ _ _ _ _ _ _ _ _ _ _ _ _ _ _ _ _ _ _ _ _ _ _ _ _ _ _ _ _ _ _ _ _ _ _ _ _ _ _ _ _ _ _ _ c1 X2 X3 X4 fun w => ?_))
  have e2 : ∀ A P Tb O : sProp 𝕄, iprop(((A ∗ P) ∗ Tb) ∗ O) ⊢ iprop(((A ∗ O) ∗ Tb) ∗ P) := by
    intro A P Tb O
    iintro ⟨⟨⟨HA, HP⟩, HT⟩, HO⟩
    isplitr [HP]
    · isplitr [HT]
      · isplitl [HA] <;> iassumption
      · iexact HT
    · iexact HP
  refine (e2 _ _ _ _).trans ?_
  dsimp only
  simp only [dif_neg c2, dif_pos c3, dif_neg c4, dif_neg c5, dif_neg c6, Prog.lift, Prog.bind_op, Prog.bind_ret, Prog.pure_eq_ret, Prog.bind_assoc]
  refine load_pts c (blk c) fullShare f _ (unit_sub_load c _ (off2_eq t1 c) rfl rfl) ?_
  refine store_pts c (blk c) f _ _ (unit_sub c _ (off2_eq t1 c) rfl rfl) ?_
  refine load_pts c (blk c) fullShare _ _ (unit_sub_load c _ (off5_eq c) rfl rfl) ?_
  refine store_pts c (blk c) _ _ _ (unit_sub c _ (off5_eq c) rfl rfl) ?_
  refine load_pts c (blk c) fullShare _ _ (unit_sub_load c _ (off6_eq c) rfl rfl) ?_
  refine store_pts c (blk c) _ _ _ (unit_sub c _ (off6_eq c) rfl rfl) ?_
  have hf' := stores_agree PB c t1 1 rfl _ _ _ hfit f hf (k0_off5 c (tw c)) (k0_off6 c (tw c)) (off5_eq c) (off6_eq c)
    (k0_off2_inb (grid0.coords t1) c (tw c) k0_hw1) (k0_off5_inb (grid0.coords t1) c (tw c) k0_hw1 c3) (k0_off6_inb (grid0.coords t1) c (tw c) k0_hw1 c3)
    (k0_pay4 (k0_pay23 (qsel c X2) X3)) (k0_pay5 (k0_pay25 (qsel c X2) X3)) rfl rfl
  revert hf'
  generalize ((pM : Memref sig .tc .vmem S16x34x64 .f32).access (Rect.unit (s := S16x34x64) (k0_off6 c (tw c)) S1x1x8.size _)).write (Elt F) _ _ Finset.univ = f'
  intro hf'
  refine BIBase.Entails.trans ?_ ((hQ).trans (ret_intro c _ _))
  unfold Φmid
  iintro ⟨⟨⟨⟨⟨HI, HG⟩, HL, Hb, HO⟩, Hx⟩, Ht⟩, HP⟩
  isplitr [HO Hx]
  · iexists κ
    isplitl [HI]; · iexact HI
    isplitl [HG]; · iexact HG
    isplitl [HL]; · iexact HL
    isplitl [Hb]; · iexact Hb
    isplitr [Ht]
    · iexists f'
      isplitr; · ipureintro; exact hf'
      iexact HP
    · iexact Ht
  · isplitl [HO] <;> iassumption

/-- Grid point 2. -/
theorem body2 (M2 : Memref sig .tc .vmem S4x1x16x64 .bf16) (hM2 : M2.IsWhole) (M3 M4 : Memref sig .tc .vmem S4x2x64x1024 .bf16) (hM3 : M3.IsWhole) (hM4 : M4.IsWhole)
    (M5 : Memref sig .tc .vmem S16x1x16x64 .f32) (hM5 : M5.IsWhole) (h1 : (tM : Memref sig .tc .smem S1 .i32).IsWhole) (h6w : (pM : Memref sig .tc .vmem S16x34x64 .f32).IsWhole)
    (X2 : S4x1x16x64.Idx → Elt F .bf16) (X3 X4 : S4x2x64x1024.Idx → Elt F .bf16)
    (hfit : Fits PB c 2 (k0_pay23 (qsel c X2) X3) (k0_pay25 (qsel c X2) X3) (k0_pay26 (qsel c X2) X3 X4))
    {Q : PUnit → sProp 𝕄} (hQ : iprop(Φmid PB c 3 ∗ (∃ Wt, owes (c : Thread nD τ) (dueR c 0) Wt) ∗ opnds c M2 M3 M4 X2 X3 X4) ⊢ Q ⟨⟩) :
    iprop(Φmid PB c 2 ∗ (∃ Wt, owes (c : Thread nD τ) (dueR c 0) Wt) ∗ opnds c M2 M3 M4 X2 X3 X4) ⊢ W c (cc0_body (grid0.coords t2) tM h1 M2 hM2 M3 hM3 M4 hM4 M5 hM5 pM h6w cc0_scratch1 cc0_scratch2) Q := by
  simp only [cc0_body_eq_skeleton]; unfold cc0_body_skel
  have e0 : iprop(Φmid PB c 2 ∗ (∃ Wt, owes (c : Thread nD τ) (dueR c 0) Wt) ∗ opnds c M2 M3 M4 X2 X3 X4) ⊢ iprop(∃ κ, ∃ f, ⌜Agree PB c 2 f⌝ ∗ ((((INV PB κ ∗ ghosts c) ∗ (lands c ∗ semVal (barCell c) 0 ∗ (∃ Wt, owes (c : Thread nD τ) (dueR c 0) Wt))) ∗ pts c (blk c) fullShare f) ∗ opnds c M2 M3 M4 X2 X3 X4) ∗ tabPts c) := by
    unfold Φmid
    iintro ⟨⟨%κ, HI, HG, HL, Hb, ⟨%f, %hf, HP⟩, Ht⟩, HO, Hx⟩
    iexists κ; iexists f
    isplitr; · ipureintro; exact hf
    isplitr [Ht]
    · isplitr [Hx]
      · isplitr [HP]
        · isplitl [HI HG]; · isplitl [HI] <;> iassumption
          isplitl [HL]; · iexact HL
          isplitl [Hb] <;> iassumption
        · iexact HP
      · iexact Hx
    · iexact Ht
  refine e0.trans (exists_elim fun κ => exists_elim fun f => pure_in fun hf => ?_)
  refine bind_wp c (part19_wp c _ _ _ _ _ _ _ _ _ _ _ (fun r hd hw => ?_))
  obtain ⟨arg0, d0, v2, v5, v8, v9, k0_hw1, v11, v12, v13, v14, v25, v26, v27, v30, v31, c0_i32_18⟩ := r
  dsimp only at hd hw ⊢
  obtain rfl : c = d0 := hd.symm
  subst hw
  refine bind_pure c (by apply part20_pure) fun r => ?_
  obtain ⟨v38, v39, v40, v51, v52, v53, v64, v65, v66, v67, c4_i32_41⟩ := r
  dsimp only
  refine bind_pure c (by apply part21_pure) fun r => ?_
  obtain ⟨v77, v78, v79, v90, v91, v92, v103, c1_i32_65⟩ := r
  dsimp only
  refine bind_pure c (by apply part22_pure) fun r => ?_
  obtain ⟨v104, v105, v116, v117, v118, v129, v130, v131, v134, v135, v136, v137, c0_i32_91⟩ := r
  dsimp only
  refine bind_pure c (by apply part23_pure) fun r => ?_
  obtain ⟨v142, v143, v144, v155, v156, v157, v168, v169, v170, v171, v173⟩ := r
  dsimp only
  refine bind_pure c (by apply part24_pure) fun r => ?_
  obtain ⟨v181, v182, v183, v194, v195, v196, v207⟩ := r
  dsimp only
  have c1 : ¬k0_cond1 (grid0.coords t2) = 1#1 := fun h => absurd (((conds t2).1).mp h) (by decide)
  have c2 : ¬k0_cond2 (grid0.coords t2) = 1#1 := fun h => absurd (((conds t2).2.1).mp h) (by decide)
  have c3 : ¬k0_cond3 (grid0.coords t2) = 1#1 := fun h => absurd (((conds t2).2.2.1).mp h) (by decide)
  have c4 : k0_cond4 (grid0.coords t2) = 1#1 := ((conds t2).2.2.2.1).mpr rfl
  have c5 : ¬k0_cond5 (grid0.coords t2) = 1#1 := fun h => absurd (((conds t2).2.2.2.2.1).mp h) (by decide)
  have c6 : ¬k0_cond6 (grid0.coords t2) = 1#1 := fun h => absurd (((conds t2).2.2.2.2.2).mp h) (by decide)
  have e1 : ∀ A P O Tb : sProp 𝕄, iprop(((A ∗ P) ∗ O) ∗ Tb) ⊢ iprop(((A ∗ P) ∗ Tb) ∗ O) := by
    intro A P O Tb
    iintro ⟨⟨HA, HO⟩, HT⟩
    isplitr [HO]
    · isplitl [HA] <;> iassumption
    · iexact HO
  refine (e1 _ _ _ _).trans (bind_wp c (part25_rest c _ _ _ _ _ _ _ _ _ _ _ _ _ _ _ _ _ _ _ _ _ _ _ _ _ _ _ _ _ _ _ _ _ _ _ _ _ _ _ _ _ _ _ _ _ _ _ _ _ _ _ _ _ _ _ _ _ _ _ _ c1 X2 X3 X4 fun w => ?_))
  have e2 : ∀ A P Tb O : sProp 𝕄, iprop(((A ∗ P) ∗ Tb) ∗ O) ⊢ iprop(((A ∗ O) ∗ Tb) ∗ P) := by
    intro A P Tb O
    iintro ⟨⟨⟨HA, HP⟩, HT⟩, HO⟩
    isplitr [HP]
    · isplitr [HT]
      · isplitl [HA] <;> iassumption
      · iexact HT
    · iexact HP
  refine (e2 _ _ _ _).trans ?_
  dsimp only
  simp only [dif_neg c2, dif_neg c3, dif_pos c4, dif_neg c5, dif_neg c6, Prog.lift, Prog.bind_op, Prog.bind_ret, Prog.pure_eq_ret, Prog.bind_assoc]
  refine load_pts c (blk c) fullShare f _ (unit_sub_load c _ (off2_eq t2 c) rfl rfl) ?_
  refine store_pts c (blk c) f _ _ (unit_sub c _ (off2_eq t2 c) rfl rfl) ?_
  refine load_pts c (blk c) fullShare _ _ (unit_sub_load c _ (off7_eq c) rfl rfl) ?_
  refine store_pts c (blk c) _ _ _ (unit_sub c _ (off7_eq c) rfl rfl) ?_
  refine load_pts c (blk c) fullShare _ _ (unit_sub_load c _ (off8_eq c) rfl rfl) ?_
  refine store_pts c (blk c) _ _ _ (unit_sub c _ (off8_eq c) rfl rfl) ?_
  have hf' := stores_agree PB c t2 2 rfl _ _ _ hfit f hf (k0_off7 c (tw c)) (k0_off8 c (tw c)) (off7_eq c) (off8_eq c)
    (k0_off2_inb (grid0.coords t2) c (tw c) k0_hw1) (k0_off7_inb (grid0.coords t2) c (tw c) k0_hw1 c4) (k0_off8_inb (grid0.coords t2) c (tw c) k0_hw1 c4)
    (k0_pay6 (k0_pay23 (qsel c X2) X3)) (k0_pay7 (k0_pay25 (qsel c X2) X3)) rfl rfl
  revert hf'
  generalize ((pM : Memref sig .tc .vmem S16x34x64 .f32).access (Rect.unit (s := S16x34x64) (k0_off8 c (tw c)) S1x1x8.size _)).write (Elt F) _ _ Finset.univ = f'
  intro hf'
  refine BIBase.Entails.trans ?_ ((hQ).trans (ret_intro c _ _))
  unfold Φmid
  iintro ⟨⟨⟨⟨⟨HI, HG⟩, HL, Hb, HO⟩, Hx⟩, Ht⟩, HP⟩
  isplitr [HO Hx]
  · iexists κ
    isplitl [HI]; · iexact HI
    isplitl [HG]; · iexact HG
    isplitl [HL]; · iexact HL
    isplitl [Hb]; · iexact Hb
    isplitr [Ht]
    · iexists f'
      isplitr; · ipureintro; exact hf'
      iexact HP
    · iexact Ht
  · isplitl [HO] <;> iassumption

end Cert.KernelIdeal.Ring
-- ==== Proof.Combine.lean ====
module

public import proofs.«01_k».proof.Proof.Gen.KernelIdeal.Skeleton
public import Idealize.ShloMosaic.Lib.Pointwise

/-! The vector every device stores at the end, as a function of the gathered sheet. -/

@[expose] public section

set_option maxRecDepth 16384

noncomputable section

namespace Cert.KernelIdeal.Ring

open Idealize.ShloMosaic Idealize.ShloMosaic.TcCoe Idealize.SL.Sem
open Cert.KernelIdeal Cert.KernelIdeal.Gen

variable {F : FTy → Type} [FloatOps F]

/-- The stored vector from the whole sheet: the two partial results of a head group, weighed and added. -/
def combine (g : FVec F S16x34x64 .f32) : FVec F S16x1x16x64 .f32 :=
  k0_pay10 (k0_pay20 (k0_pay12 g) (k0_pay15 g) (k0_pay17 g) (k0_pay18 g) (k0_pay19 g))

theorem pay12_congr (g h : FVec F S16x34x64 .f32) (e : ∀ i, (i 1).val ≠ 33 → g i = h i) :
    k0_pay12 g = k0_pay12 h := by
  funext j
  idx_vars j
  pointwise [k0_pay12, k0_pay11]
  apply e
  show ¬ _ = _
  dsimp
  omega

theorem pay13_congr (g h : FVec F S16x34x64 .f32) (e : ∀ i, (i 1).val ≠ 33 → g i = h i) :
    k0_pay13 g = k0_pay13 h := by
  funext j
  idx_vars j
  pointwise [k0_pay13, k0_pay11]
  apply e
  show ¬ _ = _
  dsimp
  omega

/-- The last row of a block plays no part in it. -/
theorem combine_congr (g h : FVec F S16x34x64 .f32) (e : ∀ i, (i 1).val ≠ 33 → g i = h i) :
    combine g = combine h := by
  have e12 := pay12_congr g h e
  have e13 := pay13_congr g h e
  have e14 : k0_pay14 g = k0_pay14 h := by unfold k0_pay14; rw [e13]
  have e15 : k0_pay15 g = k0_pay15 h := by unfold k0_pay15; rw [e13]
  have e16 : k0_pay16 g = k0_pay16 h := by unfold k0_pay16; rw [e14]
  have e17 : k0_pay17 g = k0_pay17 h := by unfold k0_pay17; rw [e14, e16]
  have e18 : k0_pay18 g = k0_pay18 h := by unfold k0_pay18; rw [e14, e16]
  have e19 : k0_pay19 g = k0_pay19 h := by unfold k0_pay19; rw [e15]
  unfold combine
  rw [e12, e15, e17, e18, e19]

end Cert.KernelIdeal.Ring
-- ==== Proof.Body3.lean ====
/-
The body's run at the last grid point: the exchange, the combination and the store of the result.
-/
module

public import proofs.«01_k».proof.Proof.Body
public import proofs.«01_k».proof.Proof.Combine

@[expose] public section

set_option maxRecDepth 16384
set_option backward.proofsInPublic true

noncomputable section

namespace Cert.KernelIdeal.Ring

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] peer Mesh.inv neg Mesh.off blk N

variable {F : FTy → Type} [FloatOps F] [Facts]

local notation "𝕄" => MT nD τ sig Unit (Elt F) ℕ UU ℕ

variable (PB : S16x34x64.Idx → Elt F .f32) (κ : GSem nD τ sig → ℕ) (c : Dev nD)

/-! ## The exchange's phases, one after the other -/

/-- What the waits need, kept aside during the sends. -/
def kept (PB : S16x34x64.Idx → Elt F .f32) (κ : GSem nD τ sig → ℕ) (c : Dev nD) : sProp 𝕄 :=
  iprop(INV PB κ ∗ bigSep Finset.univ (recvIn (F := F) c) ∗ bigSep Finset.univ fun j : Fin 15 => atPos ER (sendCell c j) 0 ∅ 0)

omit [FloatOps F] [Facts] in
/-- Over no offset there is nothing to hold. -/
theorem none_left (Φ : Fin 15 → sProp 𝕄) : (iprop(emp) : sProp 𝕄) ⊢ bigSep ∅ Φ := Entails.of_eq (bigSep_empty (Φ := Φ)).symm

/-- Before the sends: the own block is lent to the fifteen copies, and a leaf of it is kept. -/
theorem enter_send (f : S16x34x64.Idx → Elt F .f32) (X O Tb : sProp 𝕄) :
    iprop((((((INV PB κ ∗ ghosts c) ∗ (lands c ∗ semVal (barCell c) 0 ∗ (∃ Wt, owes (c : Thread nD τ) (dueR c 0) Wt)) ∗ X) ∗ O) ∗ Tb) ∗ pts c (blk c) fullShare f : sProp 𝕄))
      ⊢ iprop((((X ∗ O ∗ Tb ∗ semVal (barCell c) 0) ∗ kept PB κ c) ∗ pts c (blk c) lf0 f) ∗ sendSt PB κ f c 0) := by
  have hl := lend c (blk c) f
  have e : iprop(bigSep Finset.univ (sendG (F := F) c) ∗ lands c ∗ bigSep Finset.univ fun j : Fin 15 => pts c (blk c) (lf j) f) ⊢ bigSep Finset.univ (sendIn c f) := by
    unfold lands
    rw [← bigSep_sep', ← bigSep_sep']
    have e0 : ∀ j, iprop(sendG (F := F) c j ∗ ((∃ f, pts (peer j c) (blk c) fullShare f) ∗ reached ER (recvCell (peer j c) j) 0) ∗ pts c (blk c) (lf j) f) ⊢ sendIn c f j := fun j => by
      unfold sendIn sendG
      iintro ⟨⟨H1, H2, H3⟩, HL, HP⟩
      isplitl [H1]; · iexact H1
      isplitl [H2]; · iexact H2
      isplitl [H3]; · iexact H3
      isplitl [HL] <;> iassumption
    exact BI.bigSep_mono fun j _ => e0 j
  unfold sendSt kept ghosts
  rw [rem_zero, don_zero, hl]
  iintro ⟨⟨⟨⟨⟨#HI, HG, HR, HA⟩, ⟨HL, Hb, HO⟩, HX⟩, Hops⟩, Ht⟩, HP, HPs⟩
  ihave HS := e $$ [HG HL HPs]
  · isplitl [HG]; · iexact HG
    isplitl [HL] <;> iassumption
  isplitr [HS HO]
  · isplitr [HP]
    · isplitl [HX Hops Ht Hb]
      · isplitl [HX]; · iexact HX
        isplitl [Hops]; · iexact Hops
        isplitl [Ht] <;> iassumption
      · isplitr; · iexact HI
        isplitl [HR] <;> iassumption
    · iexact HP
  · isplitr; · iexact HI
    isplitl [HS]; · iexact HS
    isplitr [HO]
    · iapply (none_left _); iempintro
    · iexact HO

/-- After the sends, before the waits. -/
theorem enter_recv (f : S16x34x64.Idx → Elt F .f32) (T P : sProp 𝕄) :
    iprop(((T ∗ kept PB κ c) ∗ P) ∗ sendSt PB κ f c 15)
      ⊢ iprop(((T ∗ INV PB κ ∗ bigSep Finset.univ (backIn (F := F) c)) ∗ P) ∗ recvSt PB κ c 0) := by
  have e : iprop((bigSep Finset.univ fun j : Fin 15 => atPos ER (sendCell c j) 0 ∅ 0) ∗ bigSep Finset.univ (sendOut (F := F) c)) ⊢ bigSep Finset.univ (backIn (F := F) c) := by
    rw [← bigSep_sep']
    unfold backIn sendOut
    exact BIBase.Entails.rfl
  unfold sendSt recvSt kept
  rw [rem_end, don_end, rem_zero, don_zero, dueR_end]
  iintro ⟨⟨⟨HT, #HI, HR, HA⟩, HP⟩, -, -, HC, HO⟩
  ihave HB := e $$ [HA HC]
  · isplitl [HA] <;> iassumption
  isplitr [HR HO]
  · isplitr [HP]
    · isplitl [HT]; · iexact HT
      isplitr; · iexact HI
      iexact HB
    · iexact HP
  · isplitr; · iexact HI
    isplitl [HR]; · iexact HR
    isplitr [HO]
    · iapply (none_left _); iempintro
    · iexact HO

/-- After the blocks have come, before the waits for the own sends. -/
theorem enter_back (g : S16x34x64.Idx → Elt F .f32) (T R V : sProp 𝕄) :
    iprop(((T ∗ INV PB κ ∗ bigSep Finset.univ (backIn (F := F) c)) ∗ R ∗ V ∗ ∃ Wt, owes (c : Thread nD τ) 0 Wt) ∗ pts c Finset.univ lf0 g)
      ⊢ iprop((T ∗ V ∗ R ∗ pts c Finset.univ lf0 g) ∗ backSt PB κ c 0) := by
  unfold backSt
  rw [rem_zero, don_zero]
  iintro ⟨⟨⟨HT, #HI, HB⟩, HR, HV, HO⟩, HP⟩
  isplitr [HB HO]
  · isplitl [HT]; · iexact HT
    isplitl [HV]; · iexact HV
    isplitl [HR] <;> iassumption
  · isplitr; · iexact HI
    isplitl [HB]; · iexact HB
    isplitr [HO]
    · iapply (none_left _); iempintro
    · iexact HO

/-- After the last wait: the whole buffer is the device's again, every semaphore is at zero. -/
theorem leave_back (g : S16x34x64.Idx → Elt F .f32) (X O Tb V : sProp 𝕄) :
    iprop(((X ∗ O ∗ Tb ∗ semVal (barCell c) 0) ∗ V ∗ (bigSep Finset.univ fun j : Fin 15 => pts c (restBlk c) (lf j) g) ∗ pts c Finset.univ lf0 g) ∗ backSt PB κ c 15)
      ⊢ iprop((((bigSep Finset.univ fun j : Fin 15 => semVal (sendCell c j) 0) ∗ V ∗ semVal (barCell c) 0 ∗ (∃ f, pts c Finset.univ fullShare f) ∗ Tb)
          ∗ (∃ Wt, owes (c : Thread nD τ) 0 Wt) ∗ O) ∗ X) := by
  have eS : bigSep Finset.univ (backOut (F := F) c) = (iprop(bigSep Finset.univ (sendPay (F := F) c) ∗ bigSep Finset.univ fun j : Fin 15 => semVal (sendCell c j) 0) : sProp 𝕄) := by
    unfold backOut; exact bigSep_sep' _ _ _
  have hr := restore c g
  unfold backSt
  rw [rem_end, don_end, eS]
  iintro ⟨⟨⟨HX, HO, Ht, Hb⟩, HV, HR, HP⟩, -, -, ⟨HS, HZ⟩, HW⟩
  ihave HP := hr $$ [HP HR HS]
  · isplitl [HP]; · iexact HP
    isplitl [HR] <;> iassumption
  isplitr [HX]
  · isplitr [HO HW]
    · isplitl [HZ]; · iexact HZ
      isplitl [HV]; · iexact HV
      isplitl [Hb]; · iexact Hb
      isplitl [HP]
      · iexists g; iexact HP
      · iexact Ht
    · isplitl [HW] <;> iassumption
  · iexact HX

omit [FloatOps F] [Facts] in
/-- A store of the whole vector leaves it. -/
theorem whole_out (f w : S16x1x16x64.Idx → Elt F .f32) {inb} (hz : (![0, 0, 0, 0] : Fin 4 → ℕ) = fun _ => 0) :
    oM.view.read (Elt F) (((oM : Memref sig .tc .vmem S16x1x16x64 .f32).access (Rect.unit (s := S16x1x16x64) ![0, 0, 0, 0] S16x1x16x64.size inb)).write (Elt F) f w Finset.univ) = w := by
  have e := Memref.write_access_unit_zero_univ (Elt F) cc0_stg3_0 hz inb f w
  refine (congrArg (fun x => oM.view.read (Elt F) x) e).trans ?_
  show View.read (Elt F) (Memref.whole cc0_stg3_0).view w = w
  exact View.read_whole cc0_stg3_0 w

/-- A store into a buffer held whole, of contents it is known to leave. -/
theorem store_owns {s : Shape} {e : EltTy} (M : Memref sig .tc .vmem s e) (X Y : s.Idx → Elt F e) (r : Rect s) (w : r.shape.Idx → Elt F e)
    {hx : (M.access r).Stores Finset.univ} {hm : (Finset.univ : Finset r.shape.Idx) = Finset.univ ∨ ∀ a, r.stride a = 1}
    (hY : ∀ f, M.view.read (Elt F) ((M.access r).write (Elt F) f w Finset.univ) = Y)
    {α : Type} {k : PUnit → Prog (TpuEff nD τ sig (Elt F) Λ₀ .tc) α} {Q : α → sProp 𝕄} {T : sProp 𝕄}
    (h : iprop(T ∗ owns (c : Thread nD τ) M fullShare Y) ⊢ W c (k ⟨⟩) Q) :
    iprop(T ∗ owns (c : Thread nD τ) M fullShare X) ⊢ W c (.op (.store M r w Finset.univ hx hm) k) Q := by
  unfold owns at h ⊢
  iintro ⟨HT, %f, %hf, H⟩
  iapply (wp_store 𝒱₀ (c : Thread nD τ) none Set.univ (m := M) (r := r) (Mk := Finset.univ) (Memref.setOn_access_subset M r Finset.univ)) $$ H
  iintro H
  iapply h
  isplitl [HT]; · iexact HT
  iexists _
  isplitr
  rotate_left
  · iexact H
  · ipureintro
    exact hY f

/-- Grid point 3. -/
theorem body3 (M2 : Memref sig .tc .vmem S4x1x16x64 .bf16) (hM2 : M2.IsWhole) (M3 M4 : Memref sig .tc .vmem S4x2x64x1024 .bf16) (hM3 : M3.IsWhole) (hM4 : M4.IsWhole)
    (hM5 : oM.IsWhole) (h1 : (tM : Memref sig .tc .smem S1 .i32).IsWhole) (h6w : (pM : Memref sig .tc .vmem S16x34x64 .f32).IsWhole)
    (X2 : S4x1x16x64.Idx → Elt F .bf16) (X3 X4 : S4x2x64x1024.Idx → Elt F .bf16) (X5 : S16x1x16x64.Idx → Elt F .f32)
    (hfit : Fits PB c 3 (k0_pay23 (qsel c X2) X3) (k0_pay25 (qsel c X2) X3) (k0_pay26 (qsel c X2) X3 X4))
    {Q : PUnit → sProp 𝕄} (hQ : iprop(Φend c ∗ (∃ Wt, owes (c : Thread nD τ) 0 Wt) ∗ opnds c M2 M3 M4 X2 X3 X4 ∗ owns (c : Thread nD τ) oM fullShare (combine PB)) ⊢ Q ⟨⟩) :
    iprop(Φmid PB c 3 ∗ (∃ Wt, owes (c : Thread nD τ) (dueR c 0) Wt) ∗ opnds c M2 M3 M4 X2 X3 X4 ∗ owns (c : Thread nD τ) oM fullShare X5) ⊢ W c (cc0_body (grid0.coords t3) tM h1 M2 hM2 M3 hM3 M4 hM4 oM hM5 pM h6w cc0_scratch1 cc0_scratch2) Q := by
  simp only [cc0_body_eq_skeleton]; unfold cc0_body_skel
  have e0 : iprop(Φmid PB c 3 ∗ (∃ Wt, owes (c : Thread nD τ) (dueR c 0) Wt) ∗ opnds c M2 M3 M4 X2 X3 X4 ∗ owns (c : Thread nD τ) oM fullShare X5) ⊢ iprop(∃ κ, ∃ f, ⌜Agree PB c 3 f⌝ ∗ ((((INV PB κ ∗ ghosts c) ∗ (lands c ∗ semVal (barCell c) 0 ∗ (∃ Wt, owes (c : Thread nD τ) (dueR c 0) Wt)) ∗ owns (c : Thread nD τ) oM fullShare X5) ∗ pts c (blk c) fullShare f) ∗ opnds c M2 M3 M4 X2 X3 X4) ∗ tabPts c) := by
    unfold Φmid
    iintro ⟨⟨%κ, HI, HG, HL, Hb, ⟨%f, %hf, HP⟩, Ht⟩, HO, Hx, H5⟩
    iexists κ; iexists f
    isplitr; · ipureintro; exact hf
    isplitr [Ht]
    · isplitr [Hx]
      · isplitr [HP]
        · isplitl [HI HG]; · isplitl [HI] <;> iassumption
          isplitr [H5]
          · isplitl [HL]; · iexact HL
            isplitl [Hb] <;> iassumption
          · iexact H5
        · iexact HP
      · iexact Hx
    · iexact Ht
  refine e0.trans (exists_elim fun κ => exists_elim fun f => pure_in fun hf => ?_)
  refine bind_wp c (part19_wp c _ _ _ _ _ _ _ _ _ _ _ (fun r hd hw => ?_))
  obtain ⟨arg0, d0, v2, v5, v8, v9, k0_hw1, v11, v12, v13, v14, v25, v26, v27, v30, v31, c0_i32_18⟩ := r
  dsimp only at hd hw ⊢
  obtain rfl : c = d0 := hd.symm
  subst hw
  refine bind_pure c (by apply part20_pure) fun r => ?_
  obtain ⟨v38, v39, v40, v51, v52, v53, v64, v65, v66, v67, c4_i32_41⟩ := r
  dsimp only
  refine bind_pure c (by apply part21_pure) fun r => ?_
  obtain ⟨v77, v78, v79, v90, v91, v92, v103, c1_i32_65⟩ := r
  dsimp only
  refine bind_pure c (by apply part22_pure) fun r => ?_
  obtain ⟨v104, v105, v116, v117, v118, v129, v130, v131, v134, v135, v136, v137, c0_i32_91⟩ := r
  dsimp only
  refine bind_pure c (by apply part23_pure) fun r => ?_
  obtain ⟨v142, v143, v144, v155, v156, v157, v168, v169, v170, v171, v173⟩ := r
  dsimp only
  refine bind_pure c (by apply part24_pure) fun r => ?_
  obtain ⟨v181, v182, v183, v194, v195, v196, v207⟩ := r
  dsimp only
  have c1 : ¬k0_cond1 (grid0.coords t3) = 1#1 := fun h => absurd (((conds t3).1).mp h) (by decide)
  have c2 : ¬k0_cond2 (grid0.coords t3) = 1#1 := fun h => absurd (((conds t3).2.1).mp h) (by decide)
  have c3 : ¬k0_cond3 (grid0.coords t3) = 1#1 := fun h => absurd (((conds t3).2.2.1).mp h) (by decide)
  have c4 : ¬k0_cond4 (grid0.coords t3) = 1#1 := fun h => absurd (((conds t3).2.2.2.1).mp h) (by decide)
  have c5 : k0_cond5 (grid0.coords t3) = 1#1 := ((conds t3).2.2.2.2.1).mpr rfl
  have c6 : k0_cond6 (grid0.coords t3) = 1#1 := ((conds t3).2.2.2.2.2).mpr rfl
  have e1 : ∀ A P O Tb : sProp 𝕄, iprop(((A ∗ P) ∗ O) ∗ Tb) ⊢ iprop(((A ∗ P) ∗ Tb) ∗ O) := by
    intro A P O Tb
    iintro ⟨⟨HA, HO⟩, HT⟩
    isplitr [HO]
    · isplitl [HA] <;> iassumption
    · iexact HO
  refine (e1 _ _ _ _).trans (bind_wp c (part25_rest c _ _ _ _ _ _ _ _ _ _ _ _ _ _ _ _ _ _ _ _ _ _ _ _ _ _ _ _ _ _ _ _ _ _ _ _ _ _ _ _ _ _ _ _ _ _ _ _ _ _ _ _ _ _ _ _ _ _ _ _ c1 X2 X3 X4 fun w => ?_))
  have e2 : ∀ A P Tb O : sProp 𝕄, iprop(((A ∗ P) ∗ Tb) ∗ O) ⊢ iprop(((A ∗ O) ∗ Tb) ∗ P) := by
    intro A P Tb O
    iintro ⟨⟨⟨HA, HP⟩, HT⟩, HO⟩
    isplitr [HP]
    · isplitr [HT]
      · isplitl [HA] <;> iassumption
      · iexact HT
    · iexact HP
  refine (e2 _ _ _ _).trans ?_
  dsimp only
  simp only [dif_neg c2, dif_neg c3, dif_neg c4, dif_pos c5, dif_pos c6, Prog.lift, Prog.bind_op, Prog.bind_ret, Prog.pure_eq_ret, Prog.bind_assoc]
  refine load_pts c (blk c) fullShare f _ (unit_sub_load c _ (off2_eq t3 c) rfl rfl) ?_
  refine store_pts c (blk c) f _ _ (unit_sub c _ (off2_eq t3 c) rfl rfl) ?_
  refine load_pts c (blk c) fullShare _ _ (unit_sub_load c _ (off9_eq c) rfl rfl) ?_
  refine store_pts c (blk c) _ _ _ (unit_sub c _ (off9_eq c) rfl rfl) ?_
  refine load_pts c (blk c) fullShare _ _ (unit_sub_load c _ (off10_eq c) rfl rfl) ?_
  refine store_pts c (blk c) _ _ _ (unit_sub c _ (off10_eq c) rfl rfl) ?_
  have hf' := stores_agree PB c t3 3 rfl _ _ _ hfit f hf (k0_off9 c (tw c)) (k0_off10 c (tw c)) (off9_eq c) (off10_eq c)
    (k0_off2_inb (grid0.coords t3) c (tw c) k0_hw1) (k0_off9_inb (grid0.coords t3) c (tw c) k0_hw1 c5) (k0_off10_inb (grid0.coords t3) c (tw c) k0_hw1 c5)
    (k0_pay8 (k0_pay23 (qsel c X2) X3)) (k0_pay9 (k0_pay25 (qsel c X2) X3)) rfl rfl
  revert hf'
  generalize ((pM : Memref sig .tc .vmem S16x34x64 .f32).access (Rect.unit (s := S16x34x64) (k0_off10 c (tw c)) S1x1x8.size _)).write (Elt F) _ _ Finset.univ = f'
  intro hf'
  refine (enter_send PB κ c f' _ _ _).trans ?_
  refine bind_wp c (use (part4_wp PB κ c f' (agree_good PB c f' hf') _ _ _ _ _ _ _ _ _ _ _ _ _ _ _ _ _ _ _ _ _ _ _) ?_)
  refine bind_wp c (useA (part5_wp PB κ c f' (agree_good PB c f' hf') _ _ _ _ _ _ _ _ _ _ _ _ _ _ _ _ _ _ _ _ _) fun r => ?_)
  obtain ⟨v332, c0_i32_219⟩ := r
  dsimp only
  refine bind_wp c (use (part6_wp PB κ c f' (agree_good PB c f' hf') _ _ _ _ _ _ _ _ _ _ _ _ _ _ _ _ _ _ _ _ _ _ _ _) ?_)
  refine bind_wp c (useA (part7_wp PB κ c f' (agree_good PB c f' hf') _ _ _ _ _ _ _ _ _ _ _ _ _ _ _ _ _ _ _ _ _ _) fun r => ?_)
  obtain ⟨v395, c1_i32_267⟩ := r
  dsimp only
  refine bind_wp c (use (part8_wp PB κ c f' (agree_good PB c f' hf') _ _ _ _ _ _ _ _ _ _ _ _ _ _ _ _ _ _ _ _ _ _ _) ?_)
  refine bind_wp c (use (part9_wp PB κ c f' (agree_good PB c f' hf') _ _ _ _ _ _ _ _ _ _ _ _ _ _ _ _ _ _ _ _ _ _ _) ?_)
  refine (enter_recv PB κ c f' _ _).trans ?_
  refine bind_wp c (useA (part10_wp PB κ c _ _ _ _ _ _ _ _ _ _ _ _ _ _ _ _ _ _ _) fun r => ?_)
  refine bind_wp c (use (part11_wp PB κ c _ _ _ _ _ _ _ _ _ _ _ _ _ _ _ _ _ _ _ _ _) ?_)
  refine bind_wp c (useA (part12_wp PB κ c _ _ _ _ _ _ _ _ _ _ _ _ _ _ _ _ _ _ _ _ _) fun r => ?_)
  obtain ⟨v535, v536⟩ := r
  dsimp only
  refine bind_wp c (use (part13_wp PB κ c _ _ _ _ _ _ _ _ _ _ _ _ _ _ _ _ _ _ _ _) ?_)
  refine bind_wp c (use (part14_wp PB κ c _ _ _ _ _ _ _ _ _ _ _ _ _ _ _ _ _ _ _ _ _) ?_)
  refine bind_wp c (part15_wp PB κ c _ _ _ _ _ _ _ _ _ _ _ _ _ _ _ f' (agree_good PB c f' hf') fun g hg => ?_)
  dsimp only
  refine (enter_back PB κ c g _ _ _).trans ?_
  refine bind_wp c (use (part16_wp PB κ c _ _ _ _ _ _ _ _ _ _ _ _ _ _ _ _ _ _ _) ?_)
  refine bind_wp c (use (part17_wp PB κ c _ _ _ _ _ _ _ _ _ _ _ _ _ _) ?_)
  refine bind_wp c (use (part18_wp PB κ c _ _ _ _ _ _ _ _ _ _ _ _ _ _) ?_)
  refine use (back_at PB κ c 13 13 14 rfl rfl _ rfl _ rfl) ?_
  refine use (back_at PB κ c 14 14 15 rfl rfl _ rfl _ rfl) ?_
  refine (leave_back PB κ c g _ _ _ _).trans ?_
  refine load_owns c oM X5 _ ?_
  refine store_owns c oM X5 _ _ _ (fun f => whole_out f _ (by decide)) ?_
  refine BIBase.Entails.trans ?_ (hQ.trans (ret_intro c _ _))
  rw [← combine_congr g PB hg]
  unfold Φend combine
  have eF : ∀ A B C D : sProp 𝕄, iprop((A ∗ B ∗ C) ∗ D) ⊢ iprop(A ∗ B ∗ C ∗ D) := by
    intro A B C D
    iintro ⟨⟨HA, HB, HC⟩, HD⟩
    isplitl [HA]; · iexact HA
    isplitl [HB]; · iexact HB
    isplitl [HC] <;> iassumption
  exact eF _ _ _ _

end Cert.KernelIdeal.Ring
-- ==== Proof.Data.lean ====
/-
The pipeline's data on each device: the table's word, the blocks the windows bring, the exchange buffer's contents as a
function of the launch memory, and the body's obligation at every grid point.
-/
module

public import proofs.«01_k».proof.Proof.Body3
public import proofs.«01_k».proof.Proof.Gen.KernelIdeal.Regions
public import Idealize.ShloMosaic.Lib.Pipeline.Launch
public import Idealize.ShloMosaic.Lib.Pipeline.Kit
public import Idealize.ShloMosaic.Lib.Tactic

@[expose] public section

set_option maxRecDepth 16384
set_option backward.proofsInPublic true

noncomputable section

namespace Cert.KernelIdeal.Ring

open Cert.KernelIdeal Cert.KernelIdeal.Gen Cert.KernelIdeal.Mesh
open Idealize.ShloMosaic Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The table -/

/-- The prefetched table's contents on device `c`. -/
def tab (c : Dev nD) : pre0.Contents (Elt F) := fun | 0 => fun _ => tw c | ⟨_ + 1, h⟩ => absurd h (Nat.not_lt.2 (Nat.le_add_left _ _))

theorem tw_nat (c : Dev nD) : (tw c).toNat = c.val % 8 := by revert c; decide
omit [FloatOps F] in
theorem map1_eq (c : Dev nD) (i : grid0.Coords) :
    cc0_transform_1 (F := F) inb_S1_S1_0 numel1_S1 (tab c) i = ![(BitVec.ofNat 32 (i 0).val).toNat, (tw c).toNat, 0, 0] := rfl
omit [FloatOps F] in
theorem map2_eq (c : Dev nD) (i : grid0.Coords) :
    cc0_transform_2 (F := F) inb_S1_S1_0 numel1_S1 (tab c) i = ![(BitVec.ofNat 32 (i 0).val).toNat, (tw c).toNat, 0, 0] := rfl
theorem map_inb : ∀ (c : Dev nD) (i : grid0.Coords) (a : Fin 4),
    ((![(BitVec.ofNat 32 (i 0).val).toNat, (tw c).toNat, 0, 0] : Fin 4 → ℕ) a + 1) * S4x2x64x1024.size a ≤ S16x16x64x1024.size a := by
  decide +kernel

theorem tab_ok (c : Dev nD) : ok0 (F := F) (tab c) := by
  refine ⟨fun i => ⟨fun a => by rw [map1_eq]; exact map_inb c i a, ?_⟩, fun i => ⟨fun a => by rw [map2_eq]; exact map_inb c i a, ?_⟩⟩
  · exact .inr (Affine.block_words_dvd (of_decide_eq_true rfl) (by decide))
  · exact .inr (Affine.block_words_dvd (of_decide_eq_true rfl) (by decide))

/-- The table's contents, admissible. -/
def adm (c : Dev nD) : (pcfg0 (F := F)).Adm := ⟨tab c, tab_ok c⟩

/-! ## The blocks -/

abbrev dcfg (c : Dev nD) : Cfg sig Λ₀ := cfg0 (F := F) (adm c)

/-- The query block of grid point `t`. -/
def qS (c : Dev nD) (t : Fin grid0.N) : S4x1x16x64.Idx → Elt F .bf16 :=
  ((win0 (F := F) (adm c) 0).blk t).view.read (Elt F) (V1 m c main_arg0)
/-- The key block of grid point `t`. -/
def kS (c : Dev nD) (t : Fin grid0.N) : S4x2x64x1024.Idx → Elt F .bf16 :=
  ((win0 (F := F) (adm c) 1).blk t).view.read (Elt F) (V1 m c main_v12)
/-- The value block of grid point `t`. -/
def vS (c : Dev nD) (t : Fin grid0.N) : S4x2x64x1024.Idx → Elt F .bf16 :=
  ((win0 (F := F) (adm c) 2).blk t).view.read (Elt F) (V1 m c main_v13)

/-- The row maxima of grid point `t` on device `c`. -/
def mV (c : Dev nD) (t : Fin grid0.N) : S8x1.Idx → Elt F .f32 := k0_pay23 (qsel c (qS m c t)) (kS m c t)
/-- The row sums. -/
def lV (c : Dev nD) (t : Fin grid0.N) : S8x1.Idx → Elt F .f32 := k0_pay25 (qsel c (qS m c t)) (kS m c t)
/-- The partial output. -/
def oV (c : Dev nD) (t : Fin grid0.N) : S8x64.Idx → Elt F .f32 := k0_pay26 (qsel c (qS m c t)) (kS m c t) (vS m c t)

/-- Grid point `k`. -/
def gp (k : ℕ) (h : k < 4) : Fin grid0.N := ⟨k, by rw [N_0]; exact h⟩

/-- The exchange buffer after the exchange, the same on every device: block `d` is device `d`'s partial output, with
    its row maxima and row sums in the row below. -/
def PB (i : S16x34x64.Idx) : Elt F .f32 :=
  if h : (i 1).val < 32 then
    k0_pay1 (oV m (show Dev nD from ⟨(i 0).val, (i 0).isLt⟩) (gp ((i 1).val / 8) (by omega))) (ix3 (0 : Fin 1) (⟨(i 1).val % 8, by omega⟩ : Fin 8) (⟨(i 2).val, (i 2).isLt⟩ : Fin 64))
  else if h2 : (i 2).val < 32 then
    k0_pay2 (mV m (show Dev nD from ⟨(i 0).val, (i 0).isLt⟩) (gp ((i 2).val / 8) (by omega))) (ix3 (0 : Fin 1) (0 : Fin 1) (⟨(i 2).val % 8, by omega⟩ : Fin 8))
  else
    k0_pay3 (lV m (show Dev nD from ⟨(i 0).val, (i 0).isLt⟩) (gp (((i 2).val - 32) / 8) (by have h : (i 2).val < 64 := (i 2).isLt; omega))) (ix3 (0 : Fin 1) (0 : Fin 1) (⟨(i 2).val % 8, by omega⟩ : Fin 8))

theorem fits (c : Dev nD) (n : ℕ) (hn : n < 4) : Fits (PB m) c n (mV m c (gp n hn)) (lV m c (gp n hn)) (oV m c (gp n hn)) := by
  have key : ∀ (i : S16x34x64.Idx) (h0 : (i 0).val = c.val), (show Dev nD from ⟨(i 0).val, (i 0).isLt⟩) = c := fun i h0 => Fin.ext h0
  refine ⟨fun x i h => ?_, fun x i h => ?_, fun x i h => ?_⟩
  · idx_vars x
    have h0 : (i 0).val = c.val + x0.val := h 0
    have h1 : (i 1).val = 8 * n + x1.val := h 1
    have h2 : (i 2).val = 0 + x2.val := h 2
    have b0 := x0.isLt; have b1 := x1.isLt
    unfold PB
    rw [dif_pos (by omega : (i 1).val < 32), key i (by omega)]
    have e1 : gp ((i 1).val / 8) (by omega) = gp n hn := Fin.ext (by show (i 1).val / 8 = n; omega)
    rw [e1]
    congr 1
    exact (ix3_inj ..).2 ⟨Fin.ext (by show 0 = x0.val; omega), Fin.ext (by show (i 1).val % 8 = x1.val; omega), Fin.ext (by show (i 2).val = x2.val; omega)⟩
  · idx_vars x
    have h0 : (i 0).val = c.val + x0.val := h 0
    have h1 : (i 1).val = 32 + x1.val := h 1
    have h2 : (i 2).val = 8 * n + x2.val := h 2
    have b0 := x0.isLt; have b1 := x1.isLt; have b2 := x2.isLt
    unfold PB
    rw [dif_neg (by omega : ¬ (i 1).val < 32), dif_pos (by omega : (i 2).val < 32), key i (by omega)]
    have e1 : gp ((i 2).val / 8) (by omega) = gp n hn := Fin.ext (by show (i 2).val / 8 = n; omega)
    rw [e1]
    congr 1
    exact (ix3_inj ..).2 ⟨Fin.ext (by show 0 = x0.val; omega), Fin.ext (by show 0 = x1.val; omega), Fin.ext (by show (i 2).val % 8 = x2.val; omega)⟩
  · idx_vars x
    have h0 : (i 0).val = c.val + x0.val := h 0
    have h1 : (i 1).val = 32 + x1.val := h 1
    have h2 : (i 2).val = 32 + 8 * n + x2.val := h 2
    have b0 := x0.isLt; have b1 := x1.isLt; have b2 := x2.isLt
    unfold PB
    rw [dif_neg (by omega : ¬ (i 1).val < 32), dif_neg (by omega : ¬ (i 2).val < 32), key i (by omega)]
    have e1 : gp (((i 2).val - 32) / 8) (by omega) = gp n hn := Fin.ext (by show ((i 2).val - 32) / 8 = n; omega)
    rw [e1]
    congr 1
    exact (ix3_inj ..).2 ⟨Fin.ext (by show 0 = x0.val; omega), Fin.ext (by show 0 = x1.val; omega), Fin.ext (by show (i 2).val % 8 = x2.val; omega)⟩

/-! ## The pipeline's data -/

/-- The pipeline's data on device `c`: the arrays as the host operations leave them, an input's staging buffer with its
    block, the output's with the combined result, and between grid points the exchange's state. -/
def dats (_ : Fin 1) (c : Dev nD) : Dat τ (Elt F) Unit ℕ UU ℕ (dcfg (F := F) c) c where
  A w := V1 m c (Pipeline.arrRef spec0 w)
  after w t := match w with
    | ⟨0, _⟩ => qS m c t
    | ⟨1, _⟩ => kS m c t
    | ⟨2, _⟩ => vS m c t
    | ⟨3, _⟩ => combine (PB m)
  Φ t := match t with
    | ⟨0, _⟩ => Φstart (PB m) c
    | ⟨1, _⟩ => Φmid (PB m) c 1
    | ⟨2, _⟩ => Φmid (PB m) c 2
    | ⟨3, _⟩ => Φmid (PB m) c 3
    | ⟨_ + 4, _⟩ => Φend c
  q _ := fullShare
  owed t := match t with
    | ⟨0, _⟩ => O₀ c
    | ⟨1, _⟩ => dueR c 0
    | ⟨2, _⟩ => dueR c 0
    | ⟨3, _⟩ => dueR c 0
    | ⟨_ + 4, _⟩ => 0

theorem moves0 : ∀ t : Fin grid0.N, Window.fetchOf grid0 false cc0_transform_0 t = true := by decide +kernel
theorem moves1 : ∀ (c : Dev nD) (t : Fin grid0.N),
    Window.fetchOf grid0 false (fun i : grid0.Coords => (![(BitVec.ofNat 32 (i 0).val).toNat, (tw c).toNat, 0, 0] : Fin 4 → ℕ)) t = true := by
  decide +kernel
theorem stays3 : ∀ t : Fin grid0.N, Window.flushOf grid0 true cc0_transform_3 t = decide (t.val = 3) := by decide +kernel

theorem fetch0 (c : Dev nD) (t : Fin grid0.N) : ((dcfg (F := F) c).win (0 : Fin 4)).fetch t = true := moves0 t
theorem fetch1 (c : Dev nD) (t : Fin grid0.N) : ((dcfg (F := F) c).win (1 : Fin 4)).fetch t = true := moves1 c t
theorem fetch2 (c : Dev nD) (t : Fin grid0.N) : ((dcfg (F := F) c).win (2 : Fin 4)).fetch t = true := moves1 c t
theorem flush3 (c : Dev nD) (t : Fin grid0.N) : ((dcfg (F := F) c).win (3 : Fin 4)).flush t = decide (t.val = 3) := stays3 t

theorem before0 (c : Dev nD) (t : Fin grid0.N) (d) : (dats m 0 c).before (0 : Fin 4) t d = qS m c t := by
  rw [Dat.before_fetched _ _ _ (fetch0 c t)]; rfl
theorem before1 (c : Dev nD) (t : Fin grid0.N) (d) : (dats m 0 c).before (1 : Fin 4) t d = kS m c t := by
  rw [Dat.before_fetched _ _ _ (fetch1 c t)]; rfl
theorem before2 (c : Dev nD) (t : Fin grid0.N) (d) : (dats m 0 c).before (2 : Fin 4) t d = vS m c t := by
  rw [Dat.before_fetched _ _ _ (fetch2 c t)]; rfl

omit [FloatOps F] in
theorem bigSep_W (Φ : Fin 4 → sProp 𝕄) : bigSep Finset.univ Φ = iprop(Φ (0 : Fin 4) ∗ Φ (1 : Fin 4) ∗ Φ (2 : Fin 4) ∗ Φ (3 : Fin 4)) := bigSep_W0 Φ

/-- What the core owes before a grid point, as the body's run has it. -/
theorem owes_in (c : Dev nD) (t : Fin (grid0.N + 1)) (O : CellTallies nD τ sig Unit) (h : (dats m 0 c).owed t = O) :
    (dats m 0 c).owesAt () t ⊢ iprop(∃ Wt, owes (c : Thread nD τ) O Wt) := by
  subst h
  unfold Dat.owesAt Pipeline.owesWithin
  iintro ⟨%W, -, H⟩
  iexists W; iexact H
theorem owes_out (c : Dev nD) (t : Fin (grid0.N + 1)) (O : CellTallies nD τ sig Unit) (h : (dats m 0 c).owed t = O) :
    iprop(∃ Wt, owes (c : Thread nD τ) O Wt) ⊢ (dats m 0 c).owesAt () t := by
  subst h
  unfold Dat.owesAt Pipeline.owesWithin
  iintro ⟨%W, H⟩
  iexists W
  isplitr; · ipureintro; exact fun _ _ => Or.inl trivial
  iexact H

/-- A staging buffer's contents before a grid point, when they are known. -/
theorem owns_in {s : Shape} {e : EltTy} (c : Dev nD) (M : Memref sig .tc .vmem s e) {β : Type} (b : β → s.Idx → Elt F e) (X : s.Idx → Elt F e)
    (h : ∀ d, b d = X) : (iprop(∃ d, owns (c : Thread nD τ) M fullShare (b d)) : sProp 𝕄) ⊢ owns (c : Thread nD τ) M fullShare X := by
  iintro ⟨%d, H⟩
  rw [h d]; iexact H

/-- The body's run with the pipeline's state put in the run's order; the output's staging buffer `X` is not touched. -/
theorem run_idle (c : Dev nD) {p : Prog (TpuEff nD τ sig (Elt F) Λ₀ .tc) PUnit} {A A' O O' OW OW' B0 B1 B2 D0 D1 D2 : sProp 𝕄} (X : sProp 𝕄)
    (hbody : ∀ Q : PUnit → sProp 𝕄, (iprop(A' ∗ OW' ∗ D0 ∗ D1 ∗ D2) ⊢ Q ⟨⟩) → iprop(A ∗ OW ∗ D0 ∗ D1 ∗ D2) ⊢ W c p Q)
    (hO : O ⊢ OW) (hO' : OW' ⊢ O') (h0 : B0 ⊢ D0) (h1 : B1 ⊢ D1) (h2 : B2 ⊢ D2) :
    iprop(A ∗ O ∗ B0 ∗ B1 ∗ B2 ∗ X) ⊢ W c p (fun _ => iprop(A' ∗ O' ∗ D0 ∗ D1 ∗ D2 ∗ X)) := by
  have hb := hbody (fun _ => iprop(A' ∗ OW' ∗ D0 ∗ D1 ∗ D2)) BIBase.Entails.rfl
  have hf : iprop(W c p (fun _ => iprop(A' ∗ OW' ∗ D0 ∗ D1 ∗ D2)) ∗ X) ⊢ W c p (fun _ => iprop((A' ∗ OW' ∗ D0 ∗ D1 ∗ D2) ∗ X)) := wp_frame_r _ _ _
  have hm : ∀ r : PUnit, iprop((A' ∗ OW' ∗ D0 ∗ D1 ∗ D2) ∗ X) ⊢ iprop(A' ∗ O' ∗ D0 ∗ D1 ∗ D2 ∗ X) := by
    intro _
    iintro ⟨⟨HA, HO, H0, H1, H2⟩, HX⟩
    isplitl [HA]; · iexact HA
    isplitl [HO]; · iapply hO' $$ HO
    isplitl [H0]; · iexact H0
    isplitl [H1]; · iexact H1
    isplitl [H2] <;> iassumption
  refine BIBase.Entails.trans ?_ (hf.trans (wp_mono _ _ _ hm))
  iintro ⟨HA, HO, H0, H1, H2, HX⟩
  isplitr [HX]
  · iapply hb
    isplitl [HA]; · iexact HA
    isplitl [HO]; · iapply hO $$ HO
    isplitl [H0]; · iapply h0 $$ H0
    isplitl [H1]; · iapply h1 $$ H1
    iapply h2 $$ H2
  · iexact HX

/-- The same at the last grid point, where the output's staging buffer is stored to. -/
theorem run_last (c : Dev nD) {p : Prog (TpuEff nD τ sig (Elt F) Λ₀ .tc) PUnit} {A A' O O' OW OW' B0 B1 B2 D0 D1 D2 X' : sProp 𝕄}
    {β : Type} {X : β → sProp 𝕄}
    (hbody : ∀ (x : β) (Q : PUnit → sProp 𝕄), (iprop(A' ∗ OW' ∗ (D0 ∗ D1 ∗ D2) ∗ X') ⊢ Q ⟨⟩) → iprop(A ∗ OW ∗ (D0 ∗ D1 ∗ D2) ∗ X x) ⊢ W c p Q)
    (hO : O ⊢ OW) (hO' : OW' ⊢ O') (h0 : B0 ⊢ D0) (h1 : B1 ⊢ D1) (h2 : B2 ⊢ D2) :
    iprop(A ∗ O ∗ B0 ∗ B1 ∗ B2 ∗ ∃ x, X x) ⊢ W c p (fun _ => iprop(A' ∗ O' ∗ D0 ∗ D1 ∗ D2 ∗ X')) := by
  have hm : iprop(A' ∗ OW' ∗ (D0 ∗ D1 ∗ D2) ∗ X') ⊢ iprop(A' ∗ O' ∗ D0 ∗ D1 ∗ D2 ∗ X') := by
    iintro ⟨HA, HO, ⟨H0, H1, H2⟩, HX⟩
    isplitl [HA]; · iexact HA
    isplitl [HO]; · iapply hO' $$ HO
    isplitl [H0]; · iexact H0
    isplitl [H1]; · iexact H1
    isplitl [H2] <;> iassumption
  have hb : ∀ x : β, iprop(A ∗ OW ∗ (D0 ∗ D1 ∗ D2) ∗ X x) ⊢ W c p (fun _ => iprop(A' ∗ O' ∗ D0 ∗ D1 ∗ D2 ∗ X')) :=
    fun x => hbody x (fun _ => iprop(A' ∗ O' ∗ D0 ∗ D1 ∗ D2 ∗ X')) hm
  iintro ⟨HA, HO, H0, H1, H2, %x, HX⟩
  iapply (hb x)
  isplitl [HA]; · iexact HA
  isplitl [HO]; · iapply hO $$ HO
  isplitr [HX]
  · isplitl [H0]; · iapply h0 $$ H0
    isplitl [H1]; · iapply h1 $$ H1
    iapply h2 $$ H2
  · iexact HX

/-- The body at grid point 0, over the pipeline's data. -/
theorem run0 (c : Dev nD) :
    (iprop(Φstart (PB m) c ∗ (dats m 0 c).owesAt () (Fin.castSucc (t0 : Fin grid0.N))
      ∗ (∃ d, owns (c : Thread nD τ) (spec0_0.stage ((dcfg (F := F) c).slots t0 (0 : Fin 4))) fullShare ((dats m 0 c).before (0 : Fin 4) t0 d))
      ∗ (∃ d, owns (c : Thread nD τ) (spec0_1.stage ((dcfg (F := F) c).slots t0 (1 : Fin 4))) fullShare ((dats m 0 c).before (1 : Fin 4) t0 d))
      ∗ (∃ d, owns (c : Thread nD τ) (spec0_2.stage ((dcfg (F := F) c).slots t0 (2 : Fin 4))) fullShare ((dats m 0 c).before (2 : Fin 4) t0 d))
      ∗ (∃ d, owns (c : Thread nD τ) (spec0_3.stage ((dcfg (F := F) c).slots t0 (3 : Fin 4))) fullShare ((dats m 0 c).before (3 : Fin 4) t0 d))) : sProp 𝕄)
    ⊢ W c (cc0_body (grid0.coords t0) tM (Memref.isWhole_whole _) (spec0_0.stage ((dcfg (F := F) c).slots t0 (0 : Fin 4))) (hstage0_0 (((dcfg (F := F) c).slots t0 (0 : Fin 4)).cast nbuf0_0)) (spec0_1.stage ((dcfg (F := F) c).slots t0 (1 : Fin 4))) (hstage0_1 (((dcfg (F := F) c).slots t0 (1 : Fin 4)).cast nbuf0_1)) (spec0_2.stage ((dcfg (F := F) c).slots t0 (2 : Fin 4))) (hstage0_2 (((dcfg (F := F) c).slots t0 (2 : Fin 4)).cast nbuf0_2)) (spec0_3.stage ((dcfg (F := F) c).slots t0 (3 : Fin 4))) (hstage0_3 (((dcfg (F := F) c).slots t0 (3 : Fin 4)).cast nbuf0_3)) pM (Memref.isWhole_whole _) cc0_scratch1 cc0_scratch2) (fun _ => iprop(Φmid (PB m) c 1 ∗ (dats m 0 c).owesAt () (Fin.succ (t0 : Fin grid0.N))
      ∗ owns (c : Thread nD τ) (spec0_0.stage ((dcfg (F := F) c).slots t0 (0 : Fin 4))) fullShare (qS m c t0) ∗ owns (c : Thread nD τ) (spec0_1.stage ((dcfg (F := F) c).slots t0 (1 : Fin 4))) fullShare (kS m c t0) ∗ owns (c : Thread nD τ) (spec0_2.stage ((dcfg (F := F) c).slots t0 (2 : Fin 4))) fullShare (vS m c t0)
      ∗ (∃ d, owns (c : Thread nD τ) (spec0_3.stage ((dcfg (F := F) c).slots t0 (3 : Fin 4))) fullShare ((dats m 0 c).before (3 : Fin 4) t0 d)))) := by
  have hfit : Fits (PB m) c 0 (k0_pay23 (qsel c (qS m c t0)) (kS m c t0)) (k0_pay25 (qsel c (qS m c t0)) (kS m c t0)) (k0_pay26 (qsel c (qS m c t0)) (kS m c t0) (vS m c t0)) := fits m c 0 (by decide)
  exact run_idle c _ (fun Q hQ => body0 (PB m) c _ _ _ _ _ _ _ _ _ _ _ _ _ hfit hQ) (owes_in m c _ (O₀ c) rfl) (owes_out m c _ (dueR c 0) rfl)
    (owns_in c _ _ _ (before0 m c t0)) (owns_in c _ _ _ (before1 m c t0)) (owns_in c _ _ _ (before2 m c t0))

/-- The body at grid point 1, over the pipeline's data. -/
theorem run1 (c : Dev nD) :
    (iprop(Φmid (PB m) c 1 ∗ (dats m 0 c).owesAt () (Fin.castSucc (t1 : Fin grid0.N))
      ∗ (∃ d, owns (c : Thread nD τ) (spec0_0.stage ((dcfg (F := F) c).slots t1 (0 : Fin 4))) fullShare ((dats m 0 c).before (0 : Fin 4) t1 d))
      ∗ (∃ d, owns (c : Thread nD τ) (spec0_1.stage ((dcfg (F := F) c).slots t1 (1 : Fin 4))) fullShare ((dats m 0 c).before (1 : Fin 4) t1 d))
      ∗ (∃ d, owns (c : Thread nD τ) (spec0_2.stage ((dcfg (F := F) c).slots t1 (2 : Fin 4))) fullShare ((dats m 0 c).before (2 : Fin 4) t1 d))
      ∗ (∃ d, owns (c : Thread nD τ) (spec0_3.stage ((dcfg (F := F) c).slots t1 (3 : Fin 4))) fullShare ((dats m 0 c).before (3 : Fin 4) t1 d))) : sProp 𝕄)
    ⊢ W c (cc0_body (grid0.coords t1) tM (Memref.isWhole_whole _) (spec0_0.stage ((dcfg (F := F) c).slots t1 (0 : Fin 4))) (hstage0_0 (((dcfg (F := F) c).slots t1 (0 : Fin 4)).cast nbuf0_0)) (spec0_1.stage ((dcfg (F := F) c).slots t1 (1 : Fin 4))) (hstage0_1 (((dcfg (F := F) c).slots t1 (1 : Fin 4)).cast nbuf0_1)) (spec0_2.stage ((dcfg (F := F) c).slots t1 (2 : Fin 4))) (hstage0_2 (((dcfg (F := F) c).slots t1 (2 : Fin 4)).cast nbuf0_2)) (spec0_3.stage ((dcfg (F := F) c).slots t1 (3 : Fin 4))) (hstage0_3 (((dcfg (F := F) c).slots t1 (3 : Fin 4)).cast nbuf0_3)) pM (Memref.isWhole_whole _) cc0_scratch1 cc0_scratch2) (fun _ => iprop(Φmid (PB m) c 2 ∗ (dats m 0 c).owesAt () (Fin.succ (t1 : Fin grid0.N))
      ∗ owns (c : Thread nD τ) (spec0_0.stage ((dcfg (F := F) c).slots t1 (0 : Fin 4))) fullShare (qS m c t1) ∗ owns (c : Thread nD τ) (spec0_1.stage ((dcfg (F := F) c).slots t1 (1 : Fin 4))) fullShare (kS m c t1) ∗ owns (c : Thread nD τ) (spec0_2.stage ((dcfg (F := F) c).slots t1 (2 : Fin 4))) fullShare (vS m c t1)
      ∗ (∃ d, owns (c : Thread nD τ) (spec0_3.stage ((dcfg (F := F) c).slots t1 (3 : Fin 4))) fullShare ((dats m 0 c).before (3 : Fin 4) t1 d)))) := by
  have hfit : Fits (PB m) c 1 (k0_pay23 (qsel c (qS m c t1)) (kS m c t1)) (k0_pay25 (qsel c (qS m c t1)) (kS m c t1)) (k0_pay26 (qsel c (qS m c t1)) (kS m c t1) (vS m c t1)) := fits m c 1 (by decide)
  exact run_idle c _ (fun Q hQ => body1 (PB m) c _ _ _ _ _ _ _ _ _ _ _ _ _ hfit hQ) (owes_in m c _ (dueR c 0) rfl) (owes_out m c _ (dueR c 0) rfl)
    (owns_in c _ _ _ (before0 m c t1)) (owns_in c _ _ _ (before1 m c t1)) (owns_in c _ _ _ (before2 m c t1))

/-- The body at grid point 2, over the pipeline's data. -/
theorem run2 (c : Dev nD) :
    (iprop(Φmid (PB m) c 2 ∗ (dats m 0 c).owesAt () (Fin.castSucc (t2 : Fin grid0.N))
      ∗ (∃ d, owns (c : Thread nD τ) (spec0_0.stage ((dcfg (F := F) c).slots t2 (0 : Fin 4))) fullShare ((dats m 0 c).before (0 : Fin 4) t2 d))
      ∗ (∃ d, owns (c : Thread nD τ) (spec0_1.stage ((dcfg (F := F) c).slots t2 (1 : Fin 4))) fullShare ((dats m 0 c).before (1 : Fin 4) t2 d))
      ∗ (∃ d, owns (c : Thread nD τ) (spec0_2.stage ((dcfg (F := F) c).slots t2 (2 : Fin 4))) fullShare ((dats m 0 c).before (2 : Fin 4) t2 d))
      ∗ (∃ d, owns (c : Thread nD τ) (spec0_3.stage ((dcfg (F := F) c).slots t2 (3 : Fin 4))) fullShare ((dats m 0 c).before (3 : Fin 4) t2 d))) : sProp 𝕄)
    ⊢ W c (cc0_body (grid0.coords t2) tM (Memref.isWhole_whole _) (spec0_0.stage ((dcfg (F := F) c).slots t2 (0 : Fin 4))) (hstage0_0 (((dcfg (F := F) c).slots t2 (0 : Fin 4)).cast nbuf0_0)) (spec0_1.stage ((dcfg (F := F) c).slots t2 (1 : Fin 4))) (hstage0_1 (((dcfg (F := F) c).slots t2 (1 : Fin 4)).cast nbuf0_1)) (spec0_2.stage ((dcfg (F := F) c).slots t2 (2 : Fin 4))) (hstage0_2 (((dcfg (F := F) c).slots t2 (2 : Fin 4)).cast nbuf0_2)) (spec0_3.stage ((dcfg (F := F) c).slots t2 (3 : Fin 4))) (hstage0_3 (((dcfg (F := F) c).slots t2 (3 : Fin 4)).cast nbuf0_3)) pM (Memref.isWhole_whole _) cc0_scratch1 cc0_scratch2) (fun _ => iprop(Φmid (PB m) c 3 ∗ (dats m 0 c).owesAt () (Fin.succ (t2 : Fin grid0.N))
      ∗ owns (c : Thread nD τ) (spec0_0.stage ((dcfg (F := F) c).slots t2 (0 : Fin 4))) fullShare (qS m c t2) ∗ owns (c : Thread nD τ) (spec0_1.stage ((dcfg (F := F) c).slots t2 (1 : Fin 4))) fullShare (kS m c t2) ∗ owns (c : Thread nD τ) (spec0_2.stage ((dcfg (F := F) c).slots t2 (2 : Fin 4))) fullShare (vS m c t2)
      ∗ (∃ d, owns (c : Thread nD τ) (spec0_3.stage ((dcfg (F := F) c).slots t2 (3 : Fin 4))) fullShare ((dats m 0 c).before (3 : Fin 4) t2 d)))) := by
  have hfit : Fits (PB m) c 2 (k0_pay23 (qsel c (qS m c t2)) (kS m c t2)) (k0_pay25 (qsel c (qS m c t2)) (kS m c t2)) (k0_pay26 (qsel c (qS m c t2)) (kS m c t2) (vS m c t2)) := fits m c 2 (by decide)
  exact run_idle c _ (fun Q hQ => body2 (PB m) c _ _ _ _ _ _ _ _ _ _ _ _ _ hfit hQ) (owes_in m c _ (dueR c 0) rfl) (owes_out m c _ (dueR c 0) rfl)
    (owns_in c _ _ _ (before0 m c t2)) (owns_in c _ _ _ (before1 m c t2)) (owns_in c _ _ _ (before2 m c t2))

/-- The body at grid point 3, over the pipeline's data. -/
theorem run3 (c : Dev nD) :
    (iprop(Φmid (PB m) c 3 ∗ (dats m 0 c).owesAt () (Fin.castSucc (t3 : Fin grid0.N))
      ∗ (∃ d, owns (c : Thread nD τ) (spec0_0.stage ((dcfg (F := F) c).slots t3 (0 : Fin 4))) fullShare ((dats m 0 c).before (0 : Fin 4) t3 d))
      ∗ (∃ d, owns (c : Thread nD τ) (spec0_1.stage ((dcfg (F := F) c).slots t3 (1 : Fin 4))) fullShare ((dats m 0 c).before (1 : Fin 4) t3 d))
      ∗ (∃ d, owns (c : Thread nD τ) (spec0_2.stage ((dcfg (F := F) c).slots t3 (2 : Fin 4))) fullShare ((dats m 0 c).before (2 : Fin 4) t3 d))
      ∗ (∃ d, owns (c : Thread nD τ) oM fullShare ((dats m 0 c).before (3 : Fin 4) t3 d))) : sProp 𝕄)
    ⊢ W c (cc0_body (grid0.coords t3) tM (Memref.isWhole_whole _) (spec0_0.stage ((dcfg (F := F) c).slots t3 (0 : Fin 4))) (hstage0_0 (((dcfg (F := F) c).slots t3 (0 : Fin 4)).cast nbuf0_0)) (spec0_1.stage ((dcfg (F := F) c).slots t3 (1 : Fin 4))) (hstage0_1 (((dcfg (F := F) c).slots t3 (1 : Fin 4)).cast nbuf0_1)) (spec0_2.stage ((dcfg (F := F) c).slots t3 (2 : Fin 4))) (hstage0_2 (((dcfg (F := F) c).slots t3 (2 : Fin 4)).cast nbuf0_2)) oM (hstage0_3 (((dcfg (F := F) c).slots t3 (3 : Fin 4)).cast nbuf0_3)) pM (Memref.isWhole_whole _) cc0_scratch1 cc0_scratch2) (fun _ => iprop(Φend c ∗ (dats m 0 c).owesAt () (Fin.succ (t3 : Fin grid0.N))
      ∗ owns (c : Thread nD τ) (spec0_0.stage ((dcfg (F := F) c).slots t3 (0 : Fin 4))) fullShare (qS m c t3) ∗ owns (c : Thread nD τ) (spec0_1.stage ((dcfg (F := F) c).slots t3 (1 : Fin 4))) fullShare (kS m c t3) ∗ owns (c : Thread nD τ) (spec0_2.stage ((dcfg (F := F) c).slots t3 (2 : Fin 4))) fullShare (vS m c t3)
      ∗ owns (c : Thread nD τ) oM fullShare (combine (PB m)))) := by
  have hfit : Fits (PB m) c 3 (k0_pay23 (qsel c (qS m c t3)) (kS m c t3)) (k0_pay25 (qsel c (qS m c t3)) (kS m c t3)) (k0_pay26 (qsel c (qS m c t3)) (kS m c t3) (vS m c t3)) := fits m c 3 (by decide)
  exact run_last c (fun _ Q hQ => body3 (PB m) c _ _ _ _ _ _ _ _ _ _ _ _ _ hfit hQ) (owes_in m c _ (dueR c 0) rfl) (owes_out m c _ (0) rfl)
    (owns_in c _ _ _ (before0 m c t3)) (owns_in c _ _ _ (before1 m c t3)) (owns_in c _ _ _ (before2 m c t3))

/-- The output's staging buffer is left alone before the last grid point. -/
theorem idle3 (c : Dev nD) (t : Fin grid0.N) : (dcfg (F := F) c).idle (3 : Fin 4) (grid0.coords t) = decide (t.val ≠ 3) := by
  have h : ∀ t : Fin grid0.N, (!(k0_cond6 (grid0.coords t) == 1#1)) = decide (t.val ≠ 3) := by decide +kernel
  exact h t

omit [FloatOps F] in
theorem sep_eq {A A' B B' : sProp 𝕄} (h : A = A') (h' : B = B') : iprop(A ∗ B) = iprop(A' ∗ B') := by rw [h, h']

set_option maxHeartbeats 2000000 in
/-- The body's obligation at every grid point. -/
theorem body_obligation (c : Dev nD) : BodyObligation (dats m 0 c) (defs₀ (F := F)) 𝒱₀ () Set.univ := fun t => by
  rw [bigSep_W, bigSep_W]
  have hi := idle3 (F := F) c t
  have hf := flush3 (F := F) c t
  have ht : t = t0 ∨ t = t1 ∨ t = t2 ∨ t = t3 := fin_N0 t
  rcases ht with rfl | rfl | rfl | rfl
  · refine BIBase.Entails.trans (BIBase.Entails.of_eq ?_) ((run0 m c).trans (BIBase.Entails.of_eq ?_))
    · rfl
    · congr 1
      funext r
      refine sep_eq rfl (sep_eq rfl (sep_eq rfl (sep_eq rfl (sep_eq rfl ?_))))
      rw [hi, hf]
      rfl
  · refine BIBase.Entails.trans (BIBase.Entails.of_eq ?_) ((run1 m c).trans (BIBase.Entails.of_eq ?_))
    · rfl
    · congr 1
      funext r
      refine sep_eq rfl (sep_eq rfl (sep_eq rfl (sep_eq rfl (sep_eq rfl ?_))))
      rw [hi, hf]
      rfl
  · refine BIBase.Entails.trans (BIBase.Entails.of_eq ?_) ((run2 m c).trans (BIBase.Entails.of_eq ?_))
    · rfl
    · congr 1
      funext r
      refine sep_eq rfl (sep_eq rfl (sep_eq rfl (sep_eq rfl (sep_eq rfl ?_))))
      rw [hi, hf]
      rfl
  · refine BIBase.Entails.trans (BIBase.Entails.of_eq ?_) ((run3 m c).trans (BIBase.Entails.of_eq ?_))
    · rfl
    · congr 1
      funext r
      refine sep_eq rfl (sep_eq rfl (sep_eq rfl (sep_eq rfl (sep_eq rfl ?_))))
      rw [hi]
      rfl

end Cert.KernelIdeal.Ring
-- ==== Proof.Fund.lean ====
/-
The launch's dealing: from the launch's counters and the exchange's ghost state, what every device starts with.
-/
module

public import proofs.«01_k».proof.Proof.Body
public import Idealize.ShloMosaic.Lib.Pipeline.Launch
public import Idealize.ShloMosaic.Lib.Pipeline.Kit

@[expose] public section

set_option maxRecDepth 16384
set_option backward.proofsInPublic true

noncomputable section

namespace Cert.KernelIdeal.Ring

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] peer Mesh.inv neg Mesh.off blk N

variable {F : FTy → Type} [FloatOps F]

local notation "𝕄" => MT nD τ sig Unit (Elt F) ℕ UU ℕ

/-! ## The cells and the duties, enumerated -/

abbrev CJ : Type := Dev nD × Fin 15

/-- The duties: offset `j`'s at a device's barrier cell, at its send cell and at its receive cell. -/
def tokF : CJ ⊕ (CJ ⊕ CJ) → GSem nD τ sig × ℕ × Fin 15
  | .inl x => (barCell x.1, 0, x.2)
  | .inr (.inl x) => (sendCell x.1 x.2, 0, x.2)
  | .inr (.inr x) => (recvCell x.1 x.2, 0, x.2)

theorem bar_dev {a b : Dev nD} (h : barCell a = barCell b) : a = b := barE.injective h

theorem tokF_inj : Function.Injective tokF := by
  have hb : ∀ (a : Dev nD) (g : GSem nD τ sig) (s : DmaSem sig), g.2 = .dma s → barCell a ≠ g := fun a g s h e => by
    have e2 : (SemLoc.reg barS : SemLoc sig) = .dma s := (congrArg Prod.snd e).trans h
    cases e2
  have hsr : ∀ x y : CJ, sendCell x.1 x.2 ≠ recvCell y.1 y.2 := fun x y e =>
    send_ne_recv x.2 y.2 (SemLoc.dma.inj (congrArg Prod.snd e))
  rintro (x | x | x) (y | y | y) h
  · have h1 := congrArg Prod.fst h; have h2 := congrArg (fun z : GSem nD τ sig × ℕ × Fin 15 => z.2.2) h
    exact congrArg Sum.inl (Prod.ext (bar_dev h1) h2)
  · exact absurd (congrArg Prod.fst h) (hb x.1 _ _ rfl)
  · exact absurd (congrArg Prod.fst h) (hb x.1 _ _ rfl)
  · exact absurd (congrArg Prod.fst h).symm (hb y.1 _ _ rfl)
  · exact congrArg (Sum.inr ∘ Sum.inl) (sendE.injective (congrArg Prod.fst h))
  · exact absurd (congrArg Prod.fst h) (hsr x y)
  · exact absurd (congrArg Prod.fst h).symm (hb y.1 _ _ rfl)
  · exact absurd (congrArg Prod.fst h).symm (hsr y x)
  · exact congrArg (Sum.inr ∘ Sum.inr) (recvE.injective (congrArg Prod.fst h))

/-- The duties' triples. -/
def toks : Finset (GSem nD τ sig × ℕ × Fin 15) := Finset.univ.map ⟨tokF, tokF_inj⟩

/-- Device and offset, to the peer at the offset and the offset. -/
def pairE : CJ ≃ CJ where
  toFun x := (peer x.2 x.1, x.2)
  invFun x := (Mesh.inv x.2 x.1, x.2)
  left_inv x := Prod.ext (inv_peer _ _) rfl
  right_inv x := Prod.ext (peer_inv _ _) rfl

theorem bar_dma_disj : Disjoint barCells dmaCells := by
  rw [Finset.disjoint_left]
  intro g hg hd
  obtain ⟨a, -, rfl⟩ := Finset.mem_map.mp hg
  rcases Finset.mem_union.mp hd with h | h <;> obtain ⟨x, -, e⟩ := Finset.mem_map.mp h
  · have e2 : (SemLoc.dma (sendS x.2) : SemLoc sig) = .reg barS := congrArg Prod.snd e
    cases e2
  · have e2 : (SemLoc.dma (recvS x.2) : SemLoc sig) = .reg barS := congrArg Prod.snd e
    cases e2

theorem send_recv_disj : Disjoint (Finset.univ.map sendE) (Finset.univ.map recvE) := by
  rw [Finset.disjoint_left]
  intro g hg hd
  obtain ⟨x, -, rfl⟩ := Finset.mem_map.mp hg
  obtain ⟨y, -, e⟩ := Finset.mem_map.mp hd
  exact send_ne_recv x.2 y.2 (SemLoc.dma.inj (congrArg Prod.snd e)).symm

/-- The exchange's ghost state at launch. -/
def uX : UB := launchOf barCells dmaCells toks

/-! ## What a device starts with -/

/-- Its share of the ghost state: the duties it will pay, the right to open its own transfer cells, its barrier cell's
    owner, and that every peer's barrier cell is at its round. -/
def share (c : Dev nD) : sProp 𝕄 :=
  iprop((bigSep Finset.univ fun j : Fin 15 => dutyTok ER (barCell (peer j c)) 0 j)
    ∗ (bigSep Finset.univ fun j : Fin 15 => dutyTok ER (sendCell c j) 0 j)
    ∗ (bigSep Finset.univ fun j : Fin 15 => dutyTok ER (recvCell (peer j c) j) 0 j)
    ∗ (bigSep Finset.univ fun j : Fin 15 => openTok ER (sendCell c j))
    ∗ (bigSep Finset.univ fun j : Fin 15 => openTok ER (recvCell c j))
    ∗ (bigSep Finset.univ fun j : Fin 15 => reached ER (barCell (peer j c)) 0)
    ∗ atPos ER (barCell c) 0 ∅ 0)

/-- Its launch credits: the barrier's units and the transfers into it. -/
def credits (c : Dev nD) : sProp 𝕄 :=
  iprop(cred (tallyAt (barCell c) () 15) ∗ bigSep Finset.univ fun j : Fin 15 => cred (tallyAt (recvCell c j) () N))

omit [FloatOps F] in
theorem toks_eq (Φ : GSem nD τ sig × ℕ × Fin 15 → sProp 𝕄) : bigSep toks Φ
    = iprop((bigSep Finset.univ fun c : Dev nD => bigSep Finset.univ fun j : Fin 15 => Φ (barCell (peer j c), 0, j))
      ∗ (bigSep Finset.univ fun c : Dev nD => bigSep Finset.univ fun j : Fin 15 => Φ (sendCell c j, 0, j))
      ∗ (bigSep Finset.univ fun c : Dev nD => bigSep Finset.univ fun j : Fin 15 => Φ (recvCell (peer j c) j, 0, j))) := by
  unfold toks
  rw [bigSep_map, bigSep_univ_sum, bigSep_univ_sum]
  have e1 : bigSep Finset.univ (fun x : CJ => Φ (tokF (.inl x))) = bigSep Finset.univ fun c : Dev nD => bigSep Finset.univ fun j : Fin 15 => Φ (barCell (peer j c), 0, j) := by
    rw [bigSep_univ_equiv pairE, bigSep_univ_prod]; rfl
  have e2 : bigSep Finset.univ (fun x : CJ => Φ (tokF (.inr (.inl x)))) = bigSep Finset.univ fun c : Dev nD => bigSep Finset.univ fun j : Fin 15 => Φ (sendCell c j, 0, j) := by
    rw [bigSep_univ_prod]; rfl
  have e3 : bigSep Finset.univ (fun x : CJ => Φ (tokF (.inr (.inr x)))) = bigSep Finset.univ fun c : Dev nD => bigSep Finset.univ fun j : Fin 15 => Φ (recvCell (peer j c) j, 0, j) := by
    rw [bigSep_univ_equiv pairE, bigSep_univ_prod]; rfl
  rw [← e1, ← e2, ← e3]; rfl

omit [FloatOps F] in
theorem bars_eq (Φ : GSem nD τ sig → sProp 𝕄) : bigSep barCells Φ = bigSep Finset.univ fun c : Dev nD => Φ (barCell c) := by
  unfold barCells; rw [bigSep_map]; rfl

omit [FloatOps F] in
theorem dmas_eq (Φ : GSem nD τ sig → sProp 𝕄) : bigSep dmaCells Φ
    = iprop((bigSep Finset.univ fun c : Dev nD => bigSep Finset.univ fun j : Fin 15 => Φ (sendCell c j))
      ∗ (bigSep Finset.univ fun c : Dev nD => bigSep Finset.univ fun j : Fin 15 => Φ (recvCell c j))) := by
  unfold dmaCells
  rw [BI.bigSep_union send_recv_disj, bigSep_map, bigSep_map, bigSep_univ_prod, bigSep_univ_prod]; rfl

omit [FloatOps F] in
/-- Every device knows every peer's barrier cell's round. -/
theorem reached_all : (bigSep barCells fun g => (reached ER g 0 : sProp 𝕄))
    ⊢ bigSep Finset.univ fun c : Dev nD => bigSep Finset.univ fun j : Fin 15 => reached ER (barCell (peer j c)) 0 := by
  refine bigSep_intro_persistent fun c _ => bigSep_intro_persistent fun j _ => ?_
  exact bigSep_elim (Finset.mem_map_of_mem barE (Finset.mem_univ (peer j c)))

omit [FloatOps F] in
/-- The funded state, dealt to the devices. -/
theorem deal :
    iprop((bigSep barCells fun g => (reached ER g 0 : sProp 𝕄)) ∗ (bigSep barCells fun g => atPos ER g 0 ∅ 0)
        ∗ (bigSep dmaCells fun g => openTok ER g) ∗ bigSep toks fun x => dutyTok ER x.1 x.2.1 x.2.2)
      ⊢ bigSep Finset.univ (share (F := F)) := by
  unfold share
  rw [bigSep_sep', bigSep_sep', bigSep_sep', bigSep_sep', bigSep_sep', bigSep_sep', toks_eq, dmas_eq, bars_eq (fun g => atPos ER g 0 ∅ 0)]
  iintro ⟨Hr, Ha, ⟨Hos, Hor⟩, Hb, Hs, Hd⟩
  isplitl [Hb]; · iexact Hb
  isplitl [Hs]; · iexact Hs
  isplitl [Hd]; · iexact Hd
  isplitl [Hos]; · iexact Hos
  isplitl [Hor]; · iexact Hor
  isplitl [Hr]; · iapply reached_all $$ Hr
  iexact Ha

omit [FloatOps F] in
theorem cred_units (g : GSem nD τ sig) (s : Finset (Fin 15)) :
    (bigSep s fun _ => (cred (tallyAt g () 1) : sProp 𝕄)) ⊢ cred (tallyAt g () s.card) := by
  induction s using Finset.induction_on with
  | empty => rw [BI.bigSep_empty, Finset.card_empty, tallyAt_zero, cred_zero]; exact BI.Entails.refl _
  | insert a s ha ih =>
    rw [BI.bigSep_insert ha, Finset.card_insert_of_notMem ha, ← tallyAt_add]
    refine BIBase.Entails.trans ?_ (cred_add _ _).2
    exact (sep_mono_right ih).trans sep_comm.1

omit [FloatOps F] in
theorem credits_of_launch (c : Dev nD) : (Pipeline.launchCred O₀ c : sProp 𝕄) ⊢ credits c := by
  have e : (Pipeline.launchCred O₀ c : sProp 𝕄)
      = iprop((bigSep (rem 0) fun j => Pipeline.launchCred (fun d => tallyAt (barCell (peer j d)) () 1) c)
        ∗ bigSep (rem 0) fun j => Pipeline.launchCred (fun d => tallyAt (recvCell (peer j d) j) () N) c) := by
    rw [show (O₀ : Dev nD → CellTallies nD τ sig Unit) = fun d => (∑ j ∈ rem 0, tallyAt (barCell (peer j d)) () 1) + ∑ j ∈ rem 0, tallyAt (recvCell (peer j d) j) () N from rfl,
      Pipeline.launchCred_add, Pipeline.launchCred_sum, Pipeline.launchCred_sum]
  have hb : ∀ j : Fin 15, (Pipeline.launchCred (fun d => tallyAt (barCell (peer j d)) () 1) c : sProp 𝕄) ⊢ cred (tallyAt (barCell c) () 1) := fun j =>
    Pipeline.launchCred_tallyAt (.reg barS) (peer j) (Mesh.inv j) (peer_inv j) (inv_peer j) () 1 c
  have hr : ∀ j : Fin 15, (Pipeline.launchCred (fun d => tallyAt (recvCell (peer j d) j) () N) c : sProp 𝕄) ⊢ cred (tallyAt (recvCell c j) () N) := fun j =>
    Pipeline.launchCred_tallyAt (.dma (recvS j)) (peer j) (Mesh.inv j) (peer_inv j) (inv_peer j) () N c
  rw [e, rem_zero]
  unfold credits
  have h1 : (bigSep Finset.univ fun j : Fin 15 => (Pipeline.launchCred (fun d => tallyAt (barCell (peer j d)) () 1) c : sProp 𝕄)) ⊢ cred (tallyAt (barCell c) () 15) := (bigSep_mono (s := Finset.univ) fun j _ => hb j).trans (cred_units (F := F) (barCell c) Finset.univ)
  have h2 : (bigSep Finset.univ fun j : Fin 15 => (Pipeline.launchCred (fun d => tallyAt (recvCell (peer j d) j) () N) c : sProp 𝕄)) ⊢ bigSep Finset.univ fun j : Fin 15 => cred (tallyAt (recvCell c j) () N) := bigSep_mono (s := Finset.univ) fun j _ => hr j
  iintro ⟨H1, H2⟩
  isplitl [H1]; · iapply h1 $$ H1
  iapply h2 $$ H2

variable (PB : S16x34x64.Idx → Elt F .f32)

/-- What a device has of the exchange when the launch has dealt. -/
def dealt (c : Dev nD) : sProp 𝕄 := iprop((∃ κ, INV PB κ) ∗ share c)

omit [FloatOps F] in
/-- The launch: the barrier cells' counters and the ghost state make every device's start. -/
theorem fund : iprop((bigSep Finset.univ fun c : Dev nD => (semVal (barCell c) 0 : sProp 𝕄)) ∗ BI.own (ER uX))
    ⊢ |={Set.univ}=> bigSep Finset.univ (dealt PB) := by
  unfold uX
  iintro ⟨Hv, Hu⟩
  imod (Rounds.fund_launch ER (Rd PB) bar_dma_disj (fun _ _ h => h) toks) $$ [Hv Hu] with ⟨%κ, %hκ, #HI, Hr, Ha, Ho, Ht⟩
  · isplitl [Hv]
    · iapply (Entails.of_eq (bars_eq fun g => (semVal g 0 : sProp 𝕄)).symm) $$ Hv
    · iexact Hu
  imodintro
  unfold dealt
  iapply (Entails.of_eq (bigSep_sep' Finset.univ (fun _ : Dev nD => iprop(∃ κ, INV PB κ)) (share (F := F))).symm)
  isplitr
  · iapply (bigSep_of_persistent Finset.univ (iprop(∃ κ, INV PB κ) : sProp 𝕄))
    iexists κ
    unfold INV
    iexact HI
  · iapply (deal (F := F))
    isplitl [Hr]; · iexact Hr
    isplitl [Ha]; · iexact Ha
    isplitl [Ho] <;> iassumption

end Cert.KernelIdeal.Ring

end
-- ==== Proof.Vals.lean ====
/-
What the host operations before the kernel leave: the device's offset in its half, and the two transposed arrays.
-/
module

public import proofs.«01_k».proof.Proof.Data
public import Idealize.ShloMosaic.Lib.StableHlo.Run
public import Idealize.ShloMosaic.Lib.Claim

@[expose] public section

set_option maxRecDepth 16384
set_option backward.proofsInPublic true

noncomputable section

namespace Cert.KernelIdeal.Ring

open Cert.KernelIdeal Cert.KernelIdeal.Gen Cert.KernelIdeal.Mesh
open Idealize.ShloMosaic Idealize.ShloMosaic.TcCoe

variable {F : FTy → Type} [FloatOps F]
variable (m : (ℓ : Loc nD τ sig) → Buf (Elt F) ℓ)

theorem word_tw (c : Dev nD) : IntOp.addi (IntOp.muli (IntOp.remui .host (IntOp.divui .host (Dev.word c) 4#32) 2#32) 4#32) (IntOp.remui .host (IntOp.divui .host (Dev.word c) 1#32) 4#32) = tw c := by
  revert c; decide

/-- The prefetched table's word. -/
theorem V1_tab (c : Dev nD) : V1 m c main_v11 = (fun _ => tw c : S1.Idx → Elt F .i32) := by
  unfold_abbrev_sides
  after_results
  funext i
  exact word_tw c

/-- The keys' array, transposed. -/
theorem V1_keys (c : Dev nD) : V1 m c main_v12 = (transpose S16x16x64x1024 [0, 2, 3, 1] · transposes_S16x1024x16x64_S16x16x64x1024_0_2_3_1) (m ((c : Thread nD τ).loc main_arg1)) := by
  unfold_abbrev_sides
  after_results

/-- The values' array, transposed. -/
theorem V1_values (c : Dev nD) : V1 m c main_v13 = (transpose S16x16x64x1024 [0, 2, 3, 1] · transposes_S16x1024x16x64_S16x16x64x1024_0_2_3_1) (m ((c : Thread nD τ).loc main_arg2)) := by
  unfold_abbrev_sides
  after_results

/-- The queries' array. -/
theorem V1_queries (c : Dev nD) : V1 m c main_arg0 = m ((c : Thread nD τ).loc main_arg0) :=
  (V1_of m c main_arg0 (by decide)).trans rfl

end Cert.KernelIdeal.Ring

end
-- ==== Proof.Launch.lean ====
/-
The launch: @main as its host operations and its one kernel region, the region entered with what the launch deals and
left with the arrays at their final contents, and the run of the whole program on every device.
-/
module

public import proofs.«01_k».proof.Proof.Data
public import proofs.«01_k».proof.Proof.Fund
public import proofs.«01_k».proof.Proof.Vals
public import Idealize.ShloMosaic.Lib.Pipeline.Regions
public import Idealize.ShloMosaic.Lib.Pipeline.CollectiveSegs
public import Idealize.ShloMosaic.Lib.Pipeline.Frame

@[expose] public section

set_option maxRecDepth 16384
set_option backward.proofsInPublic true

noncomputable section

namespace Cert.KernelIdeal.Ring

open Cert.KernelIdeal Cert.KernelIdeal.Gen Cert.KernelIdeal.Mesh
open Idealize.ShloMosaic Idealize.ShloMosaic.TcCoe
open Idealize.ShloMosaic.Pipeline (Dat Cfg Window BodyObligation BodyObligationLoose cellOf)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] peer Mesh.inv neg Mesh.off blk N

variable {F : FTy → Type} [FloatOps F]

local notation "𝕄" => MT nD τ sig Unit (Elt F) ℕ UU ℕ

/-! ## The kernel's own semaphores -/

/-- The send and the receive semaphores. -/
def osem : Fin 15 ⊕ Fin 15 → SemLoc sig
  | .inl j => .dma (sendS j)
  | .inr j => .dma (recvS j)

theorem ownSemFacts : Pipeline.OwnSemFacts spec0 osem := by decide

omit [FloatOps F] in
theorem ownSems0_eq (c : Dev nD) : (Pipeline.ownSems0 osem c : sProp 𝕄)
    = iprop((bigSep Finset.univ fun j : Fin 15 => semVal (sendCell c j) 0) ∗ bigSep Finset.univ fun j : Fin 15 => semVal (recvCell c j) 0) := by
  unfold Pipeline.ownSems0
  rw [bigSep_univ_sum]; rfl

omit [FloatOps F] in
theorem unscopedSems0_eq (c : Dev nD) : (unscopedSems0 c : sProp 𝕄) = semVal (barCell c) 0 := by
  unfold unscopedSems0
  rw [bigSep_eq_bigSepL_of_eq [SemLoc.reg barS] (by decide) (by decide)]; rfl

/-! ## Entering the region -/

section Enter
variable (PB : S16x34x64.Idx → Elt F .f32)

/-- What a device signals with, less its blocks. -/
def sigG (c : Dev nD) (j : Fin 15) : sProp 𝕄 :=
  iprop(dutyTok ER (barCell (peer j c)) 0 j ∗ reached ER (recvCell c (neg j)) 0 ∗ reached ER (barCell (peer j c)) 0)

/-- What enters the region's invariant, less the exchange buffer and the table. -/
def startX (c : Dev nD) : sProp 𝕄 :=
  iprop(∃ κ, INV PB κ ∗ ghosts c ∗ bigSep Finset.univ (sigG (F := F) c) ∗ barWait c)

omit [FloatOps F] in
theorem with_inv (κ : GSem nD τ sig → ℕ) (g : Fin 15 → GSem nD τ sig) (hg : ∀ j, g j ∈ barCells ∪ dmaCells) :
    iprop(INV PB κ ∗ bigSep Finset.univ fun j : Fin 15 => openTok ER (g j))
      ⊢ (bigSep Finset.univ fun j : Fin 15 => iprop(cellInv ER (Rd PB) (κ (g j)) (g j) ∗ openTok ER (g j)) : sProp 𝕄) := by
  rw [bigSep_sep']
  iintro ⟨#HI, Ho⟩
  isplitr
  · iapply (bigSep_intro_persistent (S := (Finset.univ : Finset (Fin 15))) (R := INV PB κ) fun j _ => INV_get PB κ (hg j))
    iexact HI
  · iexact Ho

omit [FloatOps F] in
/-- The device's fifteen cells of one kind, opened. -/
theorem open_cells (κ : GSem nD τ sig → ℕ) (g : Fin 15 → GSem nD τ sig) (hg : ∀ j, g j ∈ barCells ∪ dmaCells) :
    iprop(INV PB κ ∗ (bigSep Finset.univ fun j : Fin 15 => openTok ER (g j)) ∗ bigSep Finset.univ fun j : Fin 15 => semVal (g j) 0)
      ⊢ (|={Set.univ}=> iprop((bigSep Finset.univ fun j : Fin 15 => atPos ER (g j) 0 ∅ 0) ∗ bigSep Finset.univ fun j : Fin 15 => reached ER (g j) 0) : sProp 𝕄) := by
  refine BIBase.Entails.trans ?_ ((cells_open ER (Rd PB) Finset.univ g (fun j => κ (g j)) (fun _ _ => Set.mem_univ _)).trans (fupd_mono (Entails.of_eq (bigSep_sep' Finset.univ (fun j => (atPos ER (g j) 0 ∅ 0 : sProp 𝕄)) (fun j => reached ER (g j) 0)))))
  iintro ⟨HI, Ho, Hv⟩
  isplitr [Hv]
  · iapply (with_inv PB κ g hg)
    isplitl [HI] <;> iassumption
  · iexact Hv

omit [FloatOps F] in
theorem reached_neg (c : Dev nD) : (bigSep Finset.univ fun j : Fin 15 => (reached ER (recvCell c j) 0 : sProp 𝕄))
    ⊢ bigSep Finset.univ fun j : Fin 15 => reached ER (recvCell c (neg j)) 0 :=
  bigSep_intro_persistent fun j _ => bigSep_elim (Finset.mem_univ (neg j))

omit [FloatOps F] in
/-- The region's entry: the device opens its transfer cells. -/
theorem enter (c : Dev nD) :
    iprop(dealt PB c ∗ credits c ∗ levAts L lv ∗ Pipeline.ownSems0 osem c) ⊢ (|={Set.univ}=> startX PB c : sProp 𝕄) := by
  rw [ownSems0_eq]
  unfold dealt share credits startX ghosts sendG sigG recvIn barWait
  iintro ⟨⟨⟨%κ, #HI⟩, Hb, Hs, Hd, Hos, Hor, Hrb, Ha⟩, ⟨Hcb, Hcr⟩, #Hlev, Hvs, Hvr⟩
  imod (open_cells PB κ (sendCell c) (mem_send c)) $$ [Hos Hvs] with ⟨Has, Hrs⟩
  · isplitr; · iexact HI
    isplitl [Hos] <;> iassumption
  imod (open_cells PB κ (recvCell c) (mem_recv c)) $$ [Hor Hvr] with ⟨Har, Hrr⟩
  · isplitr; · iexact HI
    isplitl [Hor] <;> iassumption
  imodintro
  iexists κ
  simp only [bigSep_sep']
  isplitr; · iexact HI
  isplitl [Hs Hrs Hd Har Hcr Has]
  · isplitl [Hs Hrs Hd]
    · isplitl [Hs]; · iexact Hs
      isplitl [Hrs]; · iexact Hrs
      iexact Hd
    isplitl [Har Hcr]
    · isplitl [Har]; · iexact Har
      iexact Hcr
    iexact Has
  isplitl [Hb Hrr Hrb]
  · isplitl [Hb]; · iexact Hb
    isplitl [Hrr]; · iapply (reached_neg (F := F) c) $$ Hrr
    iexact Hrb
  isplitr; · iexact Hlev
  isplitl [Hcb]; · iexact Hcb
  iexact Ha

omit [FloatOps F] in
theorem sig_join (c : Dev nD) : iprop(bigSep Finset.univ (sigG (F := F) c) ∗ bigSep Finset.univ fun j : Fin 15 => iprop(∃ f, pts (F := F) c (blk (peer j c)) fullShare f))
    ⊢ (bigSep Finset.univ (sigIn c) : sProp 𝕄) := by
  rw [← bigSep_sep']
  have e0 : ∀ j : Fin 15, iprop(sigG (F := F) c j ∗ ∃ f, pts (F := F) c (blk (peer j c)) fullShare f) ⊢ (sigIn c j : sProp 𝕄) := by
    intro j
    unfold sigG sigIn
    iintro ⟨⟨H1, H2, H3⟩, H4⟩
    isplitl [H1]; · iexact H1
    isplitl [H4]; · iexact H4
    isplitl [H2] <;> iassumption
  exact bigSep_mono fun j _ => e0 j

omit [FloatOps F] in
/-- The invariant at the first grid point: the exchange buffer is cut into the device's and the peers' blocks. -/
theorem start_in (c : Dev nD) (f : S16x34x64.Idx → Elt F .f32) : iprop(startX PB c ∗ tabPts c ∗ pts c Finset.univ fullShare f) ⊢ Φstart PB c := by
  unfold startX Φstart
  iintro ⟨⟨%κ, HI, HG, HS, HB⟩, Ht, HP⟩
  ihave HP' := (whole_split c f) $$ HP
  icases HP' with ⟨Hown, Hoth⟩
  iexists κ
  isplitl [HI]; · iexact HI
  isplitl [HG]; · iexact HG
  isplitl [HS Hoth]
  · iapply (sig_join (F := F) c)
    isplitl [HS] <;> iassumption
  isplitl [HB]; · iexact HB
  isplitl [Hown]; · iexact Hown
  iexact Ht
end Enter

variable (m : (ℓ : Loc nD τ sig) → Buf (Elt F) ℓ) (ρ : Dev nD → PrngReg)

/-! ## The region -/

theorem share_eq (c : Dev nD) (w : Fin (dcfg (F := F) c).W) : (dats m 0 c).share w = fullShare := by unfold Dat.share; split <;> rfl

omit [FloatOps F] in
theorem prefHeld_eq (c : Dev nD) : (Pipeline.prefHeld pre0 c (fun _ => fullShare) (tab c) : sProp 𝕄) = tabPts c := by
  unfold Pipeline.prefHeld
  rw [bigSep_univ_eq_bigSepL [(0 : Fin 1)] (by decide) (by decide)]; rfl

abbrev aD (c : Dev nD) (p : Fin 1) : (pcfgs (F := F) p).Adm := adm c

theorem phinj : Function.Injective (Pipeline.PerCore.cellOf (nD := nD) (τ := τ) (Pipeline.pinD (pcfgs (F := F)) aD)) :=
  Pipeline.PerCore.cellOf_injective _
    (fun _ p => by obtain rfl := Subsingleton.elim p 0; exact (by decide : Pipeline.SpecSemsDistinct spec0))
    (fun _ p p' h => absurd (Subsingleton.elim p p') h)

/-- What bypasses the region: the buffers that are neither a window's array nor the table. -/
abbrev restZ (c : Dev nD) : sProp 𝕄 := Pipeline.unscopedRestP pre0 spec0 c (fun b => V1 m c b)
/-- What rides along the host operations. -/
def E0 (c : Dev nD) : sProp 𝕄 := iprop(dealt (PB m) c ∗ credits c ∗ owes (c : Thread nD τ) (O₀ c) ∅)
/-- What the run ends with. -/
def endT (c : Dev nD) : sProp 𝕄 :=
  iprop((dats m 0 c).arrays ((dats m 0 c).arrAt · (dcfg (F := F) c).N) ∗ semVal (barCell c) 0 ∗ restZ m c)

theorem waits (c : Dev nD) : (levAts L lv : sProp 𝕄) ⊢ Pipeline.PerCore.cellsWaits (Pipeline.pinD (pcfgs (F := F)) aD) (dats m) () 0 c := by
  have hs : ∀ (w : Fin 4) (s : Fin (spec0 w).nbuf) (j : Fin 15), (spec0 w).sem s ≠ recvS j := by decide
  refine Pipeline.PerCore.cellsWaits_intro _ (dats m) () 0 c fun w s t => ?_
  refine mayWait_stage c _ (hs w s) _ ?_
  have hR : ∀ g u, 0 < dueR c 0 g u → (∃ j, g = recvCell (peer j c) j) ∨ ∃ j, g = barCell (peer j c) := fun g u h => .inl (dueR_pos h)
  rcases t with ⟨_ | _ | _ | _ | n, ht⟩
  · intro g u h
    have h' : 0 < dueB c 0 g u + dueR c 0 g u := h
    rcases Nat.eq_zero_or_pos (dueB c 0 g u) with h0 | h0
    · exact hR g u (by omega)
    · exact .inr (dueB_pos h0)
  · exact hR
  · exact hR
  · exact hR
  · intro g u h
    exact absurd (show 0 < (0 : CellTallies nD τ sig Unit) g u from h) (Nat.lt_irrefl 0)

theorem tab_eq (c : Dev nD) : (fun k => V1 m c (pre0.ref k)) = tab (F := F) c := by
  funext k
  fin_cases k
  exact V1_tab m c

theorem entry (c : Dev nD) :
    iprop(iprop(StableHlo.held (c : Thread nD τ) (Pipeline.ucRefs τ sig) (V1 m c) ∗ E0 m c) ∗ Pipeline.ownSems0 osem c ∗ levAts L lv)
    ⊢ (|={Set.univ}=> iprop((dats m 0 c).arrays ((dats m 0 c).arrAt · 0) ∗ Pipeline.prefHeld pre0 c (fun _ => fullShare) (adm (F := F) c).1
        ∗ (dats m 0 c).owesAt () 0 ∗ startX (PB m) c ∗ restZ m c) : sProp 𝕄) := by
  have hA := Pipeline.PerCore.arrays_of_unscopedBufs (pcfgs (F := F)) aD (dats m) (p := 0) winFacts0 arr_whole0 c (share_eq m c) (fun b => V1 m c b) (fun w => rfl)
  have hh : (StableHlo.held (c : Thread nD τ) (Pipeline.ucRefs τ sig) (V1 m c) : sProp 𝕄) ⊢ iprop((dats m 0 c).arrays ((dats m 0 c).arrAt · 0) ∗ Pipeline.prefHeld pre0 c (fun _ => fullShare) (adm (F := F) c).1 ∗ restZ m c) := by
    rw [← Pipeline.unscopedBufs_held c (V1 m c)]
    refine BIBase.Entails.trans hA ?_
    have e := Pipeline.unscopedRest_split (Val := Elt F) (Ix := Unit) (Name := ℕ) (U := UU) (Lvl := ℕ) preFacts0 c (fun b => V1 m c b)
    rw [tab_eq m c] at e
    exact sep_mono_right (Entails.of_eq e)
  unfold E0
  iintro ⟨⟨Hh, Hd, Hc, HO⟩, Hs, Hl⟩
  imod (enter (PB m) c) $$ [Hd Hc Hs Hl] with HX
  · isplitl [Hd]; · iexact Hd
    isplitl [Hc]; · iexact Hc
    isplitl [Hl] <;> iassumption
  imodintro
  ihave Hh' := hh $$ Hh
  icases Hh' with ⟨Ha, Hp, Hz⟩
  isplitl [Ha]; · iexact Ha
  isplitl [Hp]; · iexact Hp
  isplitl [HO]
  · iapply (owes_out m c 0 (O₀ c) rfl)
    iexists _; iexact HO
  isplitl [HX] <;> iassumption

theorem phi_in (c : Dev nD) : iprop(startX (PB m) c ∗ Pipeline.prefHeld pre0 c (fun _ => fullShare) (adm (F := F) c).1 ∗ Pipeline.scopedRest spec0 c) ⊢ (dats m 0 c).Φ 0 := by
  rw [show (dats m 0 c).Φ 0 = Φstart (PB m) c from rfl, scopedRest0_eq, show (adm (F := F) c).1 = tab c from rfl, prefHeld_eq]
  iintro ⟨HX, Ht, %f, HP⟩
  iapply (start_in (PB m) c f)
  isplitl [HX]; · iexact HX
  isplitl [Ht] <;> iassumption

theorem phi_out (c : Dev nD) : (dats m 0 c).Φ (Fin.last (dcfg (F := F) c).N) ⊢ iprop((semVal (barCell c) 0 : sProp 𝕄) ∗ Pipeline.ownSems0 osem c ∗ Pipeline.scopedRest spec0 c) := by
  rw [show (dats m 0 c).Φ (Fin.last (dcfg (F := F) c).N) = Φend c from rfl, scopedRest0_eq, ownSems0_eq]
  unfold Φend
  iintro ⟨Hs, Hr, Hb, ⟨%f, HP⟩, -⟩
  isplitl [Hb]; · iexact Hb
  isplitl [Hs Hr]
  · isplitl [Hs] <;> iassumption
  iexists f; iexact HP

theorem exit (c : Dev nD) :
    iprop((dats m 0 c).arrays ((dats m 0 c).arrAt · (dcfg (F := F) c).N) ∗ (dats m 0 c).owesAt () (Fin.last (dcfg (F := F) c).N) ∗ semVal (barCell c) 0 ∗ restZ m c)
    ⊢ (|={Set.univ}=> iprop(endT m c ∗ ∃ W, owes (c : Thread nD τ) (0 : CellTallies nD τ sig Unit) W) : sProp 𝕄) := by
  unfold endT
  iintro ⟨Ha, HO, Hb, Hz⟩
  imodintro
  isplitr [HO]
  · isplitl [Ha]; · iexact Ha
    isplitl [Hb] <;> iassumption
  · iapply (owes_in m c _ 0 rfl) $$ HO

/-- The region's record. -/
def R0 : Pipeline.PerCore.RegionSeg (pcfgs (F := F)) aD (dats m) () defs₀ 𝒱₀ L lv 0 where
  win := winFacts0.to₀
  block_pos := block_pos0
  stage_whole := stage_whole0
  K := Fin 15 ⊕ Fin 15
  osem := osem
  ho := ownSemFacts
  hbody c := (body_obligation m c).loose
  hwaits := waits m
  pre c := iprop(StableHlo.held (c : Thread nD τ) (Pipeline.ucRefs τ sig) (V1 m c) ∗ E0 m c)
  post c := iprop(endT m c ∗ ∃ W, owes (c : Thread nD τ) (0 : CellTallies nD τ sig Unit) W)
  X := startX (PB m)
  Y c := semVal (barCell c) 0
  Z c := restZ m c
  hentry := entry m
  hin := phi_in m
  hout := phi_out m
  hexit := exit m

end Cert.KernelIdeal.Ring

end
-- ==== Proof.Run.lean ====
/-
The run of the whole program: on every device the arguments end as they began, the result holds the combined rows, and
every semaphore counter reads zero.
-/
module

public import proofs.«01_k».proof.Proof.Launch
public import Idealize.ShloMosaic.Lib.Pipeline.ValueKit.Geometry

@[expose] public section

set_option maxRecDepth 16384
set_option backward.proofsInPublic true

noncomputable section

namespace Cert.KernelIdeal.Ring

open Cert.KernelIdeal Cert.KernelIdeal.Gen Cert.KernelIdeal.Mesh
open Idealize.ShloMosaic Idealize.ShloMosaic.TcCoe
open Idealize.ShloMosaic.Pipeline (Dat Cfg Window)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local irreducible] peer Mesh.inv neg Mesh.off blk N

variable {F : FTy → Type} [FloatOps F]

local notation "𝕄" => MT nD τ sig Unit (Elt F) ℕ UU ℕ

variable (m : (ℓ : Loc nD τ sig) → Buf (Elt F) ℓ) (ρ : Dev nD → PrngReg)

/-- The result array ends holding the combination of the sixteen devices' blocks. -/
theorem out_final (c : Dev nD) : (dats m 0 c).arrAt (3 : Fin 4) (dcfg (F := F) c).N = combine (PB m) := by
  refine (dats m 0 c).arrAt_eq_of_after_last (3 : Fin 4) t3
    ⟨flush3 c t3, fun t h => Fin.ext (of_decide_eq_true ((flush3 (F := F) c t).symm.trans h)),
      fun a => by fin_cases a <;> exact ⟨rfl, rfl⟩⟩ _ fun j => ?_
  rfl

/-- The first argument is only read. -/
theorem arg0_final (c : Dev nD) : (dats m 0 c).arrAt (0 : Fin 4) (dcfg (F := F) c).N = m ((c : Thread nD τ).loc main_arg0) :=
  ((dats m 0 c).arrAt_in (0 : Fin 4) rfl _).trans (V1_of m c main_arg0 (by decide))

/-- What the certificate reads on one device. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
  ∧ s.mem ((c : Thread nD τ).loc main_v14) = combine (PB m)
  ∧ ∀ sm : SemLoc sig, sm.isScoped .tc = false → s.sem ((c : Thread nD τ), sm) = 0

theorem ends (c : Dev nD) (s' : Phys nD τ sig (Elt F)) :
    iprop(endT m c ∗ SI s') ⊢ (|={Set.univ}=> iprop(⌜Ends m c s'.mem⌝ ∗ SI s') : sProp 𝕄) := by
  have hb : (semVal (barCell c) 0 : sProp 𝕄) ⊢ |={Set.univ}=> (unscopedSems0 c : sProp 𝕄) := by
    rw [unscopedSems0_eq]; exact fupd_intro
  have ha := Pipeline.PerCore.arrays_read (pcfgs (F := F)) aD (dats m) (p := 0) arr_whole0 c (share_eq m c)
    (fun w => (dats m 0 c).arrAt w (dcfg (F := F) c).N) s'
  have hz := pointsTo_read_all (Ix := Unit) (Name := ℕ) (U := UU) (Lvl := ℕ) (((Finset.univ.filter fun b : Ref sig .tc => ¬ b.isScoped) \ Finset.univ.image (Pipeline.arrRef spec0)) \ Finset.univ.image pre0.ref)
    (fun b => (c : Thread nD τ).loc b) (fun b => V1 m c b) s'
  unfold endT restZ Pipeline.unscopedRestP
  iintro ⟨⟨Ha, Hb, Hz⟩, HSI⟩
  ihave H1 := ha $$ [Ha HSI]
  · isplitl [Ha] <;> iassumption
  icases H1 with ⟨%h1, HSI⟩
  ihave H2 := hz $$ [Hz HSI]
  · isplitl [Hz] <;> iassumption
  icases H2 with ⟨%h2, HSI⟩
  imod (Pipeline.unscopedSems0_read hb s') $$ [Hb HSI] with H3
  · isplitl [Hb] <;> iassumption
  icases H3 with ⟨%h3, HSI⟩
  imodintro
  isplitr [HSI]
  · ipureintro
    exact ⟨⟨(h1 0).trans (arg0_final m c), (h2 main_arg1 (by decide)).trans (V1_of m c main_arg1 (by decide)),
      (h2 main_arg2 (by decide)).trans (V1_of m c main_arg2 (by decide))⟩, (h1 3).trans (out_final m c), h3⟩
  · iexact HSI

/-- The initial resources of one device, dealt to all of them. -/
def G0 (c : Dev nD) : sProp 𝕄 := if c = 0 then BI.own (ER uX) else iprop(emp)

theorem start :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G0 c)) ∗ levAts L lv)
    ⊢ (|={Set.univ}=> bigSep Finset.univ fun c : Dev nD => iprop(StableHlo.held (c : Thread nD τ) (Pipeline.ucRefs τ sig) (V0 m c) ∗ E0 m c) : sProp 𝕄) := by
  have h1 : ∀ c : Dev nD, (iprop(unscopedBufs c (fun b => m ((c : Thread nD τ).loc b)) ∗ unscopedSems0 c
          ∗ owes (c : Thread nD τ) (O₀ c) ∅ ∗ Pipeline.launchCred O₀ c ∗ prngReg c (ρ c) ∗ G0 c) : sProp 𝕄)
      ⊢ iprop((StableHlo.held (c : Thread nD τ) (Pipeline.ucRefs τ sig) (V0 m c) ∗ credits c ∗ owes (c : Thread nD τ) (O₀ c) ∅) ∗ semVal (barCell c) 0 ∗ G0 c) := fun c => by
    have hc := credits_of_launch (F := F) c
    rw [unscopedSems0_eq, ← Pipeline.unscopedBufs_held (Ix := Unit) (Name := ℕ) (U := UU) (Lvl := ℕ) c (V0 m c)]
    iintro ⟨Hu, Hs, HO, Hc, -, HG⟩
    isplitl [Hu HO Hc]
    · isplitl [Hu]; · iexact Hu
      isplitl [Hc]; · iapply hc; iexact Hc
      iexact HO
    isplitl [Hs] <;> iassumption
  have h2 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G0 c) : sProp 𝕄)
      ⊢ iprop((bigSep Finset.univ fun c : Dev nD => iprop(StableHlo.held (c : Thread nD τ) (Pipeline.ucRefs τ sig) (V0 m c) ∗ credits c ∗ owes (c : Thread nD τ) (O₀ c) ∅))
        ∗ (bigSep Finset.univ fun c : Dev nD => semVal (barCell c) 0) ∗ bigSep Finset.univ (G0 (F := F))) := by
    rw [← bigSep_sep', ← bigSep_sep']
    exact bigSep_mono fun c _ => h1 c
  have h3 : (bigSep Finset.univ (G0 (F := F)) : sProp 𝕄) ⊢ BI.own (ER uX) :=
    BIBase.Entails.trans (bigSep_elim (Finset.mem_univ 0)) (Entails.of_eq (if_pos rfl))
  have h4 : ∀ c : Dev nD, (iprop((StableHlo.held (c : Thread nD τ) (Pipeline.ucRefs τ sig) (V0 m c) ∗ credits c ∗ owes (c : Thread nD τ) (O₀ c) ∅) ∗ dealt (PB m) c) : sProp 𝕄)
      ⊢ iprop(StableHlo.held (c : Thread nD τ) (Pipeline.ucRefs τ sig) (V0 m c) ∗ E0 m c) := fun c => by
    unfold E0
    iintro ⟨⟨Hh, Hc, HO⟩, Hd⟩
    isplitl [Hh]; · iexact Hh
    isplitl [Hd]; · iexact Hd
    isplitl [Hc] <;> iassumption
  have h5 : (iprop((bigSep Finset.univ fun c : Dev nD => iprop(StableHlo.held (c : Thread nD τ) (Pipeline.ucRefs τ sig) (V0 m c) ∗ credits c ∗ owes (c : Thread nD τ) (O₀ c) ∅))
        ∗ bigSep Finset.univ (dealt (PB m))) : sProp 𝕄)
      ⊢ bigSep Finset.univ fun c : Dev nD => iprop(StableHlo.held (c : Thread nD τ) (Pipeline.ucRefs τ sig) (V0 m c) ∗ E0 m c) := by
    rw [← bigSep_sep']
    exact bigSep_mono fun c _ => h4 c
  iintro ⟨H, -⟩
  ihave H' := h2 $$ H
  icases H' with ⟨Ha, Hs, HG⟩
  ihave HX := h3 $$ HG
  imod (fund (PB m)) $$ [Hs HX] with Hd
  · isplitl [Hs] <;> iassumption
  imodintro
  iapply h5
  isplitl [Ha] <;> iassumption

/-- The two segments of @main: its host operations, then the region. -/
def segs (c : Dev nD) : List (Pipeline.PerCore.Seg (pcfgs (F := F)) aD (dats m) () defs₀ 𝒱₀ L lv) :=
  [.host (seg0 m 𝒱₀ L lv (fun _ => E0 m) c), .region (R0 m)]

theorem starts : (ownU (initOf (Pipeline.PerCore.cells (Pipeline.pinD (pcfgs (F := F)) aD) phinj) (Pipeline.PerCore.launchToks (Pipeline.pinD (pcfgs (F := F)) aD) phinj), uX) : sProp 𝕄)
    ⊢ |={Set.univ}=> iprop(BI.own (EP (initOf (Pipeline.PerCore.cells (Pipeline.pinD (pcfgs (F := F)) aD) phinj) (Pipeline.PerCore.launchToks (Pipeline.pinD (pcfgs (F := F)) aD) phinj))) ∗ bigSep Finset.univ (G0 (F := F))) := by
  have h0 : (BI.own (ER uX) : sProp 𝕄) ⊢ bigSep Finset.univ (G0 (F := F)) := by
    rw [← Finset.insert_erase (Finset.mem_univ (0 : Dev nD)), bigSep_insert (Finset.notMem_erase _ _)]
    have e1 : (bigSep (Finset.univ.erase (0 : Dev nD)) (G0 (F := F)) : sProp 𝕄) = bigSep (Finset.univ.erase (0 : Dev nD)) (fun _ => (BI.emp : sProp 𝕄)) :=
      bigSep_congr fun c hc => if_neg (Finset.ne_of_mem_erase hc)
    have e : (bigSep (Finset.univ.erase (0 : Dev nD)) (G0 (F := F)) : sProp 𝕄) = iprop(emp) := e1.trans (BI.bigSep_emp_const _)
    rw [e, show (G0 (F := F) 0 : sProp 𝕄) = BI.own (ER uX) from if_pos rfl]
    have e' : (BI.own (ER uX) : sProp 𝕄) ⊢ iprop(BI.own (ER uX) ∗ emp) := by
      iintro H
      isplitl [H]; · iexact H
      iempintro
    exact e'
  iintro Hu
  ihave H := (ownU_pair _ _) $$ Hu
  icases H with ⟨HP, HX⟩
  imodintro
  isplitl [HP]; · iexact HP
  iapply h0; iexact HX

set_option backward.isDefEq.respectTransparency.types false in
/-- Every weakly fair execution ends, nothing faulting, with the arguments unchanged, the result on every device the
    combination of the sixteen blocks, and every semaphore counter zero. -/
theorem run_main : θ_run (defs (F := F)) (onTc main) ⟨m, fun _ => 0, ρ⟩ (fun r => (∀ c : Dev nD,
      (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.mem ((c : Thread nD τ).loc main_v14) = combine (PB m))
    ∧ r.2.sem = fun _ => 0) := by
  refine Pipeline.PerCore.θ_run_regions_kit_sems (pcfgs (F := F)) aD (dats m) () phinj EP defs₀ 𝒱₀ L lv m ρ main (segs m)
    (fun c Q => by
      rewrite [main_chain c, Pipeline.PerCore.Seg.run_eq_chain,
        show (segs m c).map Pipeline.PerCore.Seg.prog = [
          StableHlo.seq (hostOps0 c),
          Prog.lift (.customCall (Pipeline.entry 0) ()) ] from rfl]
      dsimp (config := { failIfUnchanged := false }) only
      exact BIBase.Entails.rfl)
    (fun c => by simp only [segs, Pipeline.PerCore.Seg.pipes_host, Pipeline.PerCore.Seg.pipes_region, Pipeline.PerCore.Seg.pipes_nil]; decide)
    O₀ (fun g h => L_of_ne g h) G0 _ starts
    (fun c => iprop(StableHlo.held (c : Thread nD τ) (Pipeline.ucRefs τ sig) (V0 m c) ∗ E0 m c)) (endT m)
    (fun c => ⟨BIBase.Entails.rfl, BIBase.Entails.rfl, BIBase.Entails.rfl⟩)
    (start m ρ) (Ends m) (ends m)
    (fun s h hs => ⟨fun c => ⟨(h c).1, (h c).2.1⟩, sem_eq_zero hs fun c => (h c).2.2⟩)

end Cert.KernelIdeal.Ring

end
-- ==== Proof.Frames.lean ====
/-
The three frames: the kernel as printed, the kernel at extended reals, and the reference.
-/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

set_option maxRecDepth 16384
set_option backward.proofsInPublic true

noncomputable section

namespace Cert.Proof

open Idealize.ShloMosaic Idealize.SL.Sem

/-- The two printed texts of the kernel's body are one. -/
theorem same_defs₀ : @Cert.Kernel.defs₀ Bits _ _ = @Cert.KernelIdeal.defs₀ Bits _ _ := by
  unfold Cert.Kernel.defs₀ Cert.KernelIdeal.defs₀
  refine congrArg _ (funext fun l => funext fun x => ?_)
  match l, x with
  | 0, (t, s) => rfl

theorem same_defs : @Cert.Kernel.defs Bits _ _ = @Cert.KernelIdeal.defs Bits _ _ :=
  congrArg (Pipeline.defs (Cert.KernelIdeal.pcfgs (F := Bits))) same_defs₀

set_option maxHeartbeats 2000000 in
theorem same_main : @Cert.Kernel.main Bits _ _ = @Cert.KernelIdeal.main Bits _ _ := rfl

/-- The kernel as printed runs, leaves its arguments and ends with every counter zero. -/
theorem frame_kernel : Cert.quiescent_Kernel := fun m ρ _ => by
  have h := (θ_run (Cert.KernelIdeal.defs (F := Bits)) _ _).mono (fun r h => (⟨fun c => (h.1 c).1, h.2⟩ : (∀ c : Dev Cert.KernelIdeal.nD, _) ∧ _))
    (Cert.KernelIdeal.Ring.run_main (F := Bits) m ρ)
  rw [← same_defs, ← same_main] at h
  exact h

/-- The kernel at extended reals runs, leaves its arguments and ends with every counter zero. -/
theorem frame_ideal : Cert.quiescent_KernelIdeal := fun m ρ _ =>
  (θ_run Cert.KernelIdeal.defs _ _).mono (fun _ h => ⟨fun c => (h.1 c).1, h.2⟩) (Cert.KernelIdeal.Ring.run_main (F := Ideal) m ρ)

/-- The reference runs, leaves its arguments and ends with every counter zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Pay.lean ====
/-
What the kernel's payloads compute over the extended reals, read at an index: the scores of a row, their maximum, the
sum of their exponentials and the weighted sum of the values.
-/
module

public import proofs.«01_k».proof.KernelIdeal
public import proofs.«01_k».proof.Proof.Gen.KernelIdeal
public import proofs.«01_k».proof.Proof.Gen.KernelIdeal.Skeleton
public import proofs.«01_k».proof.Proof.Combine
public import Idealize.ShloMosaic.Lib.Pointwise
public import Idealize.ShloMosaic.Lib.IdealHost

@[expose] public section

set_option maxRecDepth 16384

noncomputable section

namespace Cert.KernelIdeal.Ring

open Cert.KernelIdeal Cert.KernelIdeal.Gen
open Idealize.ShloMosaic Idealize.ShloMosaic.TcCoe Idealize.SL.Sem

/-- The mask is one on the diagonal and zero off it. -/
theorem pay21_at (r s : Fin 8) : (k0_pay21 (F := Ideal) (ix2 r s) : EReal) = if r = s then 1 else 0 := by
  pointwise [k0_pay21]
  show (((BitVec.setWidth 32 (IntOp.cmpi CmpIPredicate.eq (BitVec.ofNat 32 r.val) (BitVec.ofNat 32 s.val))).toInt : ℝ)
    : EReal) = _
  have h : (BitVec.setWidth 32 (IntOp.cmpi CmpIPredicate.eq (BitVec.ofNat 32 r.val) (BitVec.ofNat 32 s.val))).toInt
      = if r = s then 1 else 0 := by
    revert r s
    decide
  rw [h]
  split <;> simp

/-- The scale of the scores, one eighth. -/
abbrev eighth : EReal := Ideal.ofBits FTy.f32 0x3E000000#32

/-- Minus infinity's bits. -/
theorem bits_bot : Ideal.ofBits FTy.f32 0xFF800000#32 = (⊥ : EReal) := by
  simp [Ideal.ofBits, Ideal.ieee]

/-- A sum over 512 places that vanishes off the tile `r` is the sum over that tile. -/
theorem sum_tile (f : Fin 512 → EReal) (r : Fin 8) (g : Fin 64 → EReal)
    (h0 : ∀ (s : Fin 8) (d : Fin 64), s ≠ r → f ⟨s.val * 64 + d.val, by omega⟩ = 0)
    (h1 : ∀ d : Fin 64, f ⟨r.val * 64 + d.val, by omega⟩ = g d) : ∑ k, f k = ∑ d, g d := by
  rw [Fin.sum_univ_tiles 8 64 rfl, Finset.sum_eq_single r]
  · exact Finset.sum_congr rfl fun d _ => h1 d
  · exact fun s _ hs => Finset.sum_eq_zero fun d _ => h0 s d hs
  · exact fun h => absurd (Finset.mem_univ r) h

/-- The score of row `r` against key `n`. -/
theorem pay22_at (q : FVec Ideal S4x1x2x64 .bf16) (k : FVec Ideal S4x2x64x1024 .bf16) (r : Fin 8) (n : Fin 1024) :
    (k0_pay22 (F := Ideal) q k (ix2 r n) : EReal)
      = (∑ d : Fin 64, (q (ix4 ⟨r.val / 2, by omega⟩ 0 ⟨r.val % 2, by omega⟩ d) : EReal)
          * k (ix4 ⟨r.val / 2, by omega⟩ ⟨r.val % 2, by omega⟩ d n)) * eighth := by
  pointwise [k0_pay22]
  refine congrArg (· * eighth) ?_
  have hm : ∀ (s : Fin 8) (d : Fin 64), (s.val * 64 + d.val) / 64 = s.val := fun s d => by omega
  refine sum_tile _ r _ (fun s d hs => ?_) (fun d => ?_)
  · have h1 : (⟨(s.val * 64 + d.val) / 64, by omega⟩ : Fin 8) = s := Fin.ext (hm s d)
    have h2 : (k0_pay21 (F := Ideal) (ix2 r ⟨(s.val * 64 + d.val) / 64, by omega⟩) : EReal) = 0 := by
      rw [h1, pay21_at, if_neg fun h => hs h.symm]
    show _ * (k0_pay21 (F := Ideal) (ix2 r ⟨(s.val * 64 + d.val) / 64, by omega⟩) : EReal) * _ = 0
    rw [h2, mul_zero, zero_mul]
  · have h1 : (⟨(r.val * 64 + d.val) / 64, by omega⟩ : Fin 8) = r := Fin.ext (hm r d)
    have h2 : (k0_pay21 (F := Ideal) (ix2 r ⟨(r.val * 64 + d.val) / 64, by omega⟩) : EReal) = 1 := by
      rw [h1, pay21_at, if_pos rfl]
    show _ * (k0_pay21 (F := Ideal) (ix2 r ⟨(r.val * 64 + d.val) / 64, by omega⟩) : EReal) * _ = _
    rw [h2, mul_one]
    refine congrArg₂ (· * ·) (congrArg q ((ix4_inj ..).2 ⟨rfl, rfl, rfl, ?_⟩)) (congrArg k ((ix4_inj ..).2 ⟨?_, ?_, ?_, rfl⟩))
    all_goals
      apply Fin.ext
      dsimp only
      omega

/-- The maximum of the scores of row `r`. -/
theorem pay23_at (q : FVec Ideal S4x1x2x64 .bf16) (k : FVec Ideal S4x2x64x1024 .bf16) (r : Fin 8) :
    (k0_pay23 (F := Ideal) q k (ix2 r 0) : EReal)
      = Finset.fold max (⊥ : EReal) (fun n => (k0_pay22 (F := Ideal) q k (ix2 r n) : EReal)) Finset.univ := by
  pointwise [k0_pay23]
  show Finset.fold max (Ideal.ofBits FTy.f32 0xFF800000#32) _ _ = _
  rw [bits_bot]

/-- The sum of the exponentials of the scores of row `r`, each less the maximum. -/
theorem pay25_at (q : FVec Ideal S4x1x2x64 .bf16) (k : FVec Ideal S4x2x64x1024 .bf16) (r : Fin 8) :
    (k0_pay25 (F := Ideal) q k (ix2 r 0) : EReal)
      = ∑ n : Fin 1024, Ideal.exp ((k0_pay22 (F := Ideal) q k (ix2 r n) : EReal) - k0_pay23 (F := Ideal) q k (ix2 r 0)) := by
  pointwise [k0_pay25, k0_pay24]

/-- The values weighted by those exponentials, summed over the keys. -/
theorem pay26_at (q : FVec Ideal S4x1x2x64 .bf16) (k v : FVec Ideal S4x2x64x1024 .bf16) (r : Fin 8) (d : Fin 64) :
    (k0_pay26 (F := Ideal) q k v (ix2 r d) : EReal)
      = ∑ n : Fin 1024, Ideal.exp ((k0_pay22 (F := Ideal) q k (ix2 r n) : EReal) - k0_pay23 (F := Ideal) q k (ix2 r 0))
          * v (ix4 ⟨r.val / 2, by omega⟩ ⟨r.val % 2, by omega⟩ d n) := by
  pointwise [k0_pay26, k0_pay24]
  rw [Finset.sum_eq_single r]
  · rw [pay21_at, if_pos rfl, mul_one]
    refine Finset.sum_congr rfl fun n _ => ?_
    have h3 : (⟨(r.val * 64 + d.val) / 128, by omega⟩ : Fin 4) = ⟨r.val / 2, by omega⟩ :=
      Fin.ext (by show (r.val * 64 + d.val) / 128 = r.val / 2; omega)
    have h4 : (⟨(r.val * 64 + d.val) / 64 % 2, by omega⟩ : Fin 2) = ⟨r.val % 2, by omega⟩ :=
      Fin.ext (by show (r.val * 64 + d.val) / 64 % 2 = r.val % 2; omega)
    rw [h3, h4]
  · intro s _ hs
    rw [pay21_at, if_neg (fun h => hs h.symm), mul_zero]
  · intro h
    exact absurd (Finset.mem_univ r) h

/-- Two partial results weighed by how far their maxima fall short of the larger one, over the sums weighed alike. -/
def blend (o0 o1 m0 m1 l0 l1 : EReal) : EReal :=
  Ideal.div (o0 * Ideal.exp (m0 - max m0 m1) + o1 * Ideal.exp (m1 - max m0 m1))
    (l0 * Ideal.exp (m0 - max m0 m1) + l1 * Ideal.exp (m1 - max m0 m1))

/-- The combination of the two halves at an index: device `h / 2` of each half holds head `h`, and batch `b` is its
    row `2 b + h % 2`. -/
theorem combine_at (g : FVec Ideal S16x34x64 .f32) (b : Fin 16) (h : Fin 16) (d : Fin 64) :
    (combine (F := Ideal) g (ix4 b 0 h d) : EReal)
      = blend (g (ix3 ⟨h.val / 2, by omega⟩ ⟨b.val * 2 + h.val % 2, by omega⟩ d))
          (g (ix3 ⟨8 + h.val / 2, by omega⟩ ⟨b.val * 2 + h.val % 2, by omega⟩ d))
          (g (ix3 ⟨h.val / 2, by omega⟩ 32 ⟨b.val * 2 + h.val % 2, by omega⟩))
          (g (ix3 ⟨8 + h.val / 2, by omega⟩ 32 ⟨b.val * 2 + h.val % 2, by omega⟩))
          (g (ix3 ⟨h.val / 2, by omega⟩ 32 ⟨32 + (b.val * 2 + h.val % 2), by omega⟩))
          (g (ix3 ⟨8 + h.val / 2, by omega⟩ 32 ⟨32 + (b.val * 2 + h.val % 2), by omega⟩)) := by
  pointwise [combine, k0_pay10, k0_pay20, k0_pay12, k0_pay15, k0_pay17, k0_pay18, k0_pay19, k0_pay16, k0_pay14,
    k0_pay13, k0_pay11]
  rfl

end Cert.KernelIdeal.Ring

end
-- ==== Proof.Blocks.lean ====
/-
The blocks a grid point reads, at an index, in terms of the arrays the program was given.
-/
module

public import proofs.«01_k».proof.Proof.Vals
public import proofs.«01_k».proof.Proof.Pay
public import Idealize.ShloMosaic.Lib.Pointwise

@[expose] public section

set_option maxRecDepth 16384

noncomputable section

namespace Cert.KernelIdeal.Ring

open Cert.KernelIdeal Cert.KernelIdeal.Gen Cert.KernelIdeal.Mesh
open Idealize.ShloMosaic Idealize.ShloMosaic.TcCoe Idealize.SL.Sem

variable {F : FTy → Type} [FloatOps F]
variable (m : (ℓ : Loc nD τ sig) → Buf (Elt F) ℓ)

/-- A grid point's coordinate is its number. -/
theorem coord_nat (t : Fin grid0.N) : (BitVec.ofNat 32 ((grid0.coords t) 0).val).toNat = t.val := by
  revert t
  decide

/-- Two indices of rank four are equal when their four coordinates are. -/
theorem idx4_ext {z : Fin 4 → ℕ} (i j : (⟨4, z⟩ : Shape).Idx) (h0 : (i 0).val = (j 0).val) (h1 : (i 1).val = (j 1).val)
    (h2 : (i 2).val = (j 2).val) (h3 : (i 3).val = (j 3).val) : i = j := by
  funext a
  apply Fin.ext
  match a with
  | ⟨0, _⟩ => exact h0
  | ⟨1, _⟩ => exact h1
  | ⟨2, _⟩ => exact h2
  | ⟨3, _⟩ => exact h3

/-- Where the key block's elements lie in the transposed keys. -/
theorem k_emb (c : Dev nD) (t : Fin 4) (b : Fin 4) (j : Fin 2) (d : Fin 64) (n : Fin 1024) :
    ((win0 (F := F) (adm c) 1).blk (gp t.val t.isLt)).view.emb (ix4 b j d n)
      = (ix4 (⟨4 * t.val + b.val, by omega⟩ : Fin 16) (⟨2 * (c.val % 8) + j.val, by omega⟩ : Fin 16) d n : S16x16x64x1024.Idx) := by
  have hc := coord_nat (gp t.val t.isLt)
  have ht := tw_nat c
  refine idx4_ext _ _ ?_ ?_ ?_ ?_
  · refine (Pipeline.Window.rect_emb_val (win0 (F := F) (adm c) 1) (gp t.val t.isLt) (ix4 b j d n) 0).trans ?_
    show (BitVec.ofNat 32 ((grid0.coords (gp t.val t.isLt)) 0).val).toNat * 4 + b.val = 4 * t.val + b.val
    rw [hc]
    show t.val * 4 + b.val = _
    omega
  · refine (Pipeline.Window.rect_emb_val (win0 (F := F) (adm c) 1) (gp t.val t.isLt) (ix4 b j d n) 1).trans ?_
    show (tw c).toNat * 2 + j.val = 2 * (c.val % 8) + j.val
    omega
  · refine (Pipeline.Window.rect_emb_val (win0 (F := F) (adm c) 1) (gp t.val t.isLt) (ix4 b j d n) 2).trans ?_
    show 0 * 64 + d.val = d.val
    omega
  · refine (Pipeline.Window.rect_emb_val (win0 (F := F) (adm c) 1) (gp t.val t.isLt) (ix4 b j d n) 3).trans ?_
    show 0 * 1024 + n.val = n.val
    omega

/-- Where the value block's elements lie in the transposed values. -/
theorem v_emb (c : Dev nD) (t : Fin 4) (b : Fin 4) (j : Fin 2) (d : Fin 64) (n : Fin 1024) :
    ((win0 (F := F) (adm c) 2).blk (gp t.val t.isLt)).view.emb (ix4 b j d n)
      = (ix4 (⟨4 * t.val + b.val, by omega⟩ : Fin 16) (⟨2 * (c.val % 8) + j.val, by omega⟩ : Fin 16) d n : S16x16x64x1024.Idx) := by
  have hc := coord_nat (gp t.val t.isLt)
  have ht := tw_nat c
  refine idx4_ext _ _ ?_ ?_ ?_ ?_
  · refine (Pipeline.Window.rect_emb_val (win0 (F := F) (adm c) 2) (gp t.val t.isLt) (ix4 b j d n) 0).trans ?_
    show (BitVec.ofNat 32 ((grid0.coords (gp t.val t.isLt)) 0).val).toNat * 4 + b.val = 4 * t.val + b.val
    rw [hc]
    show t.val * 4 + b.val = _
    omega
  · refine (Pipeline.Window.rect_emb_val (win0 (F := F) (adm c) 2) (gp t.val t.isLt) (ix4 b j d n) 1).trans ?_
    show (tw c).toNat * 2 + j.val = 2 * (c.val % 8) + j.val
    omega
  · refine (Pipeline.Window.rect_emb_val (win0 (F := F) (adm c) 2) (gp t.val t.isLt) (ix4 b j d n) 2).trans ?_
    show 0 * 64 + d.val = d.val
    omega
  · refine (Pipeline.Window.rect_emb_val (win0 (F := F) (adm c) 2) (gp t.val t.isLt) (ix4 b j d n) 3).trans ?_
    show 0 * 1024 + n.val = n.val
    omega

/-- The key block: batches from `4 t`, heads from `2 (c % 8)`. -/
theorem kS_at (c : Dev nD) (t : Fin 4) (b : Fin 4) (j : Fin 2) (d : Fin 64) (n : Fin 1024) :
    kS m c (gp t.val t.isLt) (ix4 b j d n)
      = m ((c : Thread nD τ).loc main_arg1) (ix4 (⟨4 * t.val + b.val, by omega⟩ : Fin 16) n (⟨2 * (c.val % 8) + j.val, by omega⟩ : Fin 16) d) := by
  show V1 m c main_v12 (((win0 (F := F) (adm c) 1).blk (gp t.val t.isLt)).view.emb (ix4 b j d n)) = _
  rw [V1_keys, k_emb]
  refine congrArg (m ((c : Thread nD τ).loc main_arg1)) (idx4_ext _ _ ?_ ?_ ?_ ?_) <;> rfl

/-- The value block: batches from `4 t`, heads from `2 (c % 8)`. -/
theorem vS_at (c : Dev nD) (t : Fin 4) (b : Fin 4) (j : Fin 2) (d : Fin 64) (n : Fin 1024) :
    vS m c (gp t.val t.isLt) (ix4 b j d n)
      = m ((c : Thread nD τ).loc main_arg2) (ix4 (⟨4 * t.val + b.val, by omega⟩ : Fin 16) n (⟨2 * (c.val % 8) + j.val, by omega⟩ : Fin 16) d) := by
  show V1 m c main_v13 (((win0 (F := F) (adm c) 2).blk (gp t.val t.isLt)).view.emb (ix4 b j d n)) = _
  rw [V1_values, v_emb]
  refine congrArg (m ((c : Thread nD τ).loc main_arg2)) (idx4_ext _ _ ?_ ?_ ?_ ?_) <;> rfl

/-- The query block: batches from `4 t`. -/
theorem qS_at (c : Dev nD) (t : Fin 4) (b : Fin 4) (h : Fin 16) (d : Fin 64) :
    qS m c (gp t.val t.isLt) (ix4 b 0 h d)
      = m ((c : Thread nD τ).loc main_arg0) (ix4 (⟨4 * t.val + b.val, by omega⟩ : Fin 16) 0 h d) := by
  have hc := coord_nat (gp t.val t.isLt)
  show V1 m c main_arg0 (((win0 (F := F) (adm c) 0).blk (gp t.val t.isLt)).view.emb (ix4 b 0 h d)) = _
  rw [V1_queries]
  refine congrArg (m ((c : Thread nD τ).loc main_arg0)) (idx4_ext _ _ ?_ ?_ ?_ ?_)
  · refine (Pipeline.Window.rect_emb_val (win0 (F := F) (adm c) 0) (gp t.val t.isLt) (ix4 b 0 h d) 0).trans ?_
    show (BitVec.ofNat 32 ((grid0.coords (gp t.val t.isLt)) 0).val).toNat * 4 + b.val = 4 * t.val + b.val
    rw [hc]
    show t.val * 4 + b.val = _
    omega
  · refine (Pipeline.Window.rect_emb_val (win0 (F := F) (adm c) 0) (gp t.val t.isLt) (ix4 b 0 h d) 1).trans ?_
    rfl
  · refine (Pipeline.Window.rect_emb_val (win0 (F := F) (adm c) 0) (gp t.val t.isLt) (ix4 b 0 h d) 2).trans ?_
    show 0 * 16 + h.val = h.val
    omega
  · refine (Pipeline.Window.rect_emb_val (win0 (F := F) (adm c) 0) (gp t.val t.isLt) (ix4 b 0 h d) 3).trans ?_
    show 0 * 64 + d.val = d.val
    omega

/-- The two heads the table selects. -/
theorem qsel_at (c : Dev nD) (X : S4x1x16x64.Idx → Elt F .bf16) (b : Fin 4) (j : Fin 2) (d : Fin 64) :
    qsel c X (ix4 b 0 j d) = X (ix4 b 0 (⟨2 * (c.val % 8) + j.val, by omega⟩ : Fin 16) d) := by
  refine congrArg X (idx4_ext _ _ ?_ ?_ ?_ ?_)
  · show 0 + 1 * b.val = b.val
    omega
  · rfl
  · show (k0_off1 (tw c)) 2 + 1 * j.val = 2 * (c.val % 8) + j.val
    have h : (k0_off1 (tw c)) 2 = 2 * (c.val % 8) := by
      revert c
      decide
    omega
  · show 0 + 1 * d.val = d.val
    omega

/-- The queries a grid point uses. -/
theorem q_at (c : Dev nD) (t : Fin 4) (b : Fin 4) (j : Fin 2) (d : Fin 64) :
    qsel c (qS m c (gp t.val t.isLt)) (ix4 b 0 j d)
      = m ((c : Thread nD τ).loc main_arg0) (ix4 (⟨4 * t.val + b.val, by omega⟩ : Fin 16) 0
          (⟨2 * (c.val % 8) + j.val, by omega⟩ : Fin 16) d) := by
  rw [qsel_at, qS_at]

end Cert.KernelIdeal.Ring

end
-- ==== Proof.Softmax.lean ====
/-
Softmax-weighted sums of two halves, each taken with its own maximum and blended afterwards, are the softmax-weighted sum
of the whole: over the extended reals, the scores real and the values anything.
-/
module

public import proofs.«01_k».proof.Proof.Pay

@[expose] public section

set_option maxRecDepth 16384

noncomputable section

namespace Cert.KernelIdeal.Ring

open Idealize.ShloMosaic Idealize.SL.Sem

/-- The largest of finitely many values, minus infinity for none. -/
def top {n : Nat} (f : Fin n → EReal) : EReal := Finset.fold max ⊥ f Finset.univ

theorem top_eq_sup {n : Nat} (f : Fin n → EReal) : top f = Finset.univ.sup f := rfl

/-- The largest of a nonempty list of reals is a real. -/
theorem top_real {n : Nat} [NeZero n] (f : Fin n → ℝ) : ∃ a : ℝ, top (fun i => (f i : EReal)) = a := by
  obtain ⟨i, _, hi⟩ := Finset.exists_mem_eq_sup (Finset.univ : Finset (Fin n)) ⟨0, Finset.mem_univ _⟩
    (fun i => (f i : EReal))
  exact ⟨f i, hi⟩

/-- The largest of a list is the larger of its two halves' largest. -/
theorem top_halves (f : Fin 2048 → EReal) :
    top f = max (top fun n : Fin 1024 => f ⟨n.val, by omega⟩) (top fun n : Fin 1024 => f ⟨1024 + n.val, by omega⟩) := by
  rw [top_eq_sup, top_eq_sup, top_eq_sup]
  apply le_antisymm
  · refine Finset.sup_le fun i _ => ?_
    by_cases h : i.val < 1024
    · refine le_trans ?_ (le_max_left _ _)
      exact Finset.le_sup (f := fun n : Fin 1024 => f ⟨n.val, by omega⟩) (Finset.mem_univ ⟨i.val, h⟩)
    · refine le_trans (le_of_eq ?_) (le_trans (Finset.le_sup (f := fun n : Fin 1024 => f ⟨1024 + n.val, by omega⟩)
        (Finset.mem_univ ⟨i.val - 1024, by omega⟩)) (le_max_right _ _))
      exact congrArg f (Fin.ext (by show i.val = 1024 + (i.val - 1024); omega))
  · refine max_le (Finset.sup_le fun i _ => ?_) (Finset.sup_le fun i _ => ?_)
    · exact Finset.le_sup (f := f) (Finset.mem_univ _)
    · exact Finset.le_sup (f := f) (Finset.mem_univ _)

/-- A sum over a list is the sum over its two halves. -/
theorem sum_halves (f : Fin 2048 → EReal) :
    ∑ n, f n = (∑ n : Fin 1024, f ⟨n.val, by omega⟩) + ∑ n : Fin 1024, f ⟨1024 + n.val, by omega⟩ := by
  rw [Fin.sum_univ_tiles 2 1024 rfl, Fin.sum_univ_two]
  refine congrArg₂ (· + ·) (Finset.sum_congr rfl fun n _ => congrArg f (Fin.ext ?_))
    (Finset.sum_congr rfl fun n _ => congrArg f (Fin.ext ?_))
  · show 0 * 1024 + n.val = n.val
    omega
  · show 1 * 1024 + n.val = 1024 + n.val
    omega

/-- A nonnegative real factor goes inside a sum of extended reals. -/
theorem sum_mul_real {n : Nat} (f : Fin n → EReal) (c : ℝ) (hc : 0 ≤ c) :
    (∑ i, f i) * (c : EReal) = ∑ i, f i * (c : EReal) := by
  have h : ∀ s : Finset (Fin n), (∑ i ∈ s, f i) * (c : EReal) = ∑ i ∈ s, f i * (c : EReal) := by
    intro s
    induction s using Finset.induction_on with
    | empty => simp
    | insert a s ha ih =>
      rw [Finset.sum_insert ha, Finset.sum_insert ha, ← ih]
      exact EReal.right_distrib_of_nonneg_of_ne_top (EReal.coe_nonneg.2 hc) (EReal.coe_ne_top c) _ _
  exact h Finset.univ

/-- A sum of reals, taken among the extended reals. -/
theorem sum_coe {n : Nat} (f : Fin n → ℝ) : ∑ i, (f i : EReal) = ((∑ i, f i : ℝ) : EReal) := by
  have h : ∀ s : Finset (Fin n), ∑ i ∈ s, (f i : EReal) = ((∑ i ∈ s, f i : ℝ) : EReal) := by
    intro s
    induction s using Finset.induction_on with
    | empty => simp
    | insert a s ha ih => rw [Finset.sum_insert ha, Finset.sum_insert ha, ih, EReal.coe_add]
  exact h Finset.univ

/-- One half's weighted sum, moved from its own maximum `a` to another reference point `A`. -/
theorem shift (s : Fin 1024 → ℝ) (v : Fin 1024 → EReal) (a A : ℝ) :
    (∑ n, Ideal.exp ((s n : EReal) - (a : EReal)) * v n) * Ideal.exp ((a : EReal) - (A : EReal))
      = ∑ n, ((Real.exp (s n - A) : ℝ) : EReal) * v n := by
  rw [← EReal.coe_sub, Ideal.exp_coe, sum_mul_real _ _ (Real.exp_pos _).le]
  refine Finset.sum_congr rfl fun n _ => ?_
  rw [← EReal.coe_sub, Ideal.exp_coe, mul_right_comm, ← EReal.coe_mul, ← Real.exp_add]
  congr 3
  ring_nf

/-- One half's sum of weights, moved alike. -/
theorem shift_sum (s : Fin 1024 → ℝ) (a A : ℝ) :
    (∑ n, Ideal.exp ((s n : EReal) - (a : EReal))) * Ideal.exp ((a : EReal) - (A : EReal))
      = ((∑ n, Real.exp (s n - A) : ℝ) : EReal) := by
  have h := shift s (fun _ => 1) a A
  simp only [mul_one] at h
  rw [h, sum_coe]

/-- The blend of the two halves is the softmax-weighted sum of the whole. -/
theorem blend_eq (s : Fin 2048 → ℝ) (v : Fin 2048 → EReal) (s0 s1 : Fin 1024 → EReal) (v0 v1 : Fin 1024 → EReal)
    (h0 : ∀ n : Fin 1024, s0 n = (s ⟨n.val, by omega⟩ : EReal))
    (h1 : ∀ n : Fin 1024, s1 n = (s ⟨1024 + n.val, by omega⟩ : EReal))
    (w0 : ∀ n : Fin 1024, v0 n = v ⟨n.val, by omega⟩)
    (w1 : ∀ n : Fin 1024, v1 n = v ⟨1024 + n.val, by omega⟩) :
    blend (∑ n, Ideal.exp (s0 n - top s0) * v0 n) (∑ n, Ideal.exp (s1 n - top s1) * v1 n) (top s0) (top s1)
        (∑ n, Ideal.exp (s0 n - top s0)) (∑ n, Ideal.exp (s1 n - top s1))
      = ∑ n, v n * Ideal.div (Ideal.exp ((s n : EReal) - top fun n => (s n : EReal)))
          (∑ n, Ideal.exp ((s n : EReal) - top fun n => (s n : EReal))) := by
  obtain rfl : s0 = _ := funext h0
  obtain rfl : s1 = _ := funext h1
  obtain rfl : v0 = _ := funext w0
  obtain rfl : v1 = _ := funext w1
  rw [top_halves (fun n => (s n : EReal))]
  obtain ⟨a, ha⟩ := top_real fun n : Fin 1024 => s ⟨n.val, by omega⟩
  obtain ⟨b, hb⟩ := top_real fun n : Fin 1024 => s ⟨1024 + n.val, by omega⟩
  rw [ha, hb]
  obtain ⟨A, hA⟩ : ∃ A : ℝ, max (a : EReal) (b : EReal) = A := ⟨max a b, (EReal.coe_strictMono.monotone.map_max).symm⟩
  unfold blend
  rw [hA, shift, shift, shift_sum, shift_sum, ← EReal.coe_add]
  have hs : ∀ n, Ideal.exp ((s n : EReal) - (A : EReal)) = ((Real.exp (s n - A) : ℝ) : EReal) := fun n => by
    rw [← EReal.coe_sub, Ideal.exp_coe]
  simp only [hs]
  rw [sum_coe]
  have hL : (∑ n : Fin 1024, Real.exp (s ⟨n.val, by omega⟩ - A)) + ∑ n : Fin 1024, Real.exp (s ⟨1024 + n.val, by omega⟩ - A)
      = ∑ n, Real.exp (s n - A) := by
    apply EReal.coe_injective
    rw [EReal.coe_add, ← sum_coe, ← sum_coe, ← sum_coe]
    exact (sum_halves fun n => ((Real.exp (s n - A) : ℝ) : EReal)).symm
  have hpos : 0 < ∑ n : Fin 2048, Real.exp (s n - A) :=
    Finset.sum_pos (fun n _ => Real.exp_pos _) ⟨0, Finset.mem_univ _⟩
  rw [hL]
  simp only [Ideal.div_coe hpos.ne']
  rw [← sum_halves fun n => ((Real.exp (s n - A) : ℝ) : EReal) * v n, sum_mul_real _ _ (one_div_pos.2 hpos).le]
  refine Finset.sum_congr rfl fun n _ => ?_
  rw [mul_comm _ (v n), mul_assoc]

end Cert.KernelIdeal.Ring

end
-- ==== Proof.Sheet.lean ====
/-
The gathered sheet over the extended reals, at an index: each device's partial output, row maxima and row sums in terms
of the arrays the program was given; and the stored vector, at an index, as the blend of two devices' rows.
-/
module

public import proofs.«01_k».proof.Proof.Blocks
public import proofs.«01_k».proof.Proof.Softmax

@[expose] public section

set_option maxRecDepth 16384

noncomputable section

namespace Cert.KernelIdeal.Ring

open Cert.KernelIdeal Cert.KernelIdeal.Gen
open Idealize.ShloMosaic Idealize.ShloMosaic.TcCoe Idealize.SL.Sem

variable (m : (ℓ : Loc nD τ sig) → Buf (Elt Ideal) ℓ)

/-- Device `c`'s queries. -/
def qArr (c : Dev nD) : FVec Ideal S16x1x16x64 .bf16 := m ((c : Thread nD τ).loc main_arg0)
/-- Device `c`'s keys. -/
def kArr (c : Dev nD) : FVec Ideal S16x1024x16x64 .bf16 := m ((c : Thread nD τ).loc main_arg1)
/-- Device `c`'s values. -/
def vArr (c : Dev nD) : FVec Ideal S16x1024x16x64 .bf16 := m ((c : Thread nD τ).loc main_arg2)

/-- Device `c`'s score of batch `b`, head `h` against its key `n`. -/
def score (c : Dev nD) (b h : Fin 16) (n : Fin 1024) : EReal :=
  (∑ d : Fin 64, (qArr m c (ix4 b 0 h d) : EReal) * kArr m c (ix4 b n h d)) * eighth

theorem pay1_at (x : FVec Ideal S8x64 .f32) (r : Fin 8) (d : Fin 64) : (k0_pay1 x (ix3 0 r d) : EReal) = x (ix2 r d) := by
  pointwise [k0_pay1]
theorem pay2_at (x : FVec Ideal S8x1 .f32) (r : Fin 8) : (k0_pay2 x (ix3 0 0 r) : EReal) = x (ix2 r 0) := by
  pointwise [k0_pay2]
theorem pay3_at (x : FVec Ideal S8x1 .f32) (r : Fin 8) : (k0_pay3 x (ix3 0 0 r) : EReal) = x (ix2 r 0) := by
  pointwise [k0_pay3]

/-- The kernel's score of row `r` of block `t` is the score of its batch and head. -/
theorem row_score (c : Dev nD) (t : Fin 4) (r : Fin 8) (b h : Fin 16) (hb : b.val = 4 * t.val + r.val / 2)
    (hh : h.val = 2 * (c.val % 8) + r.val % 2) (n : Fin 1024) :
    (k0_pay22 (F := Ideal) (qsel c (qS m c (gp t.val t.isLt))) (kS m c (gp t.val t.isLt)) (ix2 r n) : EReal)
      = score m c b h n := by
  rw [pay22_at]
  refine congrArg (· * eighth) (Finset.sum_congr rfl fun d _ => ?_)
  rw [q_at, kS_at]
  exact congrArg₂ (· * ·) (congrArg (qArr m c) (idx4_ext _ _ hb.symm rfl hh.symm rfl))
    (congrArg (kArr m c) (idx4_ext _ _ hb.symm rfl hh.symm rfl))

/-- The kernel's maximum of a row. -/
theorem row_max (c : Dev nD) (t : Fin 4) (r : Fin 8) (b h : Fin 16) (hb : b.val = 4 * t.val + r.val / 2)
    (hh : h.val = 2 * (c.val % 8) + r.val % 2) :
    (mV m c (gp t.val t.isLt) (ix2 r 0) : EReal) = top (score m c b h) := by
  unfold mV
  rw [pay23_at]
  exact congrArg (fun f => Finset.fold max ⊥ f Finset.univ) (funext fun n => row_score m c t r b h hb hh n)

/-- The kernel's sum of weights of a row. -/
theorem row_sum (c : Dev nD) (t : Fin 4) (r : Fin 8) (b h : Fin 16) (hb : b.val = 4 * t.val + r.val / 2)
    (hh : h.val = 2 * (c.val % 8) + r.val % 2) :
    (lV m c (gp t.val t.isLt) (ix2 r 0) : EReal) = ∑ n, Ideal.exp (score m c b h n - top (score m c b h)) := by
  have hm := row_max m c t r b h hb hh
  unfold mV at hm
  unfold lV
  rw [pay25_at, hm]
  exact Finset.sum_congr rfl fun n _ => by rw [row_score m c t r b h hb hh n]

/-- The kernel's weighted sum of the values of a row. -/
theorem row_out (c : Dev nD) (t : Fin 4) (r : Fin 8) (b h : Fin 16) (hb : b.val = 4 * t.val + r.val / 2)
    (hh : h.val = 2 * (c.val % 8) + r.val % 2) (d : Fin 64) :
    (oV m c (gp t.val t.isLt) (ix2 r d) : EReal)
      = ∑ n, Ideal.exp (score m c b h n - top (score m c b h)) * vArr m c (ix4 b n h d) := by
  have hm := row_max m c t r b h hb hh
  unfold mV at hm
  unfold oV
  rw [pay26_at, hm]
  refine Finset.sum_congr rfl fun n _ => ?_
  rw [row_score m c t r b h hb hh n, vS_at]
  exact congrArg (Ideal.exp (score m c b h n - top (score m c b h)) * ·)
    (congrArg (vArr m c) (idx4_ext _ _ hb.symm rfl hh.symm rfl))

/-- The sheet's partial outputs. -/
theorem PB_out (c : Fin 16) (b h : Fin 16) (hc : c.val % 8 = h.val / 2) (d : Fin 64) :
    (PB m (ix3 c (⟨b.val * 2 + h.val % 2, by omega⟩ : Fin 34) d) : EReal)
      = ∑ n, Ideal.exp (score m c b h n - top (score m c b h)) * vArr m c (ix4 b n h d) := by
  unfold PB
  refine (dif_pos (show b.val * 2 + h.val % 2 < 32 by omega)).trans ?_
  refine (pay1_at _ ⟨(b.val * 2 + h.val % 2) % 8, by omega⟩ d).trans ?_
  have ht : (b.val * 2 + h.val % 2) / 8 = b.val / 4 := by omega
  have hg : gp ((b.val * 2 + h.val % 2) / 8) (by omega) = gp (⟨b.val / 4, by omega⟩ : Fin 4).val (⟨b.val / 4, by omega⟩ : Fin 4).isLt :=
    Fin.ext ht
  refine Eq.trans ?_ (row_out m c ⟨b.val / 4, by omega⟩ ⟨(b.val * 2 + h.val % 2) % 8, by omega⟩ b h ?_ ?_ d)
  · exact congrArg (fun g => (oV m c g (ix2 ⟨(b.val * 2 + h.val % 2) % 8, by omega⟩ d) : EReal)) hg
  · show b.val = 4 * (b.val / 4) + (b.val * 2 + h.val % 2) % 8 / 2
    omega
  · show h.val = 2 * (c.val % 8) + (b.val * 2 + h.val % 2) % 8 % 2
    omega

/-- The sheet's row maxima. -/
theorem PB_max (c : Fin 16) (b h : Fin 16) (hc : c.val % 8 = h.val / 2) :
    (PB m (ix3 c (32 : Fin 34) (⟨b.val * 2 + h.val % 2, by omega⟩ : Fin 64)) : EReal) = top (score m c b h) := by
  unfold PB
  refine (dif_neg (show ¬ (32 : Fin 34).val < 32 by decide)).trans ((dif_pos (show b.val * 2 + h.val % 2 < 32 by omega)).trans ?_)
  refine (pay2_at _ ⟨(b.val * 2 + h.val % 2) % 8, by omega⟩).trans ?_
  have ht : (b.val * 2 + h.val % 2) / 8 = b.val / 4 := by omega
  have hg : gp ((b.val * 2 + h.val % 2) / 8) (by omega) = gp (⟨b.val / 4, by omega⟩ : Fin 4).val (⟨b.val / 4, by omega⟩ : Fin 4).isLt :=
    Fin.ext ht
  refine Eq.trans ?_ (row_max m c ⟨b.val / 4, by omega⟩ ⟨(b.val * 2 + h.val % 2) % 8, by omega⟩ b h ?_ ?_)
  · exact congrArg (fun g => (mV m c g (ix2 ⟨(b.val * 2 + h.val % 2) % 8, by omega⟩ 0) : EReal)) hg
  · show b.val = 4 * (b.val / 4) + (b.val * 2 + h.val % 2) % 8 / 2
    omega
  · show h.val = 2 * (c.val % 8) + (b.val * 2 + h.val % 2) % 8 % 2
    omega

/-- The sheet's row sums. -/
theorem PB_sum (c : Fin 16) (b h : Fin 16) (hc : c.val % 8 = h.val / 2) :
    (PB m (ix3 c (32 : Fin 34) (⟨32 + (b.val * 2 + h.val % 2), by omega⟩ : Fin 64)) : EReal)
      = ∑ n, Ideal.exp (score m c b h n - top (score m c b h)) := by
  unfold PB
  refine (dif_neg (show ¬ (32 : Fin 34).val < 32 by decide)).trans
    ((dif_neg (show ¬ 32 + (b.val * 2 + h.val % 2) < 32 by omega)).trans ?_)
  have hr : (⟨(32 + (b.val * 2 + h.val % 2)) % 8, by omega⟩ : Fin 8) = ⟨(b.val * 2 + h.val % 2) % 8, by omega⟩ :=
    Fin.ext (by show (32 + (b.val * 2 + h.val % 2)) % 8 = (b.val * 2 + h.val % 2) % 8; omega)
  refine (pay3_at _ ⟨(32 + (b.val * 2 + h.val % 2)) % 8, by omega⟩).trans ?_
  rw [hr]
  have ht : (32 + (b.val * 2 + h.val % 2) - 32) / 8 = b.val / 4 := by omega
  have hg : gp ((32 + (b.val * 2 + h.val % 2) - 32) / 8) (by omega) = gp (⟨b.val / 4, by omega⟩ : Fin 4).val (⟨b.val / 4, by omega⟩ : Fin 4).isLt :=
    Fin.ext ht
  refine Eq.trans ?_ (row_sum m c ⟨b.val / 4, by omega⟩ ⟨(b.val * 2 + h.val % 2) % 8, by omega⟩ b h ?_ ?_)
  · exact congrArg (fun g => (lV m c g (ix2 ⟨(b.val * 2 + h.val % 2) % 8, by omega⟩ 0) : EReal)) hg
  · show b.val = 4 * (b.val / 4) + (b.val * 2 + h.val % 2) % 8 / 2
    omega
  · show h.val = 2 * (c.val % 8) + (b.val * 2 + h.val % 2) % 8 % 2
    omega

/-- The device of the first half that holds head `h`. -/
def lower (h : Fin 16) : Fin 16 := ⟨h.val / 2, by omega⟩
/-- The device of the second half that holds head `h`. -/
def upper (h : Fin 16) : Fin 16 := ⟨8 + h.val / 2, by omega⟩

/-- The stored vector at an index: the softmax-weighted sum over all keys, once the scores are real and the two devices'
    arrays are the halves of the whole. -/
theorem stored_at (b h : Fin 16) (d : Fin 64) (s : Fin 2048 → ℝ) (v : Fin 2048 → EReal)
    (h0 : ∀ n : Fin 1024, score m (lower h) b h n = (s ⟨n.val, by omega⟩ : EReal))
    (h1 : ∀ n : Fin 1024, score m (upper h) b h n = (s ⟨1024 + n.val, by omega⟩ : EReal))
    (w0 : ∀ n : Fin 1024, (vArr m (lower h) (ix4 b n h d) : EReal) = v ⟨n.val, by omega⟩)
    (w1 : ∀ n : Fin 1024, (vArr m (upper h) (ix4 b n h d) : EReal) = v ⟨1024 + n.val, by omega⟩) :
    (combine (PB m) (ix4 b 0 h d) : EReal)
      = ∑ n, v n * Ideal.div (Ideal.exp ((s n : EReal) - top fun n => (s n : EReal)))
          (∑ n, Ideal.exp ((s n : EReal) - top fun n => (s n : EReal))) := by
  have hl : (lower h).val % 8 = h.val / 2 := by
    show h.val / 2 % 8 = h.val / 2
    omega
  have hu : (upper h).val % 8 = h.val / 2 := by
    show (8 + h.val / 2) % 8 = h.val / 2
    omega
  rw [combine_at]
  refine Eq.trans ?_ (blend_eq s v _ _ _ _ h0 h1 w0 w1)
  have e0 := PB_out m (lower h) b h hl d
  have e1 := PB_out m (upper h) b h hu d
  have e2 := PB_max m (lower h) b h hl
  have e3 := PB_max m (upper h) b h hu
  have e4 := PB_sum m (lower h) b h hl
  have e5 := PB_sum m (upper h) b h hu
  rw [← e4, ← e5, ← e0, ← e1, ← e2, ← e3]
  rfl

end Cert.KernelIdeal.Ring

end
-- ==== Proof.Ref.lean ====
/-
The reference's result over the extended reals, read at an index.
-/
module

public import proofs.«01_k».proof.ReferenceIdeal
public import proofs.«01_k».proof.Proof.Gen.ReferenceIdeal
public import Idealize.ShloMosaic.Lib.Pointwise
public import Idealize.ShloMosaic.Lib.IdealHost

@[expose] public section

set_option maxRecDepth 16384

noncomputable section

namespace Cert.ReferenceIdeal.Math

open Cert.ReferenceIdeal Cert.ReferenceIdeal.Gen
open Idealize.ShloMosaic Idealize.ShloMosaic.TcCoe Idealize.SL.Sem

/-- The scores: queries against keys, scaled. -/
def scores (Q : FVec Ideal S16x1x16x64 .bf16) (K : FVec Ideal S16x2048x16x64 .bf16) : FVec Ideal S16x16x1x2048 .f32 :=
  mulf (Host.dotGeneral dot_S16x1x16x64_S16x2048x16x64_S16x16x1x2048_3_3_1_1_02_02 none (extf .f32 Q bitsLt_bf16_f32) (extf .f32 K bitsLt_bf16_f32)) (broadcastInDim S16x16x1x2048 ![] bcast_S_S16x16x1x2048 (constant S_ .f32 0x3E000000#32))

/-- The maximum of every row of scores. -/
def tops (s : FVec Ideal S16x16x1x2048 .f32) : FVec Ideal S16x16x1 .f32 :=
  Host.reduce FloatOps.maximumf s (constant S_ .f32 0xFF800000#32) reducesTo_S16x16x1x2048_S16x16x1_d3 h_S_

/-- The exponentials of the scores, each less its row's maximum. -/
def weights (s : FVec Ideal S16x16x1x2048 .f32) : FVec Ideal S16x16x1x2048 .f32 :=
  Host.exp (subf s (broadcastInDim S16x16x1x2048 ![0, 1, 2, 3] bcast_S16x16x1x1_S16x16x1x2048_0_1_2_3 (broadcastInDim S16x16x1x1 ![0, 1, 2] bcast_S16x16x1_S16x16x1x1_0_1_2 (tops s))))

/-- The sum of every row of weights. -/
def sums (p : FVec Ideal S16x16x1x2048 .f32) : FVec Ideal S16x16x1 .f32 :=
  Host.reduceAdd p (constant S_ .f32 0x00000000#32) reducesTo_S16x16x1x2048_S16x16x1_d3 h_S_

/-- The whole result: the values weighted by the weights over their sums. -/
def out (Q : FVec Ideal S16x1x16x64 .bf16) (K V : FVec Ideal S16x2048x16x64 .bf16) : FVec Ideal S16x1x16x64 .f32 :=
  transpose S16x1x16x64 [0, 3, 1, 2] (Host.dotGeneral dot_S16x2048x16x64_S16x16x1x2048_S16x16x64x1_1_3_3_2_02_01 none (extf .f32 V bitsLt_bf16_f32) (Host.divf (weights (scores Q K)) (broadcastInDim S16x16x1x2048 ![0, 1, 2, 3] bcast_S16x16x1x1_S16x16x1x2048_0_1_2_3 (broadcastInDim S16x16x1x1 ![0, 1, 2] bcast_S16x16x1_S16x16x1x1_0_1_2 (sums (weights (scores Q K))))))) transposes_S16x16x64x1_S16x1x16x64_0_3_1_2

theorem scores_at (Q : FVec Ideal S16x1x16x64 .bf16) (K : FVec Ideal S16x2048x16x64 .bf16) (b h : Fin 16) (n : Fin 2048) :
    (scores Q K (ix4 b h 0 n) : EReal)
      = (∑ x : Fin 64, (Q (ix4 b 0 h x) : EReal) * K (ix4 b n h x)) * Ideal.ofBits FTy.f32 0x3E000000#32 := by
  pointwise [scores]

theorem tops_at (s : FVec Ideal S16x16x1x2048 .f32) (b h : Fin 16) :
    (tops s (ix3 b h 0) : EReal) = Finset.fold max (⊥ : EReal) (fun n => (s (ix4 b h 0 n) : EReal)) Finset.univ := by
  pointwise [tops]
  have e : Ideal.ofBits FTy.f32 0xFF800000#32 = (⊥ : EReal) := by simp [Ideal.ofBits, Ideal.ieee]
  show Finset.fold max (Ideal.ofBits FTy.f32 0xFF800000#32) _ _ = _
  rw [e]

theorem weights_at (s : FVec Ideal S16x16x1x2048 .f32) (b h : Fin 16) (n : Fin 2048) :
    (weights s (ix4 b h 0 n) : EReal) = Ideal.exp ((s (ix4 b h 0 n) : EReal) - tops s (ix3 b h 0)) := by
  pointwise [weights]

theorem sums_at (s : FVec Ideal S16x16x1x2048 .f32) (b h : Fin 16) :
    (sums s (ix3 b h 0) : EReal) = ∑ n : Fin 2048, (s (ix4 b h 0 n) : EReal) := by
  pointwise [sums]

theorem out_at (Q : FVec Ideal S16x1x16x64 .bf16) (K V : FVec Ideal S16x2048x16x64 .bf16) (b h : Fin 16) (d : Fin 64) :
    (out Q K V (ix4 b 0 h d) : EReal)
      = ∑ n : Fin 2048, (V (ix4 b n h d) : EReal)
          * Ideal.div (weights (scores Q K) (ix4 b h 0 n)) (sums (weights (scores Q K)) (ix3 b h 0)) := by
  pointwise [out]

/-- The result with its scores named: each value times its weight over the sum of the weights. -/
theorem out_scores (Q : FVec Ideal S16x1x16x64 .bf16) (K V : FVec Ideal S16x2048x16x64 .bf16) (b h : Fin 16) (d : Fin 64)
    (s : Fin 2048 → EReal) (hs : ∀ n, (scores Q K (ix4 b h 0 n) : EReal) = s n) :
    (out Q K V (ix4 b 0 h d) : EReal)
      = ∑ n : Fin 2048, (V (ix4 b n h d) : EReal)
          * Ideal.div (Ideal.exp (s n - Finset.fold max (⊥ : EReal) s Finset.univ))
              (∑ n : Fin 2048, Ideal.exp (s n - Finset.fold max (⊥ : EReal) s Finset.univ)) := by
  rw [out_at, sums_at]
  simp only [weights_at, tops_at, hs]

end Cert.ReferenceIdeal.Math

end
-- ==== Proof.Equal.lean ====
/-
The value claim: whatever the arguments, the queries and keys finite, every device of the kernel ends with the reference's
result.
-/
module

public import proofs.«01_k».proof.Defs
public import proofs.«01_k».proof.Proof.Run
public import proofs.«01_k».proof.Proof.Sheet
public import proofs.«01_k».proof.Proof.Ref
public import proofs.«01_k».proof.Proof.Gen.ReferenceIdeal.Run
public import proofs.«01_k».proof.Proof.Gen.Pre_scores_finite_KernelIdeal

@[expose] public section

set_option maxRecDepth 16384
set_option backward.proofsInPublic true

noncomputable section

namespace Cert.Proof

open Idealize.ShloMosaic Idealize.ShloMosaic.TcCoe Idealize.SL.Sem
open Cert.KernelIdeal.Ring (qArr kArr vArr score top lower upper eighth idx4_ext sum_coe)

variable (m : (ℓ : Loc Cert.KernelIdeal.nD Cert.KernelIdeal.τ Cert.KernelIdeal.sig) → Buf (Elt Ideal) ℓ)

/-- The reference's arrays, by their shapes. -/
abbrev SQ : Shape := ⟨4, ![16, 1, 16, 64]⟩
abbrev SK : Shape := ⟨4, ![16, 1024, 16, 64]⟩
abbrev SW : Shape := ⟨4, ![16, 2048, 16, 64]⟩

/-- A value whose magnitude compares below plus infinity is a real number. -/
theorem real_of_bit (x : EReal)
    (e : BitVec.ofBool (decide ((FloatOps.absf (F := Ideal) (φ := .f32) x : EReal) < Ideal.ofBits FTy.f32 0x7F800000#32)) = 1#1) :
    ∃ r : ℝ, x = r := by
  have ht : Ideal.ofBits FTy.f32 0x7F800000#32 = (⊤ : EReal) := by simp [Ideal.ofBits, Ideal.ieee]
  have h : (FloatOps.absf (F := Ideal) (φ := .f32) x : EReal) < ⊤ := by
    by_contra hn
    rw [ht, decide_eq_false hn] at e
    exact absurd e (by decide)
  change max x (-x) < ⊤ at h
  induction x with
  | bot => simp at h
  | top => simp at h
  | coe r => exact ⟨r, rfl⟩

/-- Under the precondition every query is a real number. -/
theorem q_real (hp : Cert.Pre_KernelIdeal_scores_finite_KernelIdeal m) (c : Dev Cert.KernelIdeal.nD) (b h : Fin 16) (d : Fin 64) :
    ∃ r : ℝ, (qArr m c (ix4 b 0 h d) : EReal) = r := by
  have e := congrFun (hp c).1 (ix4 b 0 h d)
  pointwise [Cert.Pre_scores_finite_KernelIdeal.fn] at e
  exact real_of_bit _ e

/-- Under the precondition every key is a real number. -/
theorem k_real (hp : Cert.Pre_KernelIdeal_scores_finite_KernelIdeal m) (c : Dev Cert.KernelIdeal.nD) (b h : Fin 16)
    (n : Fin 1024) (d : Fin 64) : ∃ r : ℝ, (kArr m c (ix4 b n h d) : EReal) = r := by
  have e := congrFun (hp c).2 (ix4 b n h d)
  pointwise [Cert.Pre_scores_finite_KernelIdeal.fn] at e
  exact real_of_bit _ e

/-- Under the precondition every score is a real number. -/
theorem score_real (hp : Cert.Pre_KernelIdeal_scores_finite_KernelIdeal m) (c : Dev Cert.KernelIdeal.nD) (b h : Fin 16)
    (n : Fin 1024) : ∃ r : ℝ, score m c b h n = r := by
  choose q hq using fun d => q_real m hp c b h d
  choose k hk using fun d => k_real m hp c b h n d
  have he : eighth = ((1 / 8 : ℝ) : EReal) := by
    simp [eighth, Ideal.ofBits, Ideal.ieee]
    rw [← EReal.coe_mul]
    norm_num
  refine ⟨(∑ d, q d * k d) * (1 / 8), ?_⟩
  unfold score
  rw [he, EReal.coe_mul, ← sum_coe]
  refine congrArg (· * ((1 / 8 : ℝ) : EReal)) (Finset.sum_congr rfl fun d _ => ?_)
  rw [hq, hk, EReal.coe_mul]

/-- Device `c`'s keys and values begin at this key of the whole. -/
theorem block_start (c : Dev Cert.KernelIdeal.nD) (a : Fin 4) :
    ((Layout.meshBlock [2, 2, 4] (![[], [0], [], []] : Fin 4 → List Nat) c) a).val = if a = 1 then c.val / 8 else 0 := by
  revert c a
  decide

/-- A device's part of a whole array, at an index. -/
theorem part_at (W : SW.Idx → EReal) (c : Dev Cert.KernelIdeal.nD) (b h : Fin 16) (n : Fin 1024) (d : Fin 64) (n' : Fin 2048)
    (hn : n'.val = c.val / 8 * 1024 + n.val) :
    (Layout.blockN SK SW (Layout.meshBlock [2, 2, 4] ![[], [0], [], []] c) W) (ix4 b n h d) = W (ix4 b n' h d) := by
  rw [Layout.blockN_apply]
  refine congrArg W (idx4_ext _ _ ?_ ?_ ?_ ?_)
  · have e := block_start c 0
    show ((Layout.meshBlock [2, 2, 4] (![[], [0], [], []] : Fin 4 → List Nat) c) 0).val * 16 + b.val = b.val
    rw [e]
    simp
  · have e := block_start c 1
    show ((Layout.meshBlock [2, 2, 4] (![[], [0], [], []] : Fin 4 → List Nat) c) 1).val * 1024 + n.val = n'.val
    rw [e, hn]
    simp
  · have e := block_start c 2
    show ((Layout.meshBlock [2, 2, 4] (![[], [0], [], []] : Fin 4 → List Nat) c) 2).val * 16 + h.val = h.val
    rw [e]
    simp
  · have e := block_start c 3
    show ((Layout.meshBlock [2, 2, 4] (![[], [0], [], []] : Fin 4 → List Nat) c) 3).val * 64 + d.val = d.val
    rw [e]
    simp

variable (m' : (ℓ : Loc Cert.ReferenceIdeal.nD Cert.ReferenceIdeal.τ Cert.ReferenceIdeal.sig) → Buf (Elt Ideal) ℓ)

/-- The reference's queries. -/
abbrev wq : FVec Ideal Cert.ReferenceIdeal.S16x1x16x64 .bf16 :=
  m' ((0 : Dev Cert.ReferenceIdeal.nD).tc.loc Cert.ReferenceIdeal.main_arg0)
/-- The reference's keys. -/
abbrev wk : FVec Ideal Cert.ReferenceIdeal.S16x2048x16x64 .bf16 :=
  m' ((0 : Dev Cert.ReferenceIdeal.nD).tc.loc Cert.ReferenceIdeal.main_arg1)
/-- The reference's values. -/
abbrev wv : FVec Ideal Cert.ReferenceIdeal.S16x2048x16x64 .bf16 :=
  m' ((0 : Dev Cert.ReferenceIdeal.nD).tc.loc Cert.ReferenceIdeal.main_arg2)

/-- Every device's arrays are its parts of the whole ones. -/
def Parts : Prop := ∀ c : Dev Cert.KernelIdeal.nD,
  m ((c.tc : Thread Cert.KernelIdeal.nD Cert.KernelIdeal.τ).loc Cert.KernelIdeal.main_arg0) = wq m'
  ∧ m ((c.tc : Thread Cert.KernelIdeal.nD Cert.KernelIdeal.τ).loc Cert.KernelIdeal.main_arg1)
    = Layout.blockN SK SW (Layout.meshBlock [2, 2, 4] ![[], [0], [], []] c) (wk m')
  ∧ m ((c.tc : Thread Cert.KernelIdeal.nD Cert.KernelIdeal.τ).loc Cert.KernelIdeal.main_arg2)
    = Layout.blockN SK SW (Layout.meshBlock [2, 2, 4] ![[], [0], [], []] c) (wv m')

variable {m m'}

/-- A device's score is the reference's score against the key it stands for. -/
theorem score_eq (hm : Parts m m') (c : Dev Cert.KernelIdeal.nD) (b h : Fin 16) (n : Fin 1024) (n' : Fin 2048)
    (hn : n'.val = c.val / 8 * 1024 + n.val) :
    score m c b h n = (Cert.ReferenceIdeal.Math.scores (wq m') (wk m') (ix4 b h 0 n') : EReal) := by
  rw [Cert.ReferenceIdeal.Math.scores_at]
  refine congrArg (· * eighth) (Finset.sum_congr rfl fun d _ => ?_)
  refine congrArg₂ (· * ·) (congrFun (hm c).1 _) ((congrFun (hm c).2.1 _).trans (part_at _ c b h n d n' hn))

/-- A device's value is the reference's at the key it stands for. -/
theorem value_eq (hm : Parts m m') (c : Dev Cert.KernelIdeal.nD) (b h : Fin 16) (n : Fin 1024) (d : Fin 64) (n' : Fin 2048)
    (hn : n'.val = c.val / 8 * 1024 + n.val) : (vArr m c (ix4 b n h d) : EReal) = wv m' (ix4 b n' h d) :=
  (congrFun (hm c).2.2 _).trans (part_at _ c b h n d n' hn)

theorem lower_half (h : Fin 16) : (lower h).val / 8 = 0 := by
  show h.val / 2 / 8 = 0
  omega

theorem upper_half (h : Fin 16) : (upper h).val / 8 = 1 := by
  show (8 + h.val / 2) / 8 = 1
  omega

/-- Every score of the reference is a real number. -/
theorem whole_real (hp : Cert.Pre_KernelIdeal_scores_finite_KernelIdeal m) (hm : Parts m m') (b h : Fin 16) (n : Fin 2048) :
    ∃ r : ℝ, (Cert.ReferenceIdeal.Math.scores (wq m') (wk m') (ix4 b h 0 n) : EReal) = r := by
  by_cases hn : n.val < 1024
  · obtain ⟨r, hr⟩ := score_real m hp (lower h) b h ⟨n.val, hn⟩
    refine ⟨r, (score_eq hm (lower h) b h ⟨n.val, hn⟩ n ?_).symm.trans hr⟩
    rw [lower_half]
    show n.val = 0 * 1024 + n.val
    omega
  · obtain ⟨r, hr⟩ := score_real m hp (upper h) b h ⟨n.val - 1024, by omega⟩
    refine ⟨r, (score_eq hm (upper h) b h ⟨n.val - 1024, by omega⟩ n ?_).symm.trans hr⟩
    rw [upper_half]
    show n.val = 1 * 1024 + (n.val - 1024)
    omega

/-- What every device of the kernel stores, at an index, is the reference's result there. -/
theorem stored_eq_at (hp : Cert.Pre_KernelIdeal_scores_finite_KernelIdeal m) (hm : Parts m m') (b h : Fin 16) (d : Fin 64) :
    (Cert.KernelIdeal.Ring.combine (Cert.KernelIdeal.Ring.PB m) (ix4 b 0 h d) : EReal)
      = Cert.ReferenceIdeal.Math.out (wq m') (wk m') (wv m') (ix4 b 0 h d) := by
  choose s hs using fun n => whole_real hp hm b h n
  rw [Cert.ReferenceIdeal.Math.out_scores _ _ _ b h d (fun n => (s n : EReal)) hs]
  refine Cert.KernelIdeal.Ring.stored_at m b h d s (fun n => wv m' (ix4 b n h d)) ?_ ?_ ?_ ?_
  · exact fun n => (score_eq hm (lower h) b h n ⟨n.val, by omega⟩ (by rw [lower_half]; show n.val = 0 * 1024 + n.val; omega)).trans (hs _)
  · exact fun n => (score_eq hm (upper h) b h n ⟨1024 + n.val, by omega⟩ (by rw [upper_half])).trans (hs _)
  · exact fun n => value_eq hm (lower h) b h n d ⟨n.val, by omega⟩ (by rw [lower_half]; show n.val = 0 * 1024 + n.val; omega)
  · exact fun n => value_eq hm (upper h) b h n d ⟨1024 + n.val, by omega⟩ (by rw [upper_half])

/-- What every device of the kernel stores is the reference's result. -/
theorem stored_eq (hp : Cert.Pre_KernelIdeal_scores_finite_KernelIdeal m) (hm : Parts m m') :
    Cert.KernelIdeal.Ring.combine (Cert.KernelIdeal.Ring.PB m)
      = Cert.ReferenceIdeal.Math.out (wq m') (wk m') (wv m') := by
  funext j
  idx_vars j
  obtain rfl : j1 = 0 := Subsingleton.elim _ _
  exact stored_eq_at hp hm j0 j2 j3

/-- The kernel and the reference, from the same arguments, queries and keys finite, end with the same result. -/
theorem equal : Cert.algebraic_KernelIdeal_ReferenceIdeal_pre_scores_finite_KernelIdeal := fun m g m' g' hp hm =>
  ⟨Cert.ReferenceIdeal.Math.out (wq m') (wk m') (wv m'),
    (θ_run Cert.KernelIdeal.defs _ _).mono (fun _ h c => ⟨(h.1 c).2.trans (stored_eq hp hm), (h.1 c).1⟩)
      (Cert.KernelIdeal.Ring.run_main (F := Ideal) m g),
    (θ_run Cert.ReferenceIdeal.defs _ _).mono (fun _ h => h 0) (Cert.ReferenceIdeal.Value.run (F := Ideal) m' g')⟩

end Cert.Proof

end
-- ==== Proof.lean ====
/-
The claims of the certificate, assembled: the frames of the kernel as printed, of the kernel at extended reals and of the
reference, that the idealization rewrites nothing, and that the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_scores_finite_KernelIdeal
public import proofs.«01_k».proof.Proof.Gen.Pre_scores_finite_ReferenceIdeal
public import proofs.«01_k».proof.Proof.Frames
public import proofs.«01_k».proof.Proof.Equal

@[expose] public section

noncomputable section

namespace Cert.Proof

/-- Everything claimed. -/
theorem claim : Cert.Claim := ⟨Cert.Kernel.Gen.facts, Cert.KernelIdeal.Gen.facts, Cert.ReferenceIdeal.Gen.facts,
  Cert.Pre_scores_finite_KernelIdeal.Gen.facts, Cert.Pre_scores_finite_ReferenceIdeal.Gen.facts,
  frame_kernel, frame_ideal, fun m g _ => frame_ideal m g trivial, frame_reference,
  fun m g _ => frame_reference m g trivial, trivial, equal⟩

end Cert.Proof

end
